-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "s" .bf16 0x3DB5#16 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .bf16) (main_arg1 : FVec F S1024x4096 .bf16) (main_arg2 : FVec F S1x2048x8x128 .bf16) (main_arg3 : FVec F S1x2048x8x128 .bf16) (main_arg4 : FVec F S4096x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x8x128 .bf16 := Host.absf main_arg2
  let main_cst_2 : FVec F S_ .bf16 := constant S_ .bf16 0x7F80#16
  let main_v10 : FVec F S1x2048x8x128 .bf16 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .bf16) (main_arg1 : FVec F S1024x4096 .bf16) (main_arg2 : FVec F S1x2048x32x128 .bf16) (main_arg3 : FVec F S1x2048x32x128 .bf16) (main_arg4 : FVec F S4096x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x32x128 .bf16 := Host.absf main_arg2
  let main_cst_2 : FVec F S_ .bf16 := constant S_ .bf16 0x7F80#16
  let main_v10 : FVec F S1x2048x32x128 .bf16 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S32 : Shape := ⟨1, ![32]⟩
abbrev S_ : Shape := ⟨0, ![]⟩
abbrev S1024x1024 : Shape := ⟨2, ![1024, 1024]⟩
abbrev S2048x1024 : Shape := ⟨2, ![2048, 1024]⟩
abbrev S32x64x1024 : Shape := ⟨3, ![32, 64, 1024]⟩
abbrev S32x1 : Shape := ⟨2, ![32, 1]⟩
abbrev S1 : Shape := ⟨1, ![1]⟩
abbrev S1x1 : Shape := ⟨2, ![1, 1]⟩
abbrev S2048x8x128 : Shape := ⟨3, ![2048, 8, 128]⟩
abbrev S512x1024 : Shape := ⟨2, ![512, 1024]⟩
abbrev S704x1024 : Shape := ⟨2, ![704, 1024]⟩
abbrev S768x1024 : Shape := ⟨2, ![768, 1024]⟩
abbrev S640x1024 : Shape := ⟨2, ![640, 1024]⟩
abbrev S512x512 : Shape := ⟨2, ![512, 512]⟩
abbrev S4x512x1024 : Shape := ⟨3, ![4, 512, 1024]⟩
abbrev S3x512x1024 : Shape := ⟨3, ![3, 512, 1024]⟩
abbrev S4 : Shape := ⟨1, ![4]⟩
abbrev S3 : Shape := ⟨1, ![3]⟩
abbrev S64x1024 : Shape := ⟨2, ![64, 1024]⟩
abbrev S512x128 : Shape := ⟨2, ![512, 128]⟩
abbrev S704x128 : Shape := ⟨2, ![704, 128]⟩
abbrev S512x704 : Shape := ⟨2, ![512, 704]⟩
abbrev S512 : Shape := ⟨1, ![512]⟩
abbrev S512x1 : Shape := ⟨2, ![512, 1]⟩
abbrev S1x512x1024 : Shape := ⟨3, ![1, 512, 1024]⟩
abbrev S192x1024 : Shape := ⟨2, ![192, 1024]⟩
abbrev S192x128 : Shape := ⟨2, ![192, 128]⟩
abbrev S192x704 : Shape := ⟨2, ![192, 704]⟩
abbrev S192 : Shape := ⟨1, ![192]⟩
abbrev S192x1 : Shape := ⟨2, ![192, 1]⟩
abbrev S320x1024 : Shape := ⟨2, ![320, 1024]⟩
abbrev S320x128 : Shape := ⟨2, ![320, 128]⟩
abbrev S320x704 : Shape := ⟨2, ![320, 704]⟩
abbrev S320 : Shape := ⟨1, ![320]⟩
abbrev S320x1 : Shape := ⟨2, ![320, 1]⟩
abbrev S320x320 : Shape := ⟨2, ![320, 320]⟩
abbrev S384x1024 : Shape := ⟨2, ![384, 1024]⟩
abbrev S384x128 : Shape := ⟨2, ![384, 128]⟩
abbrev S384x704 : Shape := ⟨2, ![384, 704]⟩
abbrev S384 : Shape := ⟨1, ![384]⟩
abbrev S384x1 : Shape := ⟨2, ![384, 1]⟩
abbrev S384x384 : Shape := ⟨2, ![384, 384]⟩
abbrev S128x1024 : Shape := ⟨2, ![128, 1024]⟩
abbrev S128x128 : Shape := ⟨2, ![128, 128]⟩
abbrev S768x128 : Shape := ⟨2, ![768, 128]⟩
abbrev S128x768 : Shape := ⟨2, ![128, 768]⟩
abbrev S128 : Shape := ⟨1, ![128]⟩
abbrev S128x1 : Shape := ⟨2, ![128, 1]⟩
abbrev S512x768 : Shape := ⟨2, ![512, 768]⟩

abbrev nBuf : Space → Nat
  | .hbm => 87
  | .vmem => 23
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S1x2048x8x128, .bf16⟩
  | .hbm, ⟨3, _⟩ => ⟨S1x2048x8x128, .bf16⟩
  | .hbm, ⟨4, _⟩ => ⟨S4096x1024, .bf16⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x1024, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1024x1024, .bf16⟩
  | .hbm, ⟨31, _⟩ => ⟨S2048x1024, .bf16⟩
  | .hbm, ⟨32, _⟩ => ⟨S32x64x1024, .bf16⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S1, .i32⟩
  | .hbm, ⟨42, _⟩ => ⟨S_, .i32⟩
  | .hbm, ⟨43, _⟩ => ⟨S32x1, .i32⟩
  | .hbm, ⟨44, _⟩ => ⟨S32x1, .i1⟩
  | .hbm, ⟨45, _⟩ => ⟨S1x1, .i32⟩
  | .hbm, ⟨46, _⟩ => ⟨S32x1, .i32⟩
  | .hbm, ⟨47, _⟩ => ⟨S32x1, .i1⟩
  | .hbm, ⟨48, _⟩ => ⟨S32x1, .i1⟩
  | .hbm, ⟨49, _⟩ => ⟨S_, .i1⟩
  | .hbm, ⟨50, _⟩ => ⟨S32, .i1⟩
  | .hbm, ⟨51, _⟩ => ⟨S32x64x1024, .bf16⟩
  | .hbm, ⟨52, _⟩ => ⟨S32x64x1024, .i1⟩
  | .hbm, ⟨53, _⟩ => ⟨S_, .bf16⟩
  | .hbm, ⟨54, _⟩ => ⟨S32x64x1024, .bf16⟩
  | .hbm, ⟨55, _⟩ => ⟨S32x64x1024, .bf16⟩
  | .hbm, ⟨56, _⟩ => ⟨S2048x1024, .bf16⟩
  | .hbm, ⟨57, _⟩ => ⟨S2048x8x128, .bf16⟩
  | .hbm, ⟨58, _⟩ => ⟨S2048x1024, .bf16⟩
  | .hbm, ⟨59, _⟩ => ⟨S2048x8x128, .bf16⟩
  | .hbm, ⟨60, _⟩ => ⟨S2048x1024, .bf16⟩
  | .hbm, ⟨61, _⟩ => ⟨S2048x1024, .bf16⟩
  | .hbm, ⟨62, _⟩ => ⟨S32x64x1024, .bf16⟩
  | .hbm, ⟨63, _⟩ => ⟨S_, .i32⟩
  | .hbm, ⟨64, _⟩ => ⟨S32, .i32⟩
  | .hbm, ⟨65, _⟩ => ⟨S32, .i1⟩
  | .hbm, ⟨66, _⟩ => ⟨S_, .i32⟩
  | .hbm, ⟨67, _⟩ => ⟨S32, .i32⟩
  | .hbm, ⟨68, _⟩ => ⟨S32, .i32⟩
  | .hbm, ⟨69, _⟩ => ⟨S32, .i32⟩
  | .hbm, ⟨70, _⟩ => ⟨S32x1, .i32⟩
  | .hbm, ⟨71, _⟩ => ⟨S1, .i32⟩
  | .hbm, ⟨72, _⟩ => ⟨S_, .i32⟩
  | .hbm, ⟨73, _⟩ => ⟨S32x1, .i32⟩
  | .hbm, ⟨74, _⟩ => ⟨S32x1, .i1⟩
  | .hbm, ⟨75, _⟩ => ⟨S1x1, .i32⟩
  | .hbm, ⟨76, _⟩ => ⟨S32x1, .i32⟩
  | .hbm, ⟨77, _⟩ => ⟨S32x1, .i1⟩
  | .hbm, ⟨78, _⟩ => ⟨S32x1, .i1⟩
  | .hbm, ⟨79, _⟩ => ⟨S_, .i1⟩
  | .hbm, ⟨80, _⟩ => ⟨S32, .i1⟩
  | .hbm, ⟨81, _⟩ => ⟨S32x64x1024, .bf16⟩
  | .hbm, ⟨82, _⟩ => ⟨S32x64x1024, .i1⟩
  | .hbm, ⟨83, _⟩ => ⟨S_, .bf16⟩
  | .hbm, ⟨84, _⟩ => ⟨S32x64x1024, .bf16⟩
  | .hbm, ⟨85, _⟩ => ⟨S32x64x1024, .bf16⟩
  | .hbm, ⟨86, _⟩ => ⟨S1x2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S704x1024, .bf16⟩
  | .local _ .vmem, ⟨9, _⟩ => ⟨S704x1024, .bf16⟩
  | .local _ .vmem, ⟨10, _⟩ => ⟨S768x1024, .bf16⟩
  | .local _ .vmem, ⟨11, _⟩ => ⟨S704x1024, .bf16⟩
  | .local _ .vmem, ⟨12, _⟩ => ⟨S704x1024, .bf16⟩
  | .local _ .vmem, ⟨13, _⟩ => ⟨S768x1024, .bf16⟩
  | .local _ .vmem, ⟨14, _⟩ => ⟨S704x1024, .bf16⟩
  | .local _ .vmem, ⟨15, _⟩ => ⟨S640x1024, .bf16⟩
  | .local _ .vmem, ⟨16, _⟩ => ⟨S704x1024, .bf16⟩
  | .local _ .vmem, ⟨17, _⟩ => ⟨S640x1024, .bf16⟩
  | .local _ .vmem, ⟨18, _⟩ => ⟨S512x512, .bf16⟩
  | .local _ .vmem, ⟨19, _⟩ => ⟨S4x512x1024, .bf16⟩
  | .local _ .vmem, ⟨20, _⟩ => ⟨S3x512x1024, .bf16⟩
  | .local _ .vmem, ⟨21, _⟩ => ⟨S512x1024, .bf16⟩
  | .local _ .vmem, ⟨22, _⟩ => ⟨S3x512x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_3 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v25 : Ref sig .tc := ⟨.hbm, 85, rfl⟩
abbrev main_v26 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_561 : BitVec 32 := 3#32
  let v802 : BitVec 32 := Scalar.subi v2 c3_i32_561
  let c4_i32_562 : BitVec 32 := 4#32
  let c0_i32_563 : BitVec 32 := 0#32
  let v803 : BitVec 1 := Scalar.cmpi .eq c4_i32_562 c0_i32_563
  let c1_i32_564 : BitVec 32 := 1#32
  let v804 : BitVec 32 := Scalar.select v803 c1_i32_564 c4_i32_562
  let v805 : BitVec 32 := Scalar.remsi v802 v804
  let c0_i32_566 : BitVec 32 := 0#32
  let v807 : BitVec 1 := Scalar.cmpi .slt v805 c0_i32_566
  let c0_i32_567 : BitVec 32 := 0#32
  let v808 : BitVec 1 := Scalar.cmpi .slt v804 c0_i32_567
  let v809 : BitVec 1 := Scalar.xori v807 v808
  let c0_i32_565 : BitVec 32 := 0#32
  let v806 : BitVec 1 := Scalar.cmpi .ne v805 c0_i32_565
  let v810 : BitVec 1 := Scalar.andi v809 v806
  let v811 : BitVec 32 := Scalar.addi v805 v804
  let v812 : BitVec 32 := Scalar.select v810 v811 v805
  let c1_i32_573 : BitVec 32 := 1#32
  let v820 : BitVec 1 := Scalar.cmpi .eq v812 c1_i32_573
  let v821 : BitVec 32 := Scalar.extui v820
  let c0_i32_574 : BitVec 32 := 0#32
  let v822 : BitVec 1 := Scalar.cmpi .ne v821 c0_i32_574
  v822

def k0_dev4 : Nat :=
  let c0_i32_1644 : BitVec 32 := 0#32
  let c3_i32_1642 : BitVec 32 := 3#32
  let c1_i32_1643 : BitVec 32 := 1#32
  let v2287 : BitVec 32 := Scalar.muli c3_i32_1642 c1_i32_1643
  let v2288 : BitVec 32 := Scalar.addi c0_i32_1644 v2287
  v2288.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_561 : BitVec 32 := 3#32
  let v802 : BitVec 32 := Scalar.subi v2 c3_i32_561
  let c4_i32_562 : BitVec 32 := 4#32
  let c0_i32_563 : BitVec 32 := 0#32
  let v803 : BitVec 1 := Scalar.cmpi .eq c4_i32_562 c0_i32_563
  let c1_i32_564 : BitVec 32 := 1#32
  let v804 : BitVec 32 := Scalar.select v803 c1_i32_564 c4_i32_562
  let v805 : BitVec 32 := Scalar.remsi v802 v804
  let c0_i32_566 : BitVec 32 := 0#32
  let v807 : BitVec 1 := Scalar.cmpi .slt v805 c0_i32_566
  let c0_i32_567 : BitVec 32 := 0#32
  let v808 : BitVec 1 := Scalar.cmpi .slt v804 c0_i32_567
  let v809 : BitVec 1 := Scalar.xori v807 v808
  let c0_i32_565 : BitVec 32 := 0#32
  let v806 : BitVec 1 := Scalar.cmpi .ne v805 c0_i32_565
  let v810 : BitVec 1 := Scalar.andi v809 v806
  let v811 : BitVec 32 := Scalar.addi v805 v804
  let v812 : BitVec 32 := Scalar.select v810 v811 v805
  let c2_i32_575 : BitVec 32 := 2#32
  let v823 : BitVec 1 := Scalar.cmpi .eq v812 c2_i32_575
  let v824 : BitVec 32 := Scalar.extui v823
  let c0_i32_576 : BitVec 32 := 0#32
  let v825 : BitVec 1 := Scalar.cmpi .ne v824 c0_i32_576
  v825

def k0_dev5 : Nat :=
  let c0_i32_1644 : BitVec 32 := 0#32
  let c3_i32_1642 : BitVec 32 := 3#32
  let c1_i32_1643 : BitVec 32 := 1#32
  let v2287 : BitVec 32 := Scalar.muli c3_i32_1642 c1_i32_1643
  let v2288 : BitVec 32 := Scalar.addi c0_i32_1644 v2287
  v2288.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_561 : BitVec 32 := 3#32
  let v802 : BitVec 32 := Scalar.subi v2 c3_i32_561
  let c4_i32_562 : BitVec 32 := 4#32
  let c0_i32_563 : BitVec 32 := 0#32
  let v803 : BitVec 1 := Scalar.cmpi .eq c4_i32_562 c0_i32_563
  let c1_i32_564 : BitVec 32 := 1#32
  let v804 : BitVec 32 := Scalar.select v803 c1_i32_564 c4_i32_562
  let v805 : BitVec 32 := Scalar.remsi v802 v804
  let c0_i32_566 : BitVec 32 := 0#32
  let v807 : BitVec 1 := Scalar.cmpi .slt v805 c0_i32_566
  let c0_i32_567 : BitVec 32 := 0#32
  let v808 : BitVec 1 := Scalar.cmpi .slt v804 c0_i32_567
  let v809 : BitVec 1 := Scalar.xori v807 v808
  let c0_i32_565 : BitVec 32 := 0#32
  let v806 : BitVec 1 := Scalar.cmpi .ne v805 c0_i32_565
  let v810 : BitVec 1 := Scalar.andi v809 v806
  let v811 : BitVec 32 := Scalar.addi v805 v804
  let v812 : BitVec 32 := Scalar.select v810 v811 v805
  let c3_i32_577 : BitVec 32 := 3#32
  let v826 : BitVec 1 := Scalar.cmpi .eq v812 c3_i32_577
  let v827 : BitVec 32 := Scalar.extui v826
  let c0_i32_578 : BitVec 32 := 0#32
  let v828 : BitVec 1 := Scalar.cmpi .ne v827 c0_i32_578
  v828

def k0_dev6 : Nat :=
  let c0_i32_1644 : BitVec 32 := 0#32
  let c3_i32_1642 : BitVec 32 := 3#32
  let c1_i32_1643 : BitVec 32 := 1#32
  let v2287 : BitVec 32 := Scalar.muli c3_i32_1642 c1_i32_1643
  let v2288 : BitVec 32 := Scalar.addi c0_i32_1644 v2287
  v2288.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_864 : BitVec 32 := 0#32
  let v1231 : BitVec 32 := Scalar.subi v2 c0_i32_864
  let c4_i32_865 : BitVec 32 := 4#32
  let c0_i32_866 : BitVec 32 := 0#32
  let v1232 : BitVec 1 := Scalar.cmpi .eq c4_i32_865 c0_i32_866
  let c1_i32_867 : BitVec 32 := 1#32
  let v1233 : BitVec 32 := Scalar.select v1232 c1_i32_867 c4_i32_865
  let v1234 : BitVec 32 := Scalar.remsi v1231 v1233
  let c0_i32_869 : BitVec 32 := 0#32
  let v1236 : BitVec 1 := Scalar.cmpi .slt v1234 c0_i32_869
  let c0_i32_870 : BitVec 32 := 0#32
  let v1237 : BitVec 1 := Scalar.cmpi .slt v1233 c0_i32_870
  let v1238 : BitVec 1 := Scalar.xori v1236 v1237
  let c0_i32_868 : BitVec 32 := 0#32
  let v1235 : BitVec 1 := Scalar.cmpi .ne v1234 c0_i32_868
  let v1239 : BitVec 1 := Scalar.andi v1238 v1235
  let v1240 : BitVec 32 := Scalar.addi v1234 v1233
  let v1241 : BitVec 32 := Scalar.select v1239 v1240 v1234
  let c1_i32_875 : BitVec 32 := 1#32
  let v1249 : BitVec 1 := Scalar.cmpi .eq v1241 c1_i32_875
  let v1250 : BitVec 32 := Scalar.extui v1249
  let c0_i32_876 : BitVec 32 := 0#32
  let v1251 : BitVec 1 := Scalar.cmpi .ne v1250 c0_i32_876
  v1251

def k0_dev7 : Nat :=
  let c0_i32_1644 : BitVec 32 := 0#32
  let c0_i32_1642 : BitVec 32 := 0#32
  let c1_i32_1643 : BitVec 32 := 1#32
  let v2287 : BitVec 32 := Scalar.muli c0_i32_1642 c1_i32_1643
  let v2288 : BitVec 32 := Scalar.addi c0_i32_1644 v2287
  v2288.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_864 : BitVec 32 := 0#32
  let v1231 : BitVec 32 := Scalar.subi v2 c0_i32_864
  let c4_i32_865 : BitVec 32 := 4#32
  let c0_i32_866 : BitVec 32 := 0#32
  let v1232 : BitVec 1 := Scalar.cmpi .eq c4_i32_865 c0_i32_866
  let c1_i32_867 : BitVec 32 := 1#32
  let v1233 : BitVec 32 := Scalar.select v1232 c1_i32_867 c4_i32_865
  let v1234 : BitVec 32 := Scalar.remsi v1231 v1233
  let c0_i32_869 : BitVec 32 := 0#32
  let v1236 : BitVec 1 := Scalar.cmpi .slt v1234 c0_i32_869
  let c0_i32_870 : BitVec 32 := 0#32
  let v1237 : BitVec 1 := Scalar.cmpi .slt v1233 c0_i32_870
  let v1238 : BitVec 1 := Scalar.xori v1236 v1237
  let c0_i32_868 : BitVec 32 := 0#32
  let v1235 : BitVec 1 := Scalar.cmpi .ne v1234 c0_i32_868
  let v1239 : BitVec 1 := Scalar.andi v1238 v1235
  let v1240 : BitVec 32 := Scalar.addi v1234 v1233
  let v1241 : BitVec 32 := Scalar.select v1239 v1240 v1234
  let c2_i32_877 : BitVec 32 := 2#32
  let v1252 : BitVec 1 := Scalar.cmpi .eq v1241 c2_i32_877
  let v1253 : BitVec 32 := Scalar.extui v1252
  let c0_i32_878 : BitVec 32 := 0#32
  let v1254 : BitVec 1 := Scalar.cmpi .ne v1253 c0_i32_878
  v1254

def k0_dev8 : Nat :=
  let c0_i32_1644 : BitVec 32 := 0#32
  let c0_i32_1642 : BitVec 32 := 0#32
  let c1_i32_1643 : BitVec 32 := 1#32
  let v2287 : BitVec 32 := Scalar.muli c0_i32_1642 c1_i32_1643
  let v2288 : BitVec 32 := Scalar.addi c0_i32_1644 v2287
  v2288.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_864 : BitVec 32 := 0#32
  let v1231 : BitVec 32 := Scalar.subi v2 c0_i32_864
  let c4_i32_865 : BitVec 32 := 4#32
  let c0_i32_866 : BitVec 32 := 0#32
  let v1232 : BitVec 1 := Scalar.cmpi .eq c4_i32_865 c0_i32_866
  let c1_i32_867 : BitVec 32 := 1#32
  let v1233 : BitVec 32 := Scalar.select v1232 c1_i32_867 c4_i32_865
  let v1234 : BitVec 32 := Scalar.remsi v1231 v1233
  let c0_i32_869 : BitVec 32 := 0#32
  let v1236 : BitVec 1 := Scalar.cmpi .slt v1234 c0_i32_869
  let c0_i32_870 : BitVec 32 := 0#32
  let v1237 : BitVec 1 := Scalar.cmpi .slt v1233 c0_i32_870
  let v1238 : BitVec 1 := Scalar.xori v1236 v1237
  let c0_i32_868 : BitVec 32 := 0#32
  let v1235 : BitVec 1 := Scalar.cmpi .ne v1234 c0_i32_868
  let v1239 : BitVec 1 := Scalar.andi v1238 v1235
  let v1240 : BitVec 32 := Scalar.addi v1234 v1233
  let v1241 : BitVec 32 := Scalar.select v1239 v1240 v1234
  let c3_i32_879 : BitVec 32 := 3#32
  let v1255 : BitVec 1 := Scalar.cmpi .eq v1241 c3_i32_879
  let v1256 : BitVec 32 := Scalar.extui v1255
  let c0_i32_880 : BitVec 32 := 0#32
  let v1257 : BitVec 1 := Scalar.cmpi .ne v1256 c0_i32_880
  v1257

def k0_dev9 : Nat :=
  let c0_i32_1644 : BitVec 32 := 0#32
  let c0_i32_1642 : BitVec 32 := 0#32
  let c1_i32_1643 : BitVec 32 := 1#32
  let v2287 : BitVec 32 := Scalar.muli c0_i32_1642 c1_i32_1643
  let v2288 : BitVec 32 := Scalar.addi c0_i32_1644 v2287
  v2288.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1238 : BitVec 32 := 1#32
  let v1764 : BitVec 32 := Scalar.subi v2 c1_i32_1238
  let c4_i32_1239 : BitVec 32 := 4#32
  let c0_i32_1240 : BitVec 32 := 0#32
  let v1765 : BitVec 1 := Scalar.cmpi .eq c4_i32_1239 c0_i32_1240
  let c1_i32_1241 : BitVec 32 := 1#32
  let v1766 : BitVec 32 := Scalar.select v1765 c1_i32_1241 c4_i32_1239
  let v1767 : BitVec 32 := Scalar.remsi v1764 v1766
  let c0_i32_1243 : BitVec 32 := 0#32
  let v1769 : BitVec 1 := Scalar.cmpi .slt v1767 c0_i32_1243
  let c0_i32_1244 : BitVec 32 := 0#32
  let v1770 : BitVec 1 := Scalar.cmpi .slt v1766 c0_i32_1244
  let v1771 : BitVec 1 := Scalar.xori v1769 v1770
  let c0_i32_1242 : BitVec 32 := 0#32
  let v1768 : BitVec 1 := Scalar.cmpi .ne v1767 c0_i32_1242
  let v1772 : BitVec 1 := Scalar.andi v1771 v1768
  let v1773 : BitVec 32 := Scalar.addi v1767 v1766
  let v1774 : BitVec 32 := Scalar.select v1772 v1773 v1767
  let c1_i32_1249 : BitVec 32 := 1#32
  let v1782 : BitVec 1 := Scalar.cmpi .eq v1774 c1_i32_1249
  let v1783 : BitVec 32 := Scalar.extui v1782
  let c0_i32_1250 : BitVec 32 := 0#32
  let v1784 : BitVec 1 := Scalar.cmpi .ne v1783 c0_i32_1250
  v1784

def k0_dev10 : Nat :=
  let c0_i32_1644 : BitVec 32 := 0#32
  let c1_i32_1642 : BitVec 32 := 1#32
  let c1_i32_1643 : BitVec 32 := 1#32
  let v2287 : BitVec 32 := Scalar.muli c1_i32_1642 c1_i32_1643
  let v2288 : BitVec 32 := Scalar.addi c0_i32_1644 v2287
  v2288.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1238 : BitVec 32 := 1#32
  let v1764 : BitVec 32 := Scalar.subi v2 c1_i32_1238
  let c4_i32_1239 : BitVec 32 := 4#32
  let c0_i32_1240 : BitVec 32 := 0#32
  let v1765 : BitVec 1 := Scalar.cmpi .eq c4_i32_1239 c0_i32_1240
  let c1_i32_1241 : BitVec 32 := 1#32
  let v1766 : BitVec 32 := Scalar.select v1765 c1_i32_1241 c4_i32_1239
  let v1767 : BitVec 32 := Scalar.remsi v1764 v1766
  let c0_i32_1243 : BitVec 32 := 0#32
  let v1769 : BitVec 1 := Scalar.cmpi .slt v1767 c0_i32_1243
  let c0_i32_1244 : BitVec 32 := 0#32
  let v1770 : BitVec 1 := Scalar.cmpi .slt v1766 c0_i32_1244
  let v1771 : BitVec 1 := Scalar.xori v1769 v1770
  let c0_i32_1242 : BitVec 32 := 0#32
  let v1768 : BitVec 1 := Scalar.cmpi .ne v1767 c0_i32_1242
  let v1772 : BitVec 1 := Scalar.andi v1771 v1768
  let v1773 : BitVec 32 := Scalar.addi v1767 v1766
  let v1774 : BitVec 32 := Scalar.select v1772 v1773 v1767
  let c2_i32_1251 : BitVec 32 := 2#32
  let v1785 : BitVec 1 := Scalar.cmpi .eq v1774 c2_i32_1251
  let v1786 : BitVec 32 := Scalar.extui v1785
  let c0_i32_1252 : BitVec 32 := 0#32
  let v1787 : BitVec 1 := Scalar.cmpi .ne v1786 c0_i32_1252
  v1787

def k0_dev11 : Nat :=
  let c0_i32_1644 : BitVec 32 := 0#32
  let c1_i32_1642 : BitVec 32 := 1#32
  let c1_i32_1643 : BitVec 32 := 1#32
  let v2287 : BitVec 32 := Scalar.muli c1_i32_1642 c1_i32_1643
  let v2288 : BitVec 32 := Scalar.addi c0_i32_1644 v2287
  v2288.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1238 : BitVec 32 := 1#32
  let v1764 : BitVec 32 := Scalar.subi v2 c1_i32_1238
  let c4_i32_1239 : BitVec 32 := 4#32
  let c0_i32_1240 : BitVec 32 := 0#32
  let v1765 : BitVec 1 := Scalar.cmpi .eq c4_i32_1239 c0_i32_1240
  let c1_i32_1241 : BitVec 32 := 1#32
  let v1766 : BitVec 32 := Scalar.select v1765 c1_i32_1241 c4_i32_1239
  let v1767 : BitVec 32 := Scalar.remsi v1764 v1766
  let c0_i32_1243 : BitVec 32 := 0#32
  let v1769 : BitVec 1 := Scalar.cmpi .slt v1767 c0_i32_1243
  let c0_i32_1244 : BitVec 32 := 0#32
  let v1770 : BitVec 1 := Scalar.cmpi .slt v1766 c0_i32_1244
  let v1771 : BitVec 1 := Scalar.xori v1769 v1770
  let c0_i32_1242 : BitVec 32 := 0#32
  let v1768 : BitVec 1 := Scalar.cmpi .ne v1767 c0_i32_1242
  let v1772 : BitVec 1 := Scalar.andi v1771 v1768
  let v1773 : BitVec 32 := Scalar.addi v1767 v1766
  let v1774 : BitVec 32 := Scalar.select v1772 v1773 v1767
  let c3_i32_1253 : BitVec 32 := 3#32
  let v1788 : BitVec 1 := Scalar.cmpi .eq v1774 c3_i32_1253
  let v1789 : BitVec 32 := Scalar.extui v1788
  let c0_i32_1254 : BitVec 32 := 0#32
  let v1790 : BitVec 1 := Scalar.cmpi .ne v1789 c0_i32_1254
  v1790

def k0_dev12 : Nat :=
  let c0_i32_1644 : BitVec 32 := 0#32
  let c1_i32_1642 : BitVec 32 := 1#32
  let c1_i32_1643 : BitVec 32 := 1#32
  let v2287 : BitVec 32 := Scalar.muli c1_i32_1642 c1_i32_1643
  let v2288 : BitVec 32 := Scalar.addi c0_i32_1644 v2287
  v2288.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1436 : BitVec 32 := 2#32
  let v2046 : BitVec 32 := Scalar.subi v2 c2_i32_1436
  let c4_i32_1437 : BitVec 32 := 4#32
  let c0_i32_1438 : BitVec 32 := 0#32
  let v2047 : BitVec 1 := Scalar.cmpi .eq c4_i32_1437 c0_i32_1438
  let c1_i32_1439 : BitVec 32 := 1#32
  let v2048 : BitVec 32 := Scalar.select v2047 c1_i32_1439 c4_i32_1437
  let v2049 : BitVec 32 := Scalar.remsi v2046 v2048
  let c0_i32_1441 : BitVec 32 := 0#32
  let v2051 : BitVec 1 := Scalar.cmpi .slt v2049 c0_i32_1441
  let c0_i32_1442 : BitVec 32 := 0#32
  let v2052 : BitVec 1 := Scalar.cmpi .slt v2048 c0_i32_1442
  let v2053 : BitVec 1 := Scalar.xori v2051 v2052
  let c0_i32_1440 : BitVec 32 := 0#32
  let v2050 : BitVec 1 := Scalar.cmpi .ne v2049 c0_i32_1440
  let v2054 : BitVec 1 := Scalar.andi v2053 v2050
  let v2055 : BitVec 32 := Scalar.addi v2049 v2048
  let v2056 : BitVec 32 := Scalar.select v2054 v2055 v2049
  let c1_i32_1447 : BitVec 32 := 1#32
  let v2064 : BitVec 1 := Scalar.cmpi .eq v2056 c1_i32_1447
  let v2065 : BitVec 32 := Scalar.extui v2064
  let c0_i32_1448 : BitVec 32 := 0#32
  let v2066 : BitVec 1 := Scalar.cmpi .ne v2065 c0_i32_1448
  v2066

def k0_dev13 : Nat :=
  let c0_i32_1644 : BitVec 32 := 0#32
  let c2_i32_1642 : BitVec 32 := 2#32
  let c1_i32_1643 : BitVec 32 := 1#32
  let v2287 : BitVec 32 := Scalar.muli c2_i32_1642 c1_i32_1643
  let v2288 : BitVec 32 := Scalar.addi c0_i32_1644 v2287
  v2288.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1436 : BitVec 32 := 2#32
  let v2046 : BitVec 32 := Scalar.subi v2 c2_i32_1436
  let c4_i32_1437 : BitVec 32 := 4#32
  let c0_i32_1438 : BitVec 32 := 0#32
  let v2047 : BitVec 1 := Scalar.cmpi .eq c4_i32_1437 c0_i32_1438
  let c1_i32_1439 : BitVec 32 := 1#32
  let v2048 : BitVec 32 := Scalar.select v2047 c1_i32_1439 c4_i32_1437
  let v2049 : BitVec 32 := Scalar.remsi v2046 v2048
  let c0_i32_1441 : BitVec 32 := 0#32
  let v2051 : BitVec 1 := Scalar.cmpi .slt v2049 c0_i32_1441
  let c0_i32_1442 : BitVec 32 := 0#32
  let v2052 : BitVec 1 := Scalar.cmpi .slt v2048 c0_i32_1442
  let v2053 : BitVec 1 := Scalar.xori v2051 v2052
  let c0_i32_1440 : BitVec 32 := 0#32
  let v2050 : BitVec 1 := Scalar.cmpi .ne v2049 c0_i32_1440
  let v2054 : BitVec 1 := Scalar.andi v2053 v2050
  let v2055 : BitVec 32 := Scalar.addi v2049 v2048
  let v2056 : BitVec 32 := Scalar.select v2054 v2055 v2049
  let c2_i32_1449 : BitVec 32 := 2#32
  let v2067 : BitVec 1 := Scalar.cmpi .eq v2056 c2_i32_1449
  let v2068 : BitVec 32 := Scalar.extui v2067
  let c0_i32_1450 : BitVec 32 := 0#32
  let v2069 : BitVec 1 := Scalar.cmpi .ne v2068 c0_i32_1450
  v2069

def k0_dev14 : Nat :=
  let c0_i32_1644 : BitVec 32 := 0#32
  let c2_i32_1642 : BitVec 32 := 2#32
  let c1_i32_1643 : BitVec 32 := 1#32
  let v2287 : BitVec 32 := Scalar.muli c2_i32_1642 c1_i32_1643
  let v2288 : BitVec 32 := Scalar.addi c0_i32_1644 v2287
  v2288.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1436 : BitVec 32 := 2#32
  let v2046 : BitVec 32 := Scalar.subi v2 c2_i32_1436
  let c4_i32_1437 : BitVec 32 := 4#32
  let c0_i32_1438 : BitVec 32 := 0#32
  let v2047 : BitVec 1 := Scalar.cmpi .eq c4_i32_1437 c0_i32_1438
  let c1_i32_1439 : BitVec 32 := 1#32
  let v2048 : BitVec 32 := Scalar.select v2047 c1_i32_1439 c4_i32_1437
  let v2049 : BitVec 32 := Scalar.remsi v2046 v2048
  let c0_i32_1441 : BitVec 32 := 0#32
  let v2051 : BitVec 1 := Scalar.cmpi .slt v2049 c0_i32_1441
  let c0_i32_1442 : BitVec 32 := 0#32
  let v2052 : BitVec 1 := Scalar.cmpi .slt v2048 c0_i32_1442
  let v2053 : BitVec 1 := Scalar.xori v2051 v2052
  let c0_i32_1440 : BitVec 32 := 0#32
  let v2050 : BitVec 1 := Scalar.cmpi .ne v2049 c0_i32_1440
  let v2054 : BitVec 1 := Scalar.andi v2053 v2050
  let v2055 : BitVec 32 := Scalar.addi v2049 v2048
  let v2056 : BitVec 32 := Scalar.select v2054 v2055 v2049
  let c3_i32_1451 : BitVec 32 := 3#32
  let v2070 : BitVec 1 := Scalar.cmpi .eq v2056 c3_i32_1451
  let v2071 : BitVec 32 := Scalar.extui v2070
  let c0_i32_1452 : BitVec 32 := 0#32
  let v2072 : BitVec 1 := Scalar.cmpi .ne v2071 c0_i32_1452
  v2072

def k0_dev15 : Nat :=
  let c0_i32_1644 : BitVec 32 := 0#32
  let c2_i32_1642 : BitVec 32 := 2#32
  let c1_i32_1643 : BitVec 32 := 1#32
  let v2287 : BitVec 32 := Scalar.muli c2_i32_1642 c1_i32_1643
  let v2288 : BitVec 32 := Scalar.addi c0_i32_1644 v2287
  v2288.toNat
def k0_off1 (d0 : Dev nD) (c1_i32_1483 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2097 : BitVec 32 := Scalar.addi v2 c1_i32_1483
  let c4_i32_1484 : BitVec 32 := 4#32
  let c0_i32_1485 : BitVec 32 := 0#32
  let v2098 : BitVec 1 := Scalar.cmpi .eq c4_i32_1484 c0_i32_1485
  let c1_i32_1486 : BitVec 32 := 1#32
  let v2099 : BitVec 32 := Scalar.select v2098 c1_i32_1486 c4_i32_1484
  let v2100 : BitVec 32 := Scalar.remsi v2097 v2099
  let c0_i32_1488 : BitVec 32 := 0#32
  let v2102 : BitVec 1 := Scalar.cmpi .slt v2100 c0_i32_1488
  let c0_i32_1489 : BitVec 32 := 0#32
  let v2103 : BitVec 1 := Scalar.cmpi .slt v2099 c0_i32_1489
  let v2104 : BitVec 1 := Scalar.xori v2102 v2103
  let c0_i32_1487 : BitVec 32 := 0#32
  let v2101 : BitVec 1 := Scalar.cmpi .ne v2100 c0_i32_1487
  let v2105 : BitVec 1 := Scalar.andi v2104 v2101
  let v2106 : BitVec 32 := Scalar.addi v2100 v2099
  let v2107 : BitVec 32 := Scalar.select v2105 v2106 v2100
  let c512_i32 : BitVec 32 := 512#32
  let v2108 : BitVec 32 := Scalar.muli v2107 c512_i32
  let v2109 : Index := Scalar.indexCast v2108
  let c0_1490 : Index := 0#32
  ![v2109.toNat, 0]
def k0_dev16 (d0 : Dev nD) : Nat :=
  let c0_i32_1515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1504 : BitVec 32 := 1#32
  let v2134 : BitVec 32 := Scalar.addi v2 c1_i32_1504
  let c4_i32_1505 : BitVec 32 := 4#32
  let c0_i32_1506 : BitVec 32 := 0#32
  let v2135 : BitVec 1 := Scalar.cmpi .eq c4_i32_1505 c0_i32_1506
  let c1_i32_1507 : BitVec 32 := 1#32
  let v2136 : BitVec 32 := Scalar.select v2135 c1_i32_1507 c4_i32_1505
  let v2137 : BitVec 32 := Scalar.remsi v2134 v2136
  let c0_i32_1509 : BitVec 32 := 0#32
  let v2139 : BitVec 1 := Scalar.cmpi .slt v2137 c0_i32_1509
  let c0_i32_1510 : BitVec 32 := 0#32
  let v2140 : BitVec 1 := Scalar.cmpi .slt v2136 c0_i32_1510
  let v2141 : BitVec 1 := Scalar.xori v2139 v2140
  let c0_i32_1508 : BitVec 32 := 0#32
  let v2138 : BitVec 1 := Scalar.cmpi .ne v2137 c0_i32_1508
  let v2142 : BitVec 1 := Scalar.andi v2141 v2138
  let v2143 : BitVec 32 := Scalar.addi v2137 v2136
  let v2144 : BitVec 32 := Scalar.select v2142 v2143 v2137
  let c1_i32_1514 : BitVec 32 := 1#32
  let v2145 : BitVec 32 := Scalar.muli v2144 c1_i32_1514
  let v2146 : BitVec 32 := Scalar.addi c0_i32_1515 v2145
  v2146.toNat
def k0_dev17 (d0 : Dev nD) : Nat :=
  let c0_i32_1529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1518 : BitVec 32 := 2#32
  let v2153 : BitVec 32 := Scalar.addi v2 c2_i32_1518
  let c4_i32_1519 : BitVec 32 := 4#32
  let c0_i32_1520 : BitVec 32 := 0#32
  let v2154 : BitVec 1 := Scalar.cmpi .eq c4_i32_1519 c0_i32_1520
  let c1_i32_1521 : BitVec 32 := 1#32
  let v2155 : BitVec 32 := Scalar.select v2154 c1_i32_1521 c4_i32_1519
  let v2156 : BitVec 32 := Scalar.remsi v2153 v2155
  let c0_i32_1523 : BitVec 32 := 0#32
  let v2158 : BitVec 1 := Scalar.cmpi .slt v2156 c0_i32_1523
  let c0_i32_1524 : BitVec 32 := 0#32
  let v2159 : BitVec 1 := Scalar.cmpi .slt v2155 c0_i32_1524
  let v2160 : BitVec 1 := Scalar.xori v2158 v2159
  let c0_i32_1522 : BitVec 32 := 0#32
  let v2157 : BitVec 1 := Scalar.cmpi .ne v2156 c0_i32_1522
  let v2161 : BitVec 1 := Scalar.andi v2160 v2157
  let v2162 : BitVec 32 := Scalar.addi v2156 v2155
  let v2163 : BitVec 32 := Scalar.select v2161 v2162 v2156
  let c1_i32_1528 : BitVec 32 := 1#32
  let v2164 : BitVec 32 := Scalar.muli v2163 c1_i32_1528
  let v2165 : BitVec 32 := Scalar.addi c0_i32_1529 v2164
  v2165.toNat
def k0_dev18 (d0 : Dev nD) : Nat :=
  let c0_i32_1543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1532 : BitVec 32 := 3#32
  let v2172 : BitVec 32 := Scalar.addi v2 c3_i32_1532
  let c4_i32_1533 : BitVec 32 := 4#32
  let c0_i32_1534 : BitVec 32 := 0#32
  let v2173 : BitVec 1 := Scalar.cmpi .eq c4_i32_1533 c0_i32_1534
  let c1_i32_1535 : BitVec 32 := 1#32
  let v2174 : BitVec 32 := Scalar.select v2173 c1_i32_1535 c4_i32_1533
  let v2175 : BitVec 32 := Scalar.remsi v2172 v2174
  let c0_i32_1537 : BitVec 32 := 0#32
  let v2177 : BitVec 1 := Scalar.cmpi .slt v2175 c0_i32_1537
  let c0_i32_1538 : BitVec 32 := 0#32
  let v2178 : BitVec 1 := Scalar.cmpi .slt v2174 c0_i32_1538
  let v2179 : BitVec 1 := Scalar.xori v2177 v2178
  let c0_i32_1536 : BitVec 32 := 0#32
  let v2176 : BitVec 1 := Scalar.cmpi .ne v2175 c0_i32_1536
  let v2180 : BitVec 1 := Scalar.andi v2179 v2176
  let v2181 : BitVec 32 := Scalar.addi v2175 v2174
  let v2182 : BitVec 32 := Scalar.select v2180 v2181 v2175
  let c1_i32_1542 : BitVec 32 := 1#32
  let v2183 : BitVec 32 := Scalar.muli v2182 c1_i32_1542
  let v2184 : BitVec 32 := Scalar.addi c0_i32_1543 v2183
  v2184.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 128
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S1x2048x32x128, .bf16⟩
  | .hbm, ⟨3, _⟩ => ⟨S1x2048x32x128, .bf16⟩
  | .hbm, ⟨4, _⟩ => ⟨S4096x1024, .bf16⟩
  | .hbm, ⟨5, _⟩ => ⟨S1x2048x4096, .f32⟩
  | .hbm, ⟨6, _⟩ => ⟨S1x2048x4096, .bf16⟩
  | .hbm, ⟨7, _⟩ => ⟨S1x2048x32x128, .bf16⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S1x2048, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S_, .i32⟩
  | .hbm, ⟨52, _⟩ => ⟨S1x2048, .i32⟩
  | .hbm, ⟨53, _⟩ => ⟨S1x2048, .i1⟩
  | .hbm, ⟨54, _⟩ => ⟨S2048x2048, .i1⟩
  | .hbm, ⟨55, _⟩ => ⟨S2048x2048, .i1⟩
  | .hbm, ⟨56, _⟩ => ⟨S2048x2048, .i32⟩
  | .hbm, ⟨57, _⟩ => ⟨S2048x2048, .i32⟩
  | .hbm, ⟨58, _⟩ => ⟨S2048x2048, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S2048x2048, .i32⟩
  | .hbm, ⟨72, _⟩ => ⟨S2048x2048, .i1⟩
  | .hbm, ⟨73, _⟩ => ⟨S_, .i32⟩
  | .hbm, ⟨74, _⟩ => ⟨S_, .i1⟩
  | .hbm, ⟨75, _⟩ => ⟨S2048x2048, .i1⟩
  | .hbm, ⟨76, _⟩ => ⟨S2048x2048, .i1⟩
  | .hbm, ⟨77, _⟩ => ⟨S2048x2048, .i1⟩
  | .hbm, ⟨78, _⟩ => ⟨S2048x2048, .i32⟩
  | .hbm, ⟨79, _⟩ => ⟨S2048x2048, .i32⟩
  | .hbm, ⟨80, _⟩ => ⟨S2048x2048, .i32⟩
  | .hbm, ⟨81, _⟩ => ⟨S_, .i32⟩
  | .hbm, ⟨82, _⟩ => ⟨S2048x2048, .i32⟩
  | .hbm, ⟨83, _⟩ => ⟨S2048x2048, .i1⟩
  | .hbm, ⟨84, _⟩ => ⟨S2048x2048, .i1⟩
  | .hbm, ⟨85, _⟩ => ⟨S1x32x2048x2048, .f32⟩
  | .hbm, ⟨86, _⟩ => ⟨S_, .f32⟩
  | .hbm, ⟨87, _⟩ => ⟨S_, .f32⟩
  | .hbm, ⟨88, _⟩ => ⟨S1x32x2048x2048, .f32⟩
  | .hbm, ⟨89, _⟩ => ⟨S1x32x2048x2048, .f32⟩
  | .hbm, ⟨90, _⟩ => ⟨S1x1x2048x2048, .i1⟩
  | .hbm, ⟨91, _⟩ => ⟨S_, .f32⟩
  | .hbm, ⟨92, _⟩ => ⟨S_, .f32⟩
  | .hbm, ⟨93, _⟩ => ⟨S1x32x2048x2048, .i1⟩
  | .hbm, ⟨94, _⟩ => ⟨S1x32x2048x2048, .f32⟩
  | .hbm, ⟨95, _⟩ => ⟨S1x32x2048x2048, .f32⟩
  | .hbm, ⟨96, _⟩ => ⟨S_, .f32⟩
  | .hbm, ⟨97, _⟩ => ⟨S1x32x2048, .f32⟩
  | .hbm, ⟨98, _⟩ => ⟨S1x32x2048x1, .f32⟩
  | .hbm, ⟨99, _⟩ => ⟨S1x32x2048x2048, .f32⟩
  | .hbm, ⟨100, _⟩ => ⟨S1x32x2048x2048, .f32⟩
  | .hbm, ⟨101, _⟩ => ⟨S1x32x2048x2048, .f32⟩
  | .hbm, ⟨102, _⟩ => ⟨S_, .i1⟩
  | .hbm, ⟨103, _⟩ => ⟨S2048, .i1⟩
  | .hbm, ⟨104, _⟩ => ⟨S1x1x2048x1, .i1⟩
  | .hbm, ⟨105, _⟩ => ⟨S_, .f32⟩
  | .hbm, ⟨106, _⟩ => ⟨S1x32x2048, .f32⟩
  | .hbm, ⟨107, _⟩ => ⟨S1x32x2048x1, .f32⟩
  | .hbm, ⟨108, _⟩ => ⟨S_, .f32⟩
  | .hbm, ⟨109, _⟩ => ⟨S_, .f32⟩
  | .hbm, ⟨110, _⟩ => ⟨S1x32x2048x1, .i1⟩
  | .hbm, ⟨111, _⟩ => ⟨S1x32x2048x1, .f32⟩
  | .hbm, ⟨112, _⟩ => ⟨S1x32x2048x1, .f32⟩
  | .hbm, ⟨113, _⟩ => ⟨S1x32x2048x2048, .f32⟩
  | .hbm, ⟨114, _⟩ => ⟨S1x32x2048x2048, .f32⟩
  | .hbm, ⟨115, _⟩ => ⟨S1x1x2048x1, .i1⟩
  | .hbm, ⟨116, _⟩ => ⟨S_, .f32⟩
  | .hbm, ⟨117, _⟩ => ⟨S_, .f32⟩
  | .hbm, ⟨118, _⟩ => ⟨S1x32x2048x2048, .i1⟩
  | .hbm, ⟨119, _⟩ => ⟨S1x32x2048x2048, .f32⟩
  | .hbm, ⟨120, _⟩ => ⟨S1x32x2048x2048, .f32⟩
  | .hbm, ⟨121, _⟩ => ⟨S1x32x2048x2048, .bf16⟩
  | .hbm, ⟨122, _⟩ => ⟨S1x32x128x2048, .f32⟩
  | .hbm, ⟨123, _⟩ => ⟨S1x2048x32x128, .f32⟩
  | .hbm, ⟨124, _⟩ => ⟨S1x2048x32x128, .bf16⟩
  | .hbm, ⟨125, _⟩ => ⟨S1x2048x4096, .bf16⟩
  | .hbm, ⟨126, _⟩ => ⟨S1x2048x1024, .f32⟩
  | .hbm, ⟨127, _⟩ => ⟨S1x2048x1024, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_4 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v28 : Ref sig .tc := ⟨.hbm, 95, rfl⟩
abbrev main_cst_5 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_c_6 : Ref sig .tc := ⟨.hbm, 102, rfl⟩
abbrev main_v34 : Ref sig .tc := ⟨.hbm, 103, rfl⟩
abbrev main_v35 : Ref sig .tc := ⟨.hbm, 104, rfl⟩
abbrev main_cst_7 : Ref sig .tc := ⟨.hbm, 105, rfl⟩
abbrev main_v36 : Ref sig .tc := ⟨.hbm, 106, rfl⟩
abbrev main_v37 : Ref sig .tc := ⟨.hbm, 107, rfl⟩
abbrev main_cst_8 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_cst_9 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Protocol.lean ====
/-
  The exchange between the four devices, written down once.

  Every device pays one unit to the barrier cell of each of the three others; with the unit the receiver gets the two
  landing slots (one of the reduce-scatter, one of the all-gather) it will write on the payer, and that round 0 of their
  receive cells is reached. A device waits for its three units before it copies anything.

  Chunk k of the partial products is collected by device k + 3. Another device copies its partial of chunk k onto the
  owner's slot number (own place − owner's place) − 1; the copy credits the owner's receive cell of that slot and the
  sender's send cell number k. The receive cell hands the slot over at the sender's partial of the chunk; the send cell
  hands the row back at what it held.

  Each device adds its own partial and the three received, and copies the sum to the three others, onto the slot numbered
  the same way; the receive cell hands the slot over at the sender's sum; the send cells give back the three shares of the
  source.
-/
module

public import proofs.«01_k».proof.Proof.Gen.KernelIdeal.Skeleton
public import proofs.«01_k».proof.Proof.Gen.KernelIdeal.Points
public import Idealize.ShloMosaic.Lib.Tactic
public import Idealize.ShloMosaic.Lib.Rounds

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The resource algebra: the pipeline library's copy and the exchange's, whose duties are named by the paying place -/

abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Places -/

/-- The device j + 1 places after c: the one that writes c's slots number j. -/
def pe (c : Dev nD) (j : Fin 3) : Dev nD := ⟨(c.val + j.val + 1) % 4, Nat.mod_lt _ (by decide)⟩
/-- The device j + 1 places before c: the one whose slots number j device c writes. -/
def pm (c : Dev nD) (j : Fin 3) : Dev nD := ⟨(c.val + 3 - j.val) % 4, Nat.mod_lt _ (by decide)⟩
/-- The chunk device c collects. -/
def own (c : Dev nD) : Fin 4 := ⟨(c.val + 1) % 4, Nat.mod_lt _ (by decide)⟩
/-- The slot of device p that device c writes. -/
def slotOf (c p : Dev nD) : Fin 3 := ⟨((c.val + 7 - p.val) % 4) % 3, Nat.mod_lt _ (by decide)⟩
/-- The chunk that device c sends to slot j. -/
def chunkTo (c : Dev nD) (j : Fin 3) : Fin 4 := own (pm c j)

theorem pe_pm (c : Dev nD) (j : Fin 3) : pe (pm c j) j = c := by revert c j; decide
theorem pm_pe (c : Dev nD) (j : Fin 3) : pm (pe c j) j = c := by revert c j; decide
theorem slotOf_pm (c : Dev nD) (j : Fin 3) : slotOf c (pm c j) = j := by revert c j; decide
theorem slotOf_pe (c : Dev nD) (j : Fin 3) : slotOf (pe c j) c = j := by revert c j; decide
theorem pe_ne (c : Dev nD) (j : Fin 3) : pe c j ≠ c := by revert c j; decide
theorem pm_ne (c : Dev nD) (j : Fin 3) : pm c j ≠ c := by revert c j; decide
theorem chunkTo_ne (c : Dev nD) (j : Fin 3) : chunkTo c j ≠ own c := by revert c j; decide

/-! ## Cells -/

abbrev sRS (k : Fin 4) : DmaSem sig := ⟨6 + k.val, by have := k.isLt; show 6 + k.val < 19; omega⟩
abbrev rRS (j : Fin 3) : DmaSem sig := ⟨10 + j.val, by have := j.isLt; show 10 + j.val < 19; omega⟩
abbrev sAG (j : Fin 3) : DmaSem sig := ⟨13 + j.val, by have := j.isLt; show 13 + j.val < 19; omega⟩
abbrev rAG (j : Fin 3) : DmaSem sig := ⟨16 + j.val, by have := j.isLt; show 16 + j.val < 19; omega⟩

abbrev barCell (c : Dev nD) : GSem nD τ sig := ((c : Thread nD τ), .reg barrier0)
abbrev sRSCell (c : Dev nD) (k : Fin 4) : GSem nD τ sig := ((c : Thread nD τ), .dma (sRS k))
abbrev rRSCell (c : Dev nD) (j : Fin 3) : GSem nD τ sig := ((c : Thread nD τ), .dma (rRS j))
abbrev sAGCell (c : Dev nD) (j : Fin 3) : GSem nD τ sig := ((c : Thread nD τ), .dma (sAG j))
abbrev rAGCell (c : Dev nD) (j : Fin 3) : GSem nD τ sig := ((c : Thread nD τ), .dma (rAG j))

/-! ## Views -/

theorem inb3 (j : Fin 3) : ∀ a, (![j.val, 0, 0] : Fin 3 → Nat) a + S1x512x1024.size a ≤ S3x512x1024.size a := by revert j; decide
theorem inb4 (k : Fin 4) : ∀ a, (![k.val, 0, 0] : Fin 3 → Nat) a + S1x512x1024.size a ≤ S4x512x1024.size a := by revert k; decide

abbrev rect3 (j : Fin 3) : Rect S3x512x1024 := Rect.unit (s := S3x512x1024) ![j.val, 0, 0] S1x512x1024.size (inb3 j)
abbrev rect4 (k : Fin 4) : Rect S4x512x1024 := Rect.unit (s := S4x512x1024) ![k.val, 0, 0] S1x512x1024.size (inb4 k)

/-- Row k of the partial products' buffer, as the copy reads it. -/
abbrev rowM (k : Fin 4) : Memref sig .tc .vmem S512x1024 .bf16 :=
  ((Memref.whole cc0_scratch13).slice (rect4 k) (fun _ => rfl)).squeeze S512x1024 squeezes_S1x512x1024_S512x1024
/-- Slot j of the reduce-scatter's landing buffer, as the copy writes it. -/
abbrev rsM (j : Fin 3) : Memref sig .tc .vmem S512x1024 .bf16 :=
  ((Memref.whole cc0_scratch14).slice (rect3 j) (fun _ => rfl)).squeeze S512x1024 squeezes_S1x512x1024_S512x1024
/-- Slot j of the all-gather's landing buffer. -/
abbrev agM (j : Fin 3) : Memref sig .tc .vmem S512x1024 .bf16 :=
  ((Memref.whole cc0_scratch16).slice (rect3 j) (fun _ => rfl)).squeeze S512x1024 squeezes_S1x512x1024_S512x1024
abbrev agsM : Memref sig .tc .vmem S512x1024 .bf16 := Memref.whole cc0_scratch15

def rowPts (c : Dev nD) (k : Fin 4) (f : Buf (Elt F) ((rowM k).view.loc (c : Thread nD τ))) : sProp 𝕄 :=
  (rowM k).view.loc (c : Thread nD τ) ↦[(rowM k).view.set]{fullShare} f
def rsPts (c : Dev nD) (j : Fin 3) (f : Buf (Elt F) ((rsM j).view.loc (c : Thread nD τ))) : sProp 𝕄 :=
  (rsM j).view.loc (c : Thread nD τ) ↦[(rsM j).view.set]{fullShare} f
def agPts (c : Dev nD) (j : Fin 3) (f : Buf (Elt F) ((agM j).view.loc (c : Thread nD τ))) : sProp 𝕄 :=
  (agM j).view.loc (c : Thread nD τ) ↦[(agM j).view.set]{fullShare} f

/-- A slot held at contents that read to v. -/
def rsGot (c : Dev nD) (j : Fin 3) (v : S512x1024.Idx → Elt F .bf16) (f : Buf (Elt F) ((rsM j).view.loc (c : Thread nD τ))) : sProp 𝕄 :=
  iprop(⌜(rsM j).view.read (Elt F) f = v⌝ ∗ rsPts c j f)
def agGot (c : Dev nD) (j : Fin 3) (v : S512x1024.Idx → Elt F .bf16) (f : Buf (Elt F) ((agM j).view.loc (c : Thread nD τ))) : sProp 𝕄 :=
  iprop(⌜(agM j).view.read (Elt F) f = v⌝ ∗ agPts c j f)

/-- The share of the sum's buffer that the j-th copy reads. -/
def qAG (j : Fin 3) : PosShare TreeShare :=
  if j = 0 then fullShare.left else if j = 1 then fullShare.right.left else fullShare.right.right
def agsPts (c : Dev nD) (j : Fin 3) (f : Buf (Elt F) (agsM.view.loc (c : Thread nD τ))) : sProp 𝕄 :=
  agsM.view.loc (c : Thread nD τ) ↦[agsM.view.set]{qAG j} f

abbrev N : ℕ := (rsM 0).view.dmaCredit
theorem N_pos : 0 < N := View.dmaCredit_pos _ (by decide)

/-! ## The schedule, at what each device's partials (`pv`) and sums (`rv`) are -/

abbrev Blk (F : FTy → Type) : Type := S512x1024.Idx → Elt F .bf16

variable (pv : Dev nD → Fin 4 → Blk F) (rv : Dev nD → Blk F)

def barPay (c p : Dev nD) : sProp 𝕄 :=
  iprop((∃ f, rsPts p (slotOf c p) f) ∗ (∃ f, agPts p (slotOf c p) f)
    ∗ reached ER (rRSCell p (slotOf c p)) 0 ∗ reached ER (rAGCell p (slotOf c p)) 0)
def sRSPay (c : Dev nD) (k : Fin 4) : sProp 𝕄 := iprop(∃ f, rowPts c k f)
def rRSPay (c : Dev nD) (j : Fin 3) : sProp 𝕄 :=
  iprop(∃ f, rsGot c j (pv (pe c j) (own c)) f)
def sAGPay (c : Dev nD) (j : Fin 3) : sProp 𝕄 := iprop(∃ f, agsPts c j f)
def rAGPay (c : Dev nD) (j : Fin 3) : sProp 𝕄 :=
  iprop(∃ f, agGot c j (rv (pe c j)) f)

def dutiesOf (c : Dev nD) : SemLoc sig → Finset (Fin 4)
  | .reg s => if s = barrier0 then Finset.univ.erase c else ∅
  | .dma n => if n.val < 6 then ∅ else if n.val < 10 then (if n.val = 6 + (own c).val then ∅ else {0}) else {0}

def payOf (c : Dev nD) (d : Fin 4) : SemLoc sig → sProp 𝕄
  | .reg _ => barPay c d
  | .dma n =>
    if n.val < 10 then sRSPay c ⟨(n.val - 6) % 4, Nat.mod_lt _ (by decide)⟩
    else if n.val < 13 then rRSPay pv c ⟨(n.val - 10) % 3, Nat.mod_lt _ (by decide)⟩
    else if n.val < 16 then sAGPay c ⟨(n.val - 13) % 3, Nat.mod_lt _ (by decide)⟩
    else rAGPay rv c ⟨(n.val - 16) % 3, Nat.mod_lt _ (by decide)⟩

def amtOf : SemLoc sig → ℕ
  | .reg _ => 1
  | .dma _ => N

theorem amtOf_pos (s : SemLoc sig) : 0 < amtOf s := by
  cases s
  · exact Nat.one_pos
  · exact N_pos

def Rd : Rounds.Schedule (GSem nD τ sig) (Fin 4) 𝕄 where
  duties g r := if r = 0 ∧ g.1.2 = .tc then dutiesOf g.1.1 g.2 else ∅
  unitless _ := False
  amount g _ _ := amtOf g.2
  payload g _ d := payOf pv rv g.1.1 d g.2
  amount_pos g _ _ _ := amtOf_pos g.2

instance rowPts_storable (c : Dev nD) (k : Fin 4) (f : Buf (Elt F) ((rowM k).view.loc (c : Thread nD τ))) :
    BI.Storable (upEmb : UEmb _ 𝕄) (rowPts c k f) := by unfold rowPts; infer_instance
instance rsPts_storable (c : Dev nD) (j : Fin 3) (f : Buf (Elt F) ((rsM j).view.loc (c : Thread nD τ))) :
    BI.Storable (upEmb : UEmb _ 𝕄) (rsPts c j f) := by unfold rsPts; infer_instance
instance agPts_storable (c : Dev nD) (j : Fin 3) (f : Buf (Elt F) ((agM j).view.loc (c : Thread nD τ))) :
    BI.Storable (upEmb : UEmb _ 𝕄) (agPts c j f) := by unfold agPts; infer_instance
instance agsPts_storable (c : Dev nD) (j : Fin 3) (f : Buf (Elt F) (agsM.view.loc (c : Thread nD τ))) :
    BI.Storable (upEmb : UEmb _ 𝕄) (agsPts c j f) := by unfold agsPts; infer_instance
instance rsGot_storable (c : Dev nD) (j : Fin 3) (v : S512x1024.Idx → Elt F .bf16) (f : Buf (Elt F) ((rsM j).view.loc (c : Thread nD τ))) :
    BI.Storable (upEmb : UEmb _ 𝕄) (rsGot c j v f) := by unfold rsGot; infer_instance
instance agGot_storable (c : Dev nD) (j : Fin 3) (v : S512x1024.Idx → Elt F .bf16) (f : Buf (Elt F) ((agM j).view.loc (c : Thread nD τ))) :
    BI.Storable (upEmb : UEmb _ 𝕄) (agGot c j v f) := by unfold agGot; infer_instance

instance barPay_storable (c p : Dev nD) : BI.Storable (upEmb : UEmb _ 𝕄) (barPay c p) := by
  unfold barPay
  infer_instance
instance sRSPay_storable (c : Dev nD) (k : Fin 4) : BI.Storable (upEmb : UEmb _ 𝕄) (sRSPay c k) := by
  unfold sRSPay; infer_instance
instance rRSPay_storable (c : Dev nD) (j : Fin 3) : BI.Storable (upEmb : UEmb _ 𝕄) (rRSPay pv c j) := by
  unfold rRSPay; infer_instance
instance sAGPay_storable (c : Dev nD) (j : Fin 3) : BI.Storable (upEmb : UEmb _ 𝕄) (sAGPay c j) := by
  unfold sAGPay; infer_instance
instance rAGPay_storable (c : Dev nD) (j : Fin 3) : BI.Storable (upEmb : UEmb _ 𝕄) (rAGPay rv c j) := by
  unfold rAGPay; infer_instance

instance payOf_storable (c : Dev nD) (d : Fin 4) (s : SemLoc sig) : BI.Storable (upEmb : UEmb _ 𝕄) (payOf pv rv c d s) := by
  cases s with
  | reg s => exact barPay_storable c d
  | dma n => dsimp only [payOf]; (repeat' split) <;> infer_instance

instance Rd_storable (g : GSem nD τ sig) (r : ℕ) (d : Fin 4) : BI.Storable (upEmb : UEmb _ 𝕄) ((Rd pv rv).payload g r d) :=
  payOf_storable pv rv g.1.1 d g.2

section Tables

variable (c : Dev nD)

theorem duties_bar : (Rd pv rv).duties (barCell c) 0 = Finset.univ.erase c := rfl
theorem duties_sRS (k : Fin 4) (hk : k ≠ own c) : (Rd pv rv).duties (sRSCell c k) 0 = {0} := by
  show dutiesOf c (.dma (sRS k)) = {0}
  revert c k; decide
theorem duties_sRS_own : (Rd pv rv).duties (sRSCell c (own c)) 0 = ∅ := by
  show dutiesOf c (.dma (sRS (own c))) = ∅
  revert c; decide
theorem duties_rRS (j : Fin 3) : (Rd pv rv).duties (rRSCell c j) 0 = {0} := by
  show dutiesOf c (.dma (rRS j)) = {0}
  revert c j; decide
theorem duties_sAG (j : Fin 3) : (Rd pv rv).duties (sAGCell c j) 0 = {0} := by
  show dutiesOf c (.dma (sAG j)) = {0}
  revert c j; decide
theorem duties_rAG (j : Fin 3) : (Rd pv rv).duties (rAGCell c j) 0 = {0} := by
  show dutiesOf c (.dma (rAG j)) = {0}
  revert c j; decide
theorem duties_later (g : GSem nD τ sig) : ∀ r, 1 ≤ r → (Rd pv rv).duties g r = ∅ :=
  fun r hr => if_neg (fun h => by omega)

theorem amount_bar (d : Fin 4) : (Rd pv rv).amount (barCell c) 0 d = 1 := rfl
theorem amount_dma (n : DmaSem sig) (d : Fin 4) : (Rd pv rv).amount ((c : Thread nD τ), .dma n) 0 d = N := rfl

theorem expect_bar : (Rd pv rv).expect (barCell c) 0 = 3 := by
  unfold Schedule.expect Schedule.amountOf
  rw [duties_bar]
  show ∑ d ∈ Finset.univ.erase c, 1 = 3
  revert c; decide
theorem expect_dma (n : DmaSem sig) (h : (Rd pv rv).duties ((c : Thread nD τ), .dma n) 0 = {0}) :
    (Rd pv rv).expect ((c : Thread nD τ), .dma n) 0 = N := by
  unfold Schedule.expect Schedule.amountOf
  rw [h, Finset.sum_singleton, amount_dma]

theorem payload_bar (d : Fin 4) : (Rd pv rv).payload (barCell c) 0 d = barPay c d := rfl
theorem payload_sRS (k d : Fin 4) : (Rd pv rv).payload (sRSCell c k) 0 d = sRSPay c k := by
  show payOf pv rv c d (.dma (sRS k)) = _
  fin_cases k <;> rfl
theorem payload_rRS (j : Fin 3) (d : Fin 4) : (Rd pv rv).payload (rRSCell c j) 0 d = rRSPay pv c j := by
  show payOf pv rv c d (.dma (rRS j)) = _
  fin_cases j <;> rfl
theorem payload_sAG (j : Fin 3) (d : Fin 4) : (Rd pv rv).payload (sAGCell c j) 0 d = sAGPay c j := by
  show payOf pv rv c d (.dma (sAG j)) = _
  fin_cases j <;> rfl
theorem payload_rAG (j : Fin 3) (d : Fin 4) : (Rd pv rv).payload (rAGCell c j) 0 d = rAGPay rv c j := by
  show payOf pv rv c d (.dma (rAG j)) = _
  fin_cases j <;> rfl

theorem rest_dma (n : DmaSem sig) (h : (Rd pv rv).duties ((c : Thread nD τ), .dma n) 0 = {0}) :
    bigSep ((Rd pv rv).duties ((c : Thread nD τ), .dma n) 0 \ ∅) (fun d => (Rd pv rv).payload ((c : Thread nD τ), .dma n) 0 d)
      = (Rd pv rv).payload ((c : Thread nD τ), .dma n) 0 0 := by
  rw [Finset.sdiff_empty, h, bigSep_singleton]

theorem erase_eq : Finset.univ.erase c = {pe c 0, pe c 1, pe c 2} := by revert c; decide
theorem rest_bar : bigSep ((Rd pv rv).duties (barCell c) 0 \ ∅) (fun d => (Rd pv rv).payload (barCell c) 0 d)
    = iprop(barPay c (pe c 0) ∗ barPay c (pe c 1) ∗ barPay c (pe c 2)) := by
  rw [Finset.sdiff_empty, duties_bar, erase_eq, BI.bigSep_insert (by revert c; decide), BI.bigSep_insert (by revert c; decide), BI.bigSep_singleton]
  rfl

end Tables

/-! ## What each device owes; the levels -/

/-- What device c owes for chunk k: the owner's receive credit, nothing when it collects the chunk itself. -/
def dueRS (c : Dev nD) (k : Fin 4) : CellTallies nD τ sig Unit :=
  if k = own c then 0 else tallyAt (rRSCell (⟨(k.val + 3) % 4, Nat.mod_lt _ (by decide)⟩ : Dev nD) (slotOf c ⟨(k.val + 3) % 4, Nat.mod_lt _ (by decide)⟩)) () N
def dueAG (c : Dev nD) : CellTallies nD τ sig Unit :=
  tallyAt (rAGCell (pm c 0) 0) () N + tallyAt (rAGCell (pm c 1) 1) () N + tallyAt (rAGCell (pm c 2) 2) () N
def dueBar (c : Dev nD) : CellTallies nD τ sig Unit :=
  tallyAt (barCell (pe c 2)) () 1 + tallyAt (barCell (pe c 1)) () 1 + tallyAt (barCell (pe c 0)) () 1
def dueSend (c : Dev nD) : CellTallies nD τ sig Unit := dueAG c + dueRS c 3 + dueRS c 2 + dueRS c 1 + dueRS c 0
def O₀ (c : Dev nD) : CellTallies nD τ sig Unit := dueSend c + dueBar c

def L (g : GSem nD τ sig) : Finset Unit := if g.1.2 = .tc then {()} else ∅
/-- The barrier cells at 1, the reduce-scatter's receive cells at 2, the all-gather's at 3, the rest at 0. -/
def lvS : SemLoc sig → ℕ
  | .reg s => 1
  | .dma n => if n.val < 10 then 0 else if n.val < 13 then 2 else if n.val < 16 then 0 else 3
def lv (g : GSem nD τ sig) (_ : Unit) : ℕ := lvS g.2

theorem L_tc (c : Dev nD) (sm : SemLoc sig) : L ((c : Thread nD τ), sm) = {()} := if_pos rfl
theorem L_of_ne (g : GSem nD τ sig) (h : g.1.2 ≠ .tc) : L g = ∅ := if_neg h

/-- A tally whose cells all lie on TensorCores at a level above n. -/
def Above (n : ℕ) (O : CellTallies nD τ sig Unit) : Prop := ∀ g u, 0 < O g u → g.1.2 = .tc ∧ n < lvS g.2

theorem above_zero (n : ℕ) : Above n 0 := fun g u h => absurd h (Nat.lt_irrefl 0)
theorem above_add {n : ℕ} {O O' : CellTallies nD τ sig Unit} (h : Above n O) (h' : Above n O') : Above n (O + O') := by
  intro g u hg
  rcases Nat.eq_zero_or_pos (O g u) with h0 | h0
  · rcases Nat.eq_zero_or_pos (O' g u) with h1 | h1
    · have : (O + O') g u = O g u + O' g u := rfl
      omega
    · exact h' g u h1
  · exact h g u h0
theorem above_tally {n : ℕ} (c : Dev nD) (s : SemLoc sig) (k : ℕ) (hs : n < lvS s) : Above n (tallyAt ((c : Thread nD τ), s) () k) := by
  intro g u hg
  rw [tallyAt_apply] at hg
  by_cases h : g = ((c : Thread nD τ), s) ∧ u = ()
  · rw [h.1]; exact ⟨rfl, hs⟩
  · rw [if_neg h] at hg; exact absurd hg (Nat.lt_irrefl 0)

theorem mayWait_of_above (c : Dev nD) (s : SemLoc sig) {n : ℕ} (hs : lvS s ≤ n) {O : CellTallies nD τ sig Unit} (h : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by
      obtain ⟨h1, h2⟩ := h g u hg
      show u ∈ L g
      unfold L; rw [if_pos h1]; exact Finset.mem_singleton_self _)
    (fun p hp => by rw [Finset.mem_singleton.mp hp]; exact hs)
    (fun g u hg => (h g u hg).2)

theorem lv_rRS (j : Fin 3) : lvS (.dma (rRS j)) = 2 := by revert j; decide
theorem lv_rAG (j : Fin 3) : lvS (.dma (rAG j)) = 3 := by revert j; decide

theorem above_dueRS (c : Dev nD) (k : Fin 4) : Above 1 (dueRS c k) := by
  unfold dueRS
  split
  · exact above_zero _
  · exact above_tally _ _ _ (by rw [lv_rRS]; decide)
theorem above_dueAG (c : Dev nD) {n : ℕ} (hn : n < 3) : Above n (dueAG c) :=
  above_add (above_add (above_tally _ _ _ (by rw [lv_rAG]; exact hn)) (above_tally _ _ _ (by rw [lv_rAG]; exact hn)))
    (above_tally _ _ _ (by rw [lv_rAG]; exact hn))
theorem above_dueSend (c : Dev nD) : Above 1 (dueSend c) :=
  above_add (above_add (above_add (above_add (above_dueAG c (by decide)) (above_dueRS c 3)) (above_dueRS c 2)) (above_dueRS c 1)) (above_dueRS c 0)

theorem mayWait_bar (c : Dev nD) : (levAts L lv : sProp 𝕄) ⊢ MayWait (c : Thread nD τ) (.reg barrier0) () (dueSend c) :=
  mayWait_of_above c _ (n := 1) (by decide) (above_dueSend c)
theorem mayWait_rRS (c : Dev nD) (j : Fin 3) : (levAts L lv : sProp 𝕄) ⊢ MayWait (c : Thread nD τ) (.dma (rRS j)) () (dueAG c) :=
  mayWait_of_above c _ (n := 2) (by rw [lv_rRS]) (above_dueAG c (by decide))

end Cert.KernelIdeal.Own

end
-- ==== Proof.Steps.lean ====
/-
  The remote steps of the kernel, each stated once for every device: paying a peer's barrier cell, the barrier's wait, the
  copy of a partial product onto its owner's slot, the copy of the sum onto a peer's slot, the waits for landings and for
  sends, and the closing of a cell.
-/
module

public import proofs.«01_k».proof.Proof.Protocol

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

abbrev 𝒱₀ : Variants := Variants.none

variable (pv : Dev nD → Fin 4 → Blk F) (rv : Dev nD → Blk F)

theorem dev1_eq (c : Dev nD) : (⟨k0_dev1 c, k0_dev1_lt c⟩ : Dev nD) = pe c 0 := by revert c; decide
theorem dev2_eq (c : Dev nD) : (⟨k0_dev2 c, k0_dev2_lt c⟩ : Dev nD) = pe c 1 := by revert c; decide
theorem dev3_eq (c : Dev nD) : (⟨k0_dev3 c, k0_dev3_lt c⟩ : Dev nD) = pe c 2 := by revert c; decide

/-- Device c pays the barrier cell of the device that writes its slots number j, and hands those slots over. -/
theorem signal_step (c : Dev nD) (j : Fin 3) {κ : ℕ} {α : Type} {O₁ : CellTallies nD τ sig Unit} {W : Waits sig Unit}
    {d : Dev nD} {n : ℤ} {sm : Sem sig} (hd : d = pe c j) (hn : n = 1) (hsm : sm = barrier0) (O : CellTallies nD τ sig Unit)
    (hO : O₁ = O + tallyAt (barCell (pe c j)) () 1)
    {k : PUnit → Prog (TpuEff nD τ sig (Elt F) Λ₀ .tc) α} {Q : α → sProp 𝕄} :
    iprop(cellInv ER (Rd pv rv) κ (barCell (pe c j)) ∗ owes (c : Thread nD τ) O₁ W ∗ dutyTok ER (barCell (pe c j)) 0 (c : Fin 4)
        ∗ ((∃ f, rsPts c j f) ∗ (∃ f, agPts c j f) ∗ reached ER (rRSCell c j) 0 ∗ reached ER (rAGCell c j) 0)
        ∗ reached ER (barCell (pe c j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d, .tc) sm n) k) Q) := by
  subst hd hn hsm
  iintro ⟨HI, HO, Ht, Hpay, Hr⟩ Hk
  iapply (Rounds.wp_signal 𝒱₀ ER (Rd pv rv) (c : Thread nD τ) none
      (dst := (pe c j : Thread nD τ)) (sem := barrier0) (r := 0) (d := (c : Fin 4)) (κ := κ)
      (by rw [duties_bar]; exact Finset.mem_erase.mpr ⟨(pe_ne c j).symm, Finset.mem_univ _⟩) (amount_bar pv rv (pe c j) c) () O hO)
    $$ [HI HO Ht Hpay Hr]
  · isplitl [HI]; · iexact HI
    isplitl [HO]; · iexact HO
    isplitl [Ht]; · iexact Ht
    isplitl [Hpay]
    · rw [payload_bar]; unfold barPay; rw [slotOf_pe]; iexact Hpay
    · iexact Hr
  iexact Hk

/-- The barrier's wait: the three units come with the slots that device c writes on the three others. -/
theorem bar_step (c : Dev nD) {κ : ℕ} {α : Type} {W : Waits sig Unit} {n : ℕ} {sm : Sem sig} (hn : n = 3) (hsm : sm = barrier0)
    {k : PUnit → Prog (TpuEff nD τ sig (Elt F) Λ₀ .tc) α} {Q : α → sProp 𝕄} :
    iprop(cellInv ER (Rd pv rv) κ (barCell c) ∗ cred (tallyAt (barCell c) () 3) ∗ owes (c : Thread nD τ) (dueSend c) W
        ∗ levAts L lv ∗ atPos ER (barCell c) 0 ∅ 0)
      ⊢ iprop(((∃ W', owes (c : Thread nD τ) (dueSend c) W') ∗ atPos ER (barCell c) 1 ∅ 0
            ∗ barPay c (pe c 0) ∗ barPay c (pe c 1) ∗ barPay c (pe c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm n) k) Q) := by
  subst hn hsm
  iintro ⟨HI, Hc, HO, #Hlev, Hat⟩ Hk
  iapply (Rounds.wp_wait_rest_token 𝒱₀ ER (Rd pv rv) (c : Thread nD τ) none (κ := κ)
      (wpE_semWait_eq 𝒱₀ (c : Thread nD τ) none Set.univ) (Set.mem_univ _) () (O := dueSend c) (W := W) (R := 0) (m := 0) (T := ∅)
      ((Nat.zero_add 3).trans (expect_bar pv rv c).symm)) $$ [HI Hc HO Hat]
  · isplitl [HI]; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar pv rv c)) $$ Hpay
  iapply Hk
  isplitl [HO]; · iexists _; iexact HO
  isplitl [Hat]; · iexact Hat
  iexact Hp

/-- The device that collects chunk k. -/
def ownerOf (k : Fin 4) : Dev nD := ⟨(k.val + 3) % 4, Nat.mod_lt _ (by decide)⟩
theorem own_ownerOf (k : Fin 4) : own (ownerOf k) = k := by revert k; decide
theorem pe_ownerOf (c : Dev nD) (k : Fin 4) (h : k ≠ own c) : pe (ownerOf k) (slotOf c (ownerOf k)) = c := by revert c k; decide

theorem O₀_peel (c : Dev nD) : O₀ c = dueSend c + tallyAt (barCell (pe c 2)) () 1 + tallyAt (barCell (pe c 1)) () 1 + tallyAt (barCell (pe c 0)) () 1 := by
  unfold O₀ dueBar
  abel

/-- Device c's copy of its partial of chunk k onto the owner's slot. -/
theorem send_step (c : Dev nD) (k : Fin 4) (hk : k ≠ own c) {κ₁ κ₂ : ℕ} {α : Type} {W : Waits sig Unit}
    {p : Dev nD} (hp : p = ownerOf k) {s : Fin 3} (hs : s = slotOf c (ownerOf k)) {O₁ O : CellTallies nD τ sig Unit}
    (hO : O₁ = O + dueRS c k)
    {hsc : (rsM s).view.ref.isScScratch = false} {hsrc : (rowM k).view.WordExact} {hdst : (rsM s).view.WordExact}
    {hsem : DmaTarget.Typed (nD := nD) (τ := τ) (p := .tc) (s := S512x1024) (e := .bf16) .vmem (.dma (rRS s) : SemLoc sig) (.remote (Dev.tc p : Thread nD τ) (rsM s) (.dma (sRS k)) hsc)}
    {fs : Buf (Elt F) ((rowM k).view.loc (c : Thread nD τ))} (hfs : (rowM k).view.read (Elt F) fs = pv c k)
    {kt : PUnit → Prog (TpuEff nD τ sig (Elt F) Λ₀ .tc) α} {Q : α → sProp 𝕄} :
    iprop(cellInv ER (Rd pv rv) κ₁ (sRSCell c k) ∗ cellInv ER (Rd pv rv) κ₂ (rRSCell (ownerOf k) s) ∗ rowPts c k fs
        ∗ (∃ fd, rsPts (ownerOf k) s fd) ∗ owes (c : Thread nD τ) O₁ W ∗ dutyTok ER (sRSCell c k) 0 0 ∗ reached ER (sRSCell c k) 0
        ∗ dutyTok ER (rRSCell (ownerOf k) s) 0 0 ∗ reached ER (rRSCell (ownerOf k) s) 0)
      ⊢ iprop(((cred (tallyAt (sRSCell c k) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma (rowM k) (.remote (Dev.tc p : Thread nD τ) (rsM s) (.dma (sRS k)) hsc) (.dma (rRS s)) hsrc hdst hsem) kt) Q) := by
  subst hp
  iintro ⟨HI₁, HI₂, Hs, ⟨%fd, Hd⟩, HO, Ht₁, Hr₁, Ht₂, Hr₂⟩ Hk
  iapply (Rounds.wp_send_pointsTo 𝒱₀ ER (Rd pv rv) (c : Thread nD τ) none (c' := (ownerOf k : Thread nD τ)) (src := rowM k) (dst := rsM s)
      (sS := .dma (sRS k)) (sem := .dma (rRS s)) (q := fullShare) (fs := fs) (κ₁ := κ₁) (κ₂ := κ₂)
      (r₁ := 0) (r₂ := 0) (d₁ := 0) (d₂ := 0) (fd := fd)
      (by rw [duties_sRS pv rv c k hk]; exact Finset.mem_singleton_self _) (by rw [duties_rRS]; exact Finset.mem_singleton_self _)
      () () N rfl (amount_dma pv rv c (sRS k) 0) (amount_dma pv rv (ownerOf k) (rRS s) 0) (O₀ := O₁) O
      (by rw [hO]; unfold dueRS; rw [if_neg hk, hs]; rfl) (W := W)
      (by rw [payload_sRS]; unfold sRSPay rowPts; iintro H; iexists fs; iexact H)
      (by
        rw [payload_rRS]; unfold rRSPay rsGot
        iintro H
        iexists ((rsM s).view.write (Elt F) fd ((rowM k).view.read (Elt F) fs) Finset.univ)
        isplitr
        · ipureintro
          rw [View.read_write_univ, hfs, own_ownerOf, hs, pe_ownerOf c k hk]
        · unfold rsPts; iexact H)) $$ [HI₁ HI₂ Hs Hd HO Ht₁ Hr₁ Ht₂ Hr₂]
  · isplitl [HI₁]; · iexact HI₁
    isplitl [HI₂]; · iexact HI₂
    isplitl [Hs]; · unfold rowPts; iexact Hs
    isplitl [Hd]; · unfold rsPts; iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc] <;> iassumption

/-- Device c's i-th copy of the sum it collected, onto slot j of the device before. -/
theorem send_sum_step (c : Dev nD) (i j : Fin 3) {κ₁ κ₂ : ℕ} {α : Type} {W : Waits sig Unit}
    {p : Dev nD} (hp : p = pm c j) {O₁ O : CellTallies nD τ sig Unit} (hO : O₁ = O + tallyAt (rAGCell (pm c j) j) () N)
    {hsc : (agM j).view.ref.isScScratch = false} {hsrc : agsM.view.WordExact} {hdst : (agM j).view.WordExact}
    {hsem : DmaTarget.Typed (nD := nD) (τ := τ) (p := .tc) (s := S512x1024) (e := .bf16) .vmem (.dma (rAG j) : SemLoc sig) (.remote (Dev.tc p : Thread nD τ) (agM j) (.dma (sAG i)) hsc)}
    {fs : Buf (Elt F) (agsM.view.loc (c : Thread nD τ))} (hfs : agsM.view.read (Elt F) fs = rv c)
    {kt : PUnit → Prog (TpuEff nD τ sig (Elt F) Λ₀ .tc) α} {Q : α → sProp 𝕄} :
    iprop(cellInv ER (Rd pv rv) κ₁ (sAGCell c i) ∗ cellInv ER (Rd pv rv) κ₂ (rAGCell (pm c j) j) ∗ agsPts c i fs
        ∗ (∃ fd, agPts (pm c j) j fd) ∗ owes (c : Thread nD τ) O₁ W ∗ dutyTok ER (sAGCell c i) 0 0 ∗ reached ER (sAGCell c i) 0
        ∗ dutyTok ER (rAGCell (pm c j) j) 0 0 ∗ reached ER (rAGCell (pm c j) j) 0)
      ⊢ iprop(((cred (tallyAt (sAGCell c i) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma agsM (.remote (Dev.tc p : Thread nD τ) (agM j) (.dma (sAG i)) hsc) (.dma (rAG j)) hsrc hdst hsem) kt) Q) := by
  subst hp
  iintro ⟨HI₁, HI₂, Hs, ⟨%fd, Hd⟩, HO, Ht₁, Hr₁, Ht₂, Hr₂⟩ Hk
  iapply (Rounds.wp_send_pointsTo 𝒱₀ ER (Rd pv rv) (c : Thread nD τ) none (c' := (pm c j : Thread nD τ)) (src := agsM) (dst := agM j)
      (sS := .dma (sAG i)) (sem := .dma (rAG j)) (q := qAG i) (fs := fs) (κ₁ := κ₁) (κ₂ := κ₂)
      (r₁ := 0) (r₂ := 0) (d₁ := 0) (d₂ := 0) (fd := fd)
      (by rw [duties_sAG]; exact Finset.mem_singleton_self _) (by rw [duties_rAG]; exact Finset.mem_singleton_self _)
      () () N rfl (amount_dma pv rv c (sAG i) 0) (amount_dma pv rv (pm c j) (rAG j) 0) O hO (W := W)
      (by rw [payload_sAG]; unfold sAGPay agsPts; iintro H; iexists fs; iexact H)
      (by
        rw [payload_rAG]; unfold rAGPay agGot
        iintro H
        iexists ((agM j).view.write (Elt F) fd (agsM.view.read (Elt F) fs) Finset.univ)
        isplitr
        · ipureintro
          rw [View.read_write_univ, hfs, pe_pm]
        · unfold agPts; iexact H)) $$ [HI₁ HI₂ Hs Hd HO Ht₁ Hr₁ Ht₂ Hr₂]
  · isplitl [HI₁]; · iexact HI₁
    isplitl [HI₂]; · iexact HI₂
    isplitl [Hs]; · unfold agsPts; iexact Hs
    isplitl [Hd]; · unfold agPts; iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc] <;> iassumption

/-- A wait for the one landing of one of device c's own cells: its payload comes back. -/
theorem wait_step (c : Dev nD) (n : DmaSem sig) (hd : (Rd pv rv).duties ((c : Thread nD τ), .dma n) 0 = {0}) {κ : ℕ} {α : Type}
    {W : Waits sig Unit} {O : CellTallies nD τ sig Unit} {sp sp' : Space} {s s' : Shape} {e e' : EltTy}
    {src : Memref sig .tc sp' s' e'} {κ' : Kind} {dst : Memref sig κ' sp s e} {hsrc : src.view.WordExact} {hdst : dst.view.WordExact}
    (hN : dst.view.dmaCredit = N)
    {k : PUnit → Prog (TpuEff nD τ sig (Elt F) Λ₀ .tc) α} {Q : α → sProp 𝕄} :
    iprop(cellInv ER (Rd pv rv) κ ((c : Thread nD τ), .dma n) ∗ cred (tallyAt ((c : Thread nD τ), .dma n) () N) ∗ owes (c : Thread nD τ) O W
        ∗ MayWait (c : Thread nD τ) (.dma n) () O ∗ atPos ER ((c : Thread nD τ), .dma n) 0 ∅ 0)
      ⊢ iprop(((∃ W', owes (c : Thread nD τ) O W') ∗ atPos ER ((c : Thread nD τ), .dma n) 1 ∅ 0
            ∗ (Rd pv rv).payload ((c : Thread nD τ), .dma n) 0 0 -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 n src dst hsrc hdst) k) Q) := by
  iintro ⟨HI, Hc, HO, Hm, Hat⟩ Hk
  iapply (Rounds.wp_wait_rest_token 𝒱₀ ER (Rd pv rv) (c : Thread nD τ) none (κ := κ)
      (wpE_waitDma2_eq 𝒱₀ (c : Thread nD τ) none Set.univ) (Set.mem_univ _) () (O := O) (W := W) (R := 0) (m := 0) (T := ∅)
      ((Nat.zero_add _).trans (hN.trans (expect_dma pv rv c n hd).symm))) $$ [HI Hc HO Hm Hat]
  · isplitl [HI]; · iexact HI
    isplitl [Hc]; · rw [hN]; iexact Hc
    isplitl [HO]; · iexact HO
    isplitl [Hm]; · iexact Hm
    iexact Hat
  iintro ⟨HO, Hat, -, Hpay⟩
  ihave Hp := (Entails.of_eq (rest_dma pv rv c n hd)) $$ Hpay
  iapply Hk
  isplitl [HO]; · iexists _; iexact HO
  isplitl [Hat]; · iexact Hat
  iexact Hp

/-- A cell past its one round closes, its counter back at zero. -/
theorem close_step (κ : ℕ) (g : GSem nD τ sig) :
    iprop(cellInv ER (Rd pv rv) κ g ∗ atPos ER g 1 ∅ 0) ⊢ (|={Set.univ}=> semVal g 0 : sProp 𝕄) :=
  Rounds.cell_close ER (Rd pv rv) (Set.mem_univ κ) id (duties_later pv rv g)
/-- The send cell of the chunk that a device keeps closes at once: nothing is ever landed on it. -/
theorem close_own (κ : ℕ) (c : Dev nD) :
    iprop(cellInv ER (Rd pv rv) κ (sRSCell c (own c)) ∗ atPos ER (sRSCell c (own c)) 0 ∅ 0) ⊢ (|={Set.univ}=> semVal (sRSCell c (own c)) 0 : sProp 𝕄) :=
  Rounds.cell_close ER (Rd pv rv) (Set.mem_univ κ) id (fun r _ => by
    rcases Nat.eq_zero_or_pos r with h | h
    · subst h; exact duties_sRS_own pv rv c
    · exact duties_later pv rv _ r h)

end Cert.KernelIdeal.Own

end
-- ==== Proof.Send.lean ====
/-
  The parts of a device's walk that depend on its place: the copies that only some devices make, the store of the chunk a
  device keeps, and the waits for the copies made.
-/
module

public import proofs.«01_k».proof.Proof.Steps

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (pv : Dev nD → Fin 4 → Blk F) (rv : Dev nD → Blk F)

theorem cond2_iff (c : Dev nD) : k0_cond2 c = 1#1 ↔ (own c ≠ 0 ∧ slotOf c (ownerOf 0) = 0) := by revert c; decide
theorem dev4_eq (c : Dev nD) (h : k0_cond2 c = 1#1) : (⟨k0_dev4, k0_dev4_lt c h⟩ : Dev nD) = ownerOf 0 := by revert c; decide
theorem cond3_iff (c : Dev nD) : k0_cond3 c = 1#1 ↔ (own c ≠ 0 ∧ slotOf c (ownerOf 0) = 1) := by revert c; decide
theorem dev5_eq (c : Dev nD) (h : k0_cond3 c = 1#1) : (⟨k0_dev5, k0_dev5_lt c h⟩ : Dev nD) = ownerOf 0 := by revert c; decide
theorem cond4_iff (c : Dev nD) : k0_cond4 c = 1#1 ↔ (own c ≠ 0 ∧ slotOf c (ownerOf 0) = 2) := by revert c; decide
theorem dev6_eq (c : Dev nD) (h : k0_cond4 c = 1#1) : (⟨k0_dev6, k0_dev6_lt c h⟩ : Dev nD) = ownerOf 0 := by revert c; decide
theorem cond6_iff (c : Dev nD) : k0_cond6 c = 1#1 ↔ (own c ≠ 1 ∧ slotOf c (ownerOf 1) = 0) := by revert c; decide
theorem dev7_eq (c : Dev nD) (h : k0_cond6 c = 1#1) : (⟨k0_dev7, k0_dev7_lt c h⟩ : Dev nD) = ownerOf 1 := by revert c; decide
theorem cond7_iff (c : Dev nD) : k0_cond7 c = 1#1 ↔ (own c ≠ 1 ∧ slotOf c (ownerOf 1) = 1) := by revert c; decide
theorem dev8_eq (c : Dev nD) (h : k0_cond7 c = 1#1) : (⟨k0_dev8, k0_dev8_lt c h⟩ : Dev nD) = ownerOf 1 := by revert c; decide
theorem cond8_iff (c : Dev nD) : k0_cond8 c = 1#1 ↔ (own c ≠ 1 ∧ slotOf c (ownerOf 1) = 2) := by revert c; decide
theorem dev9_eq (c : Dev nD) (h : k0_cond8 c = 1#1) : (⟨k0_dev9, k0_dev9_lt c h⟩ : Dev nD) = ownerOf 1 := by revert c; decide
theorem cond10_iff (c : Dev nD) : k0_cond10 c = 1#1 ↔ (own c ≠ 2 ∧ slotOf c (ownerOf 2) = 0) := by revert c; decide
theorem dev10_eq (c : Dev nD) (h : k0_cond10 c = 1#1) : (⟨k0_dev10, k0_dev10_lt c h⟩ : Dev nD) = ownerOf 2 := by revert c; decide
theorem cond11_iff (c : Dev nD) : k0_cond11 c = 1#1 ↔ (own c ≠ 2 ∧ slotOf c (ownerOf 2) = 1) := by revert c; decide
theorem dev11_eq (c : Dev nD) (h : k0_cond11 c = 1#1) : (⟨k0_dev11, k0_dev11_lt c h⟩ : Dev nD) = ownerOf 2 := by revert c; decide
theorem cond12_iff (c : Dev nD) : k0_cond12 c = 1#1 ↔ (own c ≠ 2 ∧ slotOf c (ownerOf 2) = 2) := by revert c; decide
theorem dev12_eq (c : Dev nD) (h : k0_cond12 c = 1#1) : (⟨k0_dev12, k0_dev12_lt c h⟩ : Dev nD) = ownerOf 2 := by revert c; decide
theorem cond14_iff (c : Dev nD) : k0_cond14 c = 1#1 ↔ (own c ≠ 3 ∧ slotOf c (ownerOf 3) = 0) := by revert c; decide
theorem dev13_eq (c : Dev nD) (h : k0_cond14 c = 1#1) : (⟨k0_dev13, k0_dev13_lt c h⟩ : Dev nD) = ownerOf 3 := by revert c; decide
theorem cond15_iff (c : Dev nD) : k0_cond15 c = 1#1 ↔ (own c ≠ 3 ∧ slotOf c (ownerOf 3) = 1) := by revert c; decide
theorem dev14_eq (c : Dev nD) (h : k0_cond15 c = 1#1) : (⟨k0_dev14, k0_dev14_lt c h⟩ : Dev nD) = ownerOf 3 := by revert c; decide
theorem cond16_iff (c : Dev nD) : k0_cond16 c = 1#1 ↔ (own c ≠ 3 ∧ slotOf c (ownerOf 3) = 2) := by revert c; decide
theorem dev15_eq (c : Dev nD) (h : k0_cond16 c = 1#1) : (⟨k0_dev15, k0_dev15_lt c h⟩ : Dev nD) = ownerOf 3 := by revert c; decide
theorem dev16_eq (c : Dev nD) : (⟨k0_dev16 c, k0_dev16_lt c⟩ : Dev nD) = pm c 2 := by revert c; decide
theorem dev17_eq (c : Dev nD) : (⟨k0_dev17 c, k0_dev17_lt c⟩ : Dev nD) = pm c 1 := by revert c; decide
theorem dev18_eq (c : Dev nD) : (⟨k0_dev18 c, k0_dev18_lt c⟩ : Dev nD) = pm c 0 := by revert c; decide
theorem off1_0_eq (c : Dev nD) : k0_off1 c 0#32 = ![512 * ((c.val + 0) % 4), 0] := by revert c; decide
theorem off1_1_eq (c : Dev nD) : k0_off1 c 1#32 = ![512 * ((c.val + 1) % 4), 0] := by revert c; decide
theorem off1_2_eq (c : Dev nD) : k0_off1 c 2#32 = ![512 * ((c.val + 2) % 4), 0] := by revert c; decide
theorem off1_3_eq (c : Dev nD) : k0_off1 c 3#32 = ![512 * ((c.val + 3) % 4), 0] := by revert c; decide

/-! ## Forgetting what a buffer holds -/

theorem forget {c : Dev nD} {r : Ref sig .tc} {f : Buf (Elt F) ((Memref.whole r).view.loc (c : Thread nD τ))} {G : sProp 𝕄} :
    ((Memref.whole r).view.loc (c : Thread nD τ) ↦{fullShare} f)
      ⊢ iprop((∀ g, ((Memref.whole r).view.loc (c : Thread nD τ) ↦{fullShare} g) -∗ G) -∗ G) := by
  iintro H Hk
  iapply Hk
  iexact H

theorem learn {c : Dev nD} {r : Ref sig .tc} {f : Buf (Elt F) ((Memref.whole r).view.loc (c : Thread nD τ))}
    (P : Buf (Elt F) ((Memref.whole r).view.loc (c : Thread nD τ)) → Prop) (h : P f) {G : sProp 𝕄} :
    ((Memref.whole r).view.loc (c : Thread nD τ) ↦{fullShare} f)
      ⊢ iprop((∀ g, ⌜P g⌝ -∗ ((Memref.whole r).view.loc (c : Thread nD τ) ↦{fullShare} g) -∗ G) -∗ G) := by
  iintro H Hk
  iapply Hk $$ %f
  · ipureintro; exact h
  iexact H

theorem row_read (k : Fin 4) (f : (rowM k).view.ty.Contents (Elt F)) (P : S1x512x1024.Idx → Elt F .bf16) :
    (rowM k).view.read (Elt F) (((Memref.whole cc0_scratch13).access (rect4 k)).write (Elt F) f P Finset.univ)
      = shapeCast S512x1024 P shapeCasts_S1x512x1024_S512x1024 :=
  funext fun x => congrFun (View.read_write_univ (v := (Memref.whole cc0_scratch13).access (rect4 k)) f P) _

/-! ## A step only some devices take -/

theorem ite_join {α : Type} (c : Dev nD) {p : Prop} [Decidable p] {A : p → Prog (TpuEff nD τ sig (Elt F) Λ₀ .tc) α}
    {B : Prog (TpuEff nD τ sig (Elt F) Λ₀ .tc) α} {Q : α → sProp 𝕄} (P₁ P₂ : sProp 𝕄)
    (hA : ∀ h, P₁ ⊢ iprop((P₂ -∗ wp frame (wpE (defs₀ (F := F)) 𝒱₀ (c : Thread nD τ) none) Set.univ B Q) -∗ wp frame (wpE (defs₀ (F := F)) 𝒱₀ (c : Thread nD τ) none) Set.univ (A h) Q))
    (hB : ¬p → P₁ ⊢ P₂) :
    P₁ ⊢ iprop((P₂ -∗ wp frame (wpE (defs₀ (F := F)) 𝒱₀ (c : Thread nD τ) none) Set.univ B Q)
      -∗ wp frame (wpE (defs₀ (F := F)) 𝒱₀ (c : Thread nD τ) none) Set.univ (dite p A (fun _ => B)) Q) := by
  by_cases h : p
  · rw [dif_pos h]; exact hA h
  · rw [dif_neg h]
    iintro H Hk
    iapply Hk
    iapply (hB h) $$ H

/-! ## The copies of the partial products -/

/-- What a device needs of the launch for its copy of chunk k; nothing when it keeps the chunk. -/
def sendTok (K : GSem nD τ sig → ℕ) (c : Dev nD) (k : Fin 4) : sProp 𝕄 :=
  if own c = k then iprop(emp) else
    iprop(cellInv ER (Rd pv rv) (K (rRSCell (ownerOf k) (slotOf c (ownerOf k)))) (rRSCell (ownerOf k) (slotOf c (ownerOf k)))
      ∗ dutyTok ER (sRSCell c k) 0 0 ∗ dutyTok ER (rRSCell (ownerOf k) (slotOf c (ownerOf k))) 0 0)
/-- What it needs of the owner's barrier payment. -/
def sendSlot (c : Dev nD) (k : Fin 4) : sProp 𝕄 :=
  if own c = k then iprop(emp) else
    iprop((∃ fd, rsPts (ownerOf k) (slotOf c (ownerOf k)) fd) ∗ reached ER (rRSCell (ownerOf k) (slotOf c (ownerOf k))) 0)

def sendU (K : GSem nD τ sig → ℕ) (c : Dev nD) (k : Fin 4) (s : Fin 3) (O : CellTallies nD τ sig Unit) (W : Waits sig Unit) : sProp 𝕄 :=
  iprop(cellInv ER (Rd pv rv) (K (sRSCell c k)) (sRSCell c k) ∗ cellInv ER (Rd pv rv) (K (rRSCell (ownerOf k) s)) (rRSCell (ownerOf k) s)
    ∗ (∃ fs, ⌜(rowM k).view.read (Elt F) fs = pv c k⌝ ∗ rowPts c k fs)
    ∗ (∃ fd, rsPts (ownerOf k) s fd) ∗ owes (c : Thread nD τ) (O + dueRS c k) W ∗ dutyTok ER (sRSCell c k) 0 0 ∗ reached ER (sRSCell c k) 0
    ∗ dutyTok ER (rRSCell (ownerOf k) s) 0 0 ∗ reached ER (rRSCell (ownerOf k) s) 0)
/-- The copy made: its landing to wait for; the row itself when the chunk is kept. -/
def sent (c : Dev nD) (k : Fin 4) : sProp 𝕄 :=
  if own c = k then iprop(∃ f, rowPts c k f) else cred (tallyAt (sRSCell c k) () N)
/-- Between the three places where the copy of chunk k may be: made before place n, or not yet. -/
def sendSt (K : GSem nD τ sig → ℕ) (c : Dev nD) (k : Fin 4) (O : CellTallies nD τ sig Unit) (W : Waits sig Unit) (n : ℕ) : sProp 𝕄 :=
  if own c = k ∨ (slotOf c (ownerOf k)).val < n then iprop(sent c k ∗ owes (c : Thread nD τ) O W)
  else sendU pv rv K c k (slotOf c (ownerOf k)) O W

theorem send_begin (K : GSem nD τ sig → ℕ) (c : Dev nD) (k : Fin 4) (O : CellTallies nD τ sig Unit) (W : Waits sig Unit)
    {f : Buf (Elt F) ((rowM k).view.loc (c : Thread nD τ))} (hf : (rowM k).view.read (Elt F) f = pv c k) :
    iprop(cellInv ER (Rd pv rv) (K (sRSCell c k)) (sRSCell c k) ∗ reached ER (sRSCell c k) 0
        ∗ ((rowM k).view.loc (c : Thread nD τ) ↦[(rowM k).view.set]{fullShare} f)
        ∗ sendTok pv rv K c k ∗ sendSlot c k ∗ owes (c : Thread nD τ) (O + dueRS c k) W)
      ⊢ sendSt pv rv K c k O W 0 := by
  unfold sendSt sendTok sendSlot
  by_cases h : own c = k
  · rw [if_pos (Or.inl h), if_pos h, if_pos h]
    unfold sent dueRS
    rw [if_pos h, if_pos h.symm, add_zero]
    iintro ⟨#-, #-, Hrow, -, -, HO⟩
    isplitl [Hrow]
    · iexists f; unfold rowPts; iexact Hrow
    iexact HO
  · have hn : ¬(own c = k ∨ (slotOf c (ownerOf k)).val < 0) := by
      rintro (h' | h')
      exacts [h h', absurd h' (Nat.not_lt_zero _)]
    rw [if_neg hn, if_neg h, if_neg h]
    unfold sendU
    iintro ⟨#HI, #Hr, Hrow, ⟨#HI2, Ht, Ht2⟩, ⟨Hd, #Hr2⟩, HO⟩
    isplitr; · iexact HI
    isplitr; · iexact HI2
    isplitl [Hrow]
    · iexists f
      isplitr; · ipureintro; exact hf
      unfold rowPts; iexact Hrow
    isplitl [Hd]; · iexact Hd
    isplitl [HO]; · iexact HO
    isplitl [Ht]; · iexact Ht
    isplitr; · iexact Hr
    isplitl [Ht2]; · iexact Ht2
    iexact Hr2

theorem send_end (K : GSem nD τ sig → ℕ) (c : Dev nD) (k : Fin 4) (O : CellTallies nD τ sig Unit) (W : Waits sig Unit) :
    sendSt pv rv K c k O W 3 ⊢ iprop(sent c k ∗ owes (c : Thread nD τ) O W) := by
  unfold sendSt
  rw [if_pos (Or.inr (slotOf c (ownerOf k)).isLt)]

/-- One of the three places where the copy of chunk k may be, whatever comes after it. -/
theorem send_at (K : GSem nD τ sig → ℕ) (c : Dev nD) (k : Fin 4) (s : Fin 3) (O : CellTallies nD τ sig Unit) (W : Waits sig Unit)
    {p : Prop} [Decidable p] (hp : p ↔ (own c ≠ k ∧ slotOf c (ownerOf k) = s)) (n m : ℕ) (hn : n = s.val) (hm : m = s.val + 1)
    {α : Type} {A : p → Prog (TpuEff nD τ sig (Elt F) Λ₀ .tc) α} {B : Prog (TpuEff nD τ sig (Elt F) Λ₀ .tc) α}
    {Q : α → sProp 𝕄} :
    iprop(⌜∀ h : p, ∃ (pd : Dev nD) (_ : pd = ownerOf k) (hsc : (rsM s).view.ref.isScScratch = false) (hsrc : (rowM k).view.WordExact) (hdst : (rsM s).view.WordExact)
        (hsem : DmaTarget.Typed (nD := nD) (τ := τ) (p := .tc) (s := S512x1024) (e := .bf16) .vmem (.dma (rRS s) : SemLoc sig) (.remote (Dev.tc pd : Thread nD τ) (rsM s) (.dma (sRS k)) hsc)),
          A h = Prog.op (.enqueueDma (rowM k) (.remote (Dev.tc pd : Thread nD τ) (rsM s) (.dma (sRS k)) hsc) (.dma (rRS s)) hsrc hdst hsem) (fun _ => B)⌝
        ∗ sendSt pv rv K c k O W n)
      ⊢ iprop((sendSt pv rv K c k O W m -∗ wp frame (wpE (defs₀ (F := F)) 𝒱₀ (c : Thread nD τ) none) Set.univ B Q)
          -∗ wp frame (wpE (defs₀ (F := F)) 𝒱₀ (c : Thread nD τ) none) Set.univ (dite p A (fun _ => B)) Q) := by
  subst hn hm
  iintro ⟨%hA, H⟩
  iapply (ite_join c _ _ (fun h => ?_) (fun h => ?_)) $$ H
  · obtain ⟨pd, hpd, hsc, hsrc, hdst, hsem, hAh⟩ := hA h
    rw [hAh]
    obtain ⟨h1, h2⟩ := hp.mp h
    unfold sendSt
    have hn : ¬(own c = k ∨ (slotOf c (ownerOf k)).val < s.val) := by
      rintro (h' | h')
      exacts [h1 h', absurd h' (by omega)]
    have hn' : own c = k ∨ (slotOf c (ownerOf k)).val < s.val + 1 := Or.inr (by omega)
    rw [if_neg hn, if_pos hn', h2]
    unfold sendU sent
    rw [if_neg h1]
    iintro ⟨HI₁, HI₂, ⟨%fs, %hfs, Hs⟩, Hd, HO, Ht₁, Hr₁, Ht₂, Hr₂⟩ Hk
    iapply (send_step pv rv c k (Ne.symm h1) hpd h2.symm rfl hfs) $$ [HI₁ HI₂ Hs Hd HO Ht₁ Hr₁ Ht₂ Hr₂]
    · isplitl [HI₁]; · iexact HI₁
      isplitl [HI₂]; · iexact HI₂
      isplitl [Hs]; · iexact Hs
      isplitl [Hd]; · iexact Hd
      isplitl [HO]; · iexact HO
      isplitl [Ht₁]; · iexact Ht₁
      isplitl [Hr₁]; · iexact Hr₁
      isplitl [Ht₂]; · iexact Ht₂
      iexact Hr₂
    iintro H
    iapply Hk
    iexact H
  · have he : sendSt pv rv K c k O W (s.val + 1) = sendSt pv rv K c k O W s.val := by
      unfold sendSt
      refine if_congr ?_ rfl rfl
      constructor
      · rintro (h' | h')
        · exact Or.inl h'
        · by_cases h1 : own c = k
          · exact Or.inl h1
          · refine Or.inr (lt_of_le_of_ne (Nat.le_of_lt_succ h') fun h2 => h (hp.mpr ⟨h1, Fin.ext h2⟩))
      · rintro (h' | h')
        · exact Or.inl h'
        · exact Or.inr (Nat.lt_succ_of_lt h')
    rw [he]

theorem send_start (K : GSem nD τ sig → ℕ) (c : Dev nD) (k : Fin 4) (O : CellTallies nD τ sig Unit) (W : Waits sig Unit)
    {f : Buf (Elt F) ((rowM k).view.loc (c : Thread nD τ))} (hf : (rowM k).view.read (Elt F) f = pv c k) {G : sProp 𝕄} :
    iprop(cellInv ER (Rd pv rv) (K (sRSCell c k)) (sRSCell c k) ∗ reached ER (sRSCell c k) 0
        ∗ ((rowM k).view.loc (c : Thread nD τ) ↦[(rowM k).view.set]{fullShare} f)
        ∗ sendTok pv rv K c k ∗ sendSlot c k ∗ owes (c : Thread nD τ) (O + dueRS c k) W)
      ⊢ iprop((sendSt pv rv K c k O W 0 -∗ G) -∗ G) := by
  iintro H Hk
  iapply Hk
  iapply (send_begin pv rv K c k O W hf) $$ H

/-! ## What the barrier brings, by chunk and by copy -/

def sumSlot (c : Dev nD) (j : Fin 3) : sProp 𝕄 :=
  iprop((∃ fd, agPts (pm c j) j fd) ∗ reached ER (rAGCell (pm c j) j) 0)

theorem spread3 (X : Dev nD → sProp 𝕄) (c : Dev nD) :
    iprop(X (pe c 0) ∗ X (pe c 1) ∗ X (pe c 2))
      ⊢ iprop((if own c = 0 then iprop(emp) else X (ownerOf 0)) ∗ (if own c = 1 then iprop(emp) else X (ownerOf 1))
          ∗ (if own c = 2 then iprop(emp) else X (ownerOf 2)) ∗ (if own c = 3 then iprop(emp) else X (ownerOf 3))) := by
  fin_cases c
  · show iprop(X 1 ∗ X 2 ∗ X 3) ⊢ iprop(X 3 ∗ emp ∗ X 1 ∗ X 2)
    iintro ⟨H1, H2, H3⟩
    isplitl [H3]; · iexact H3
    isplitr; · iempintro
    isplitl [H1]; · iexact H1
    iexact H2
  · show iprop(X 2 ∗ X 3 ∗ X 0) ⊢ iprop(X 3 ∗ X 0 ∗ emp ∗ X 2)
    iintro ⟨H2, H3, H0⟩
    isplitl [H3]; · iexact H3
    isplitl [H0]; · iexact H0
    isplitr; · iempintro
    iexact H2
  · show iprop(X 3 ∗ X 0 ∗ X 1) ⊢ iprop(X 3 ∗ X 0 ∗ X 1 ∗ emp)
    iintro ⟨H3, H0, H1⟩
    isplitl [H3]; · iexact H3
    isplitl [H0]; · iexact H0
    isplitl [H1]; · iexact H1
    iempintro
  · show iprop(X 0 ∗ X 1 ∗ X 2) ⊢ iprop(emp ∗ X 0 ∗ X 1 ∗ X 2)
    iintro ⟨H0, H1, H2⟩
    isplitr; · iempintro
    isplitl [H0]; · iexact H0
    isplitl [H1]; · iexact H1
    iexact H2

theorem pe_eq_pm0 (c : Dev nD) : pe c 0 = pm c 2 := by revert c; decide
theorem pe_eq_pm1 (c : Dev nD) : pe c 1 = pm c 1 := by revert c; decide
theorem pe_eq_pm2 (c : Dev nD) : pe c 2 = pm c 0 := by revert c; decide

theorem bar_spread (c : Dev nD) :
    (iprop(barPay c (pe c 0) ∗ barPay c (pe c 1) ∗ barPay c (pe c 2)) : sProp 𝕄)
      ⊢ iprop((sendSlot c 0 ∗ sendSlot c 1 ∗ sendSlot c 2 ∗ sendSlot c 3) ∗ (sumSlot c 0 ∗ sumSlot c 1 ∗ sumSlot c 2)) := by
  have hb : ∀ p : Dev nD, (barPay c p : sProp 𝕄)
      ⊢ iprop(((∃ fd, rsPts p (slotOf c p) fd) ∗ reached ER (rRSCell p (slotOf c p)) 0)
          ∗ ((∃ fd, agPts p (slotOf c p) fd) ∗ reached ER (rAGCell p (slotOf c p)) 0)) := by
    intro p
    unfold barPay
    iintro ⟨H1, H2, H3, H4⟩
    isplitl [H1 H3]
    · isplitl [H1]; · iexact H1
      iexact H3
    isplitl [H2]; · iexact H2
    iexact H4
  have hs : ∀ j : Fin 3, (iprop((∃ fd, agPts (pm c j) (slotOf c (pm c j)) fd) ∗ reached ER (rAGCell (pm c j) (slotOf c (pm c j))) 0) : sProp 𝕄) ⊢ sumSlot c j := by
    intro j
    unfold sumSlot
    rw [slotOf_pm]
  iintro ⟨H0, H1, H2⟩
  ihave ⟨A0, B0⟩ := (hb (pe c 0)) $$ H0
  ihave ⟨A1, B1⟩ := (hb (pe c 1)) $$ H1
  ihave ⟨A2, B2⟩ := (hb (pe c 2)) $$ H2
  isplitl [A0 A1 A2]
  · unfold sendSlot
    iapply (spread3 (fun p => iprop((∃ fd, rsPts p (slotOf c p) fd) ∗ reached ER (rRSCell p (slotOf c p)) 0)) c)
    isplitl [A0]; · iexact A0
    isplitl [A1]; · iexact A1
    iexact A2
  isplitl [B2]
  · iapply (hs 0); rw [← pe_eq_pm2]; iexact B2
  isplitl [B1]
  · iapply (hs 1); rw [← pe_eq_pm1]; iexact B1
  · iapply (hs 2); rw [← pe_eq_pm0]; iexact B0

/-! ## The chunk a device keeps -/

theorem rows_inb (k : Fin 4) : ∀ a, (![512 * k.val, 0] : Fin 2 → Nat) a + S512x1024.size a ≤ S2048x1024.size a := by revert k; decide
abbrev rowsR (k : Fin 4) : Rect S2048x1024 := Rect.unit (s := S2048x1024) ![512 * k.val, 0] S512x1024.size (rows_inb k)
/-- Once its chunk is past, the result window holds the kept partial there. -/
def OutOK (c : Dev nD) (n : ℕ) (g : (Memref.whole cc0_stg5_0).view.ty.Contents (Elt F)) : Prop :=
  (own c).val < n → (Memref.whole cc0_stg5_0).view.readAt (Elt F) (rowsR (own c)).toLoadRect g = pv c (own c)

theorem outOK_step (c : Dev nD) (k : Fin 4) {p : Prop} [Decidable p] (hp : p ↔ own c = k) (f : (Memref.whole cc0_stg5_0).view.ty.Contents (Elt F))
    (P : S512x1024.Idx → Elt F .bf16) (hP : P = pv c k) (hf : OutOK pv c k.val f) :
    OutOK pv c (k.val + 1) (if h : p then (Memref.whole cc0_stg5_0).view.writes (Elt F) f [⟨rowsR k, P⟩] else f) := by
  intro hn
  by_cases h : p
  · have hk := hp.mp h
    subst hk
    rw [dif_pos h, ← hP]
    exact View.read_write_univ (v := (Memref.whole cc0_stg5_0).access (rowsR (own c))) f P
  · rw [dif_neg h]
    exact hf (lt_of_le_of_ne (Nat.le_of_lt_succ hn) fun he => h (hp.mpr (Fin.ext he)))

/-! ## Waiting for the copies made -/

/-- The send cell of chunk k past its round, or, for the chunk kept, where it was. -/
def sRSAt (c : Dev nD) (k : Fin 4) : sProp 𝕄 :=
  if own c = k then atPos ER (sRSCell c k) 0 ∅ 0 else atPos ER (sRSCell c k) 1 ∅ 0

theorem wait_sent (K : GSem nD τ sig → ℕ) (c : Dev nD) (k : Fin 4) {p : Prop} [Decidable p] (hp : p ↔ own c ≠ k)
    {α : Type} {A : p → Prog (TpuEff nD τ sig (Elt F) Λ₀ .tc) α} {B : Prog (TpuEff nD τ sig (Elt F) Λ₀ .tc) α}
    {Q : α → sProp 𝕄} :
    iprop(⌜∀ h : p, ∃ (hsrc : (rsM 0).view.WordExact) (hdst : (rowM k).view.WordExact),
          A h = Prog.op (.waitDma2 (sRS k) (rsM 0) (rowM k) hsrc hdst) (fun _ => B)⌝
        ∗ cellInv ER (Rd pv rv) (K (sRSCell c k)) (sRSCell c k) ∗ sent c k ∗ atPos ER (sRSCell c k) 0 ∅ 0 ∗ (∃ W, owes (c : Thread nD τ) 0 W))
      ⊢ iprop((((∃ f, rowPts c k f) ∗ sRSAt c k ∗ (∃ W, owes (c : Thread nD τ) 0 W)) -∗ wp frame (wpE (defs₀ (F := F)) 𝒱₀ (c : Thread nD τ) none) Set.univ B Q)
          -∗ wp frame (wpE (defs₀ (F := F)) 𝒱₀ (c : Thread nD τ) none) Set.univ (dite p A (fun _ => B)) Q) := by
  iintro ⟨%hA, H⟩
  iapply (ite_join c _ _ (fun h => ?_) (fun h => ?_)) $$ H
  · have hk := hp.mp h
    obtain ⟨hsrc, hdst, hAh⟩ := hA h
    rw [hAh]
    unfold sent sRSAt
    rw [if_neg hk, if_neg hk]
    iintro ⟨HI, Hc, Hat, ⟨%W, HO⟩⟩ Hk
    iapply (wait_step pv rv c (sRS k) (duties_sRS pv rv c k (Ne.symm hk)) (src := rsM 0) (dst := rowM k) (hsrc := hsrc) (hdst := hdst) rfl (κ := K (sRSCell c k)) (O := 0) (W := W) (k := fun _ => B) (Q := Q)) $$ [HI Hc Hat HO]
    · isplitl [HI]; · iexact HI
      isplitl [Hc]; · iexact Hc
      isplitl [HO]; · iexact HO
      isplitr; · rw [MayWait_zero]; iempintro
      iexact Hat
    iintro ⟨HO, Hat, Hp⟩
    iapply Hk
    isplitl [Hp]
    · ihave Hp' := (Entails.of_eq (payload_sRS pv rv c k 0)) $$ Hp
      unfold sRSPay
      iexact Hp'
    isplitl [Hat]; · iexact Hat
    iexact HO
  · have hk : own c = k := not_not.mp fun h' => h (hp.mpr h')
    unfold sent sRSAt
    rw [if_pos hk, if_pos hk]
    iintro ⟨-, Hr, Hat, HO⟩
    isplitl [Hr]; · iexact Hr
    isplitl [Hat]; · iexact Hat
    iexact HO

theorem close_sRS (κ : ℕ) (c : Dev nD) (k : Fin 4) :
    iprop(cellInv ER (Rd pv rv) κ (sRSCell c k) ∗ sRSAt c k) ⊢ (|={Set.univ}=> semVal (sRSCell c k) 0 : sProp 𝕄) := by
  unfold sRSAt
  by_cases h : own c = k
  · rw [if_pos h]; subst h; exact close_own pv rv κ c
  · rw [if_neg h]; exact close_step pv rv κ _

/-! ## What the two receive waits give -/

theorem rrs_open (c : Dev nD) (j : Fin 3) :
    (Rd pv rv).payload (rRSCell c j) 0 0
      ⊢ iprop(∃ f, ⌜(rsM j).view.read (Elt F) f = pv (pe c j) (own c)⌝ ∗ ((rsM j).view.loc (c : Thread nD τ) ↦[(rsM j).view.set]{fullShare} f)) := by
  rw [payload_rRS]; unfold rRSPay rsGot rsPts; exact Entails.refl _
theorem rag_open (c : Dev nD) (j : Fin 3) :
    (Rd pv rv).payload (rAGCell c j) 0 0
      ⊢ iprop(∃ f, ⌜(agM j).view.read (Elt F) f = rv (pe c j)⌝ ∗ ((agM j).view.loc (c : Thread nD τ) ↦[(agM j).view.set]{fullShare} f)) := by
  rw [payload_rAG]; unfold rAGPay agGot agPts; exact Entails.refl _
theorem sag_open (c : Dev nD) (j : Fin 3) :
    (Rd pv rv).payload (sAGCell c j) 0 0 ⊢ iprop(∃ f, agsPts c j f) := by
  rw [payload_sAG]; unfold sAGPay; exact Entails.refl _

/-- The sum's buffer in the three shares that the copies read. -/
theorem ags_split (c : Dev nD) (f : Buf (Elt F) (agsM.view.loc (c : Thread nD τ))) :
    (agsM.view.loc (c : Thread nD τ) ↦{fullShare} f) ⊢ iprop(agsPts c 0 f ∗ agsPts c 1 f ∗ agsPts c 2 f) := by
  unfold agsPts
  rw [show agsM.view.set = Finset.univ from View.set_whole _]
  iintro H
  ihave ⟨H0, H⟩ := (pointsTo_share (PosShare.mem_left_op_right fullShare)).1 $$ H
  ihave ⟨H1, H2⟩ := (pointsTo_share (PosShare.mem_left_op_right fullShare.right)).1 $$ H
  isplitl [H0]; · iexact H0
  isplitl [H1]; · iexact H1
  iexact H2

end Cert.KernelIdeal.Own

end
-- ==== Proof.Values.lean ====
/-
  What the kernel computes on one device, as functions of its five windows: the gathered rows, the queries of each chunk,
  each head's rows of a segment, the context of a chunk, and its partial product.
-/
module

public import proofs.«01_k».proof.Proof.Steps
public import Idealize.ShloMosaic.Lib.WritesUnit

@[expose] public section

noncomputable section

namespace Cert.KernelIdeal.Own

open Idealize.ShloMosaic Idealize.ShloMosaic.TcCoe Cert.KernelIdeal.Gen
open Idealize.ShloMosaic.Tactic

variable {F : FTy → Type} [FloatOps F] [Named F]

/-- The five windows a device reads. -/
structure Ins (F : FTy → Type) where
  x : (Memref.whole cc0_stg0_0).view.ty.Contents (Elt F)
  wq : (Memref.whole cc0_stg1_0).view.ty.Contents (Elt F)
  wo : (Memref.whole cc0_stg2_0).view.ty.Contents (Elt F)
  k : (Memref.whole cc0_stg3_0).view.ty.Contents (Elt F)
  v : (Memref.whole cc0_stg4_0).view.ty.Contents (Elt F)

/-! ## Gathers: rows of 64, at a block map -/

theorem blk_inb (m : Fin 32) : ∀ a, (![64 * m.val, 0] : Fin 2 → Nat) a + S64x1024.size a ≤ S2048x1024.size a := by revert m; decide
def blkK (w : Ins F) (m : Fin 32) : FVec F S64x1024 .bf16 :=
  k0_pay1 ((Memref.whole cc0_stg3_0).view.readAt (Elt F) (Rect.unit (s := S2048x1024) ![64 * m.val, 0] S64x1024.size (blk_inb m)).toLoadRect w.k)
def blkV (w : Ins F) (m : Fin 32) : FVec F S64x1024 .bf16 :=
  k0_pay1 ((Memref.whole cc0_stg4_0).view.readAt (Elt F) (Rect.unit (s := S2048x1024) ![64 * m.val, 0] S64x1024.size (blk_inb m)).toLoadRect w.v)

theorem g704_inb (i : Fin 11) : ∀ a, (![64 * i.val, 0] : Fin 2 → Nat) a + S64x1024.size a ≤ S704x1024.size a := by revert i; decide
theorem g768_inb (i : Fin 12) : ∀ a, (![64 * i.val, 0] : Fin 2 → Nat) a + S64x1024.size a ≤ S768x1024.size a := by revert i; decide
theorem g640_inb (i : Fin 10) : ∀ a, (![64 * i.val, 0] : Fin 2 → Nat) a + S64x1024.size a ≤ S640x1024.size a := by revert i; decide

abbrev g704 (P : Fin 11 → FVec F S64x1024 .bf16) : List (View.Piece (Elt F) S704x1024 .bf16) :=
  View.tilePieces (s := S704x1024) S64x1024.size (fun i => ![64 * i.val, 0]) g704_inb P 11 (le_refl _)
abbrev g768 (P : Fin 12 → FVec F S64x1024 .bf16) : List (View.Piece (Elt F) S768x1024 .bf16) :=
  View.tilePieces (s := S768x1024) S64x1024.size (fun i => ![64 * i.val, 0]) g768_inb P 12 (le_refl _)
abbrev g640 (P : Fin 10 → FVec F S64x1024 .bf16) : List (View.Piece (Elt F) S640x1024 .bf16) :=
  View.tilePieces (s := S640x1024) S64x1024.size (fun i => ![64 * i.val, 0]) g640_inb P 10 (le_refl _)

/-- The block maps: the shared rows of residue 0, 1 and 2, and the blocks a row block of residue 1 and 2 sees by itself. -/
def mp0 (i : Fin 11) : Fin 32 := ⟨3 * i.val, by omega⟩
def mp1 (i : Fin 11) : Fin 32 := ⟨3 * i.val - 1, by omega⟩
def mp2 (i : Fin 12) : Fin 32 := ⟨3 * i.val - 2, by omega⟩
def md1 (i : Fin 11) : Fin 32 := ⟨3 * i.val + 1, by omega⟩
def md2 (i : Fin 10) : Fin 32 := ⟨3 * i.val + 2, by omega⟩

/-- The rows gathered into each scratch buffer. -/
def Lks0 (w : Ins F) : List (View.Piece (Elt F) S704x1024 .bf16) := g704 (fun i => blkK w (mp0 i))
def Lvs0 (w : Ins F) : List (View.Piece (Elt F) S704x1024 .bf16) := g704 (fun i => blkV w (mp0 i))
def Lks1 (w : Ins F) : List (View.Piece (Elt F) S704x1024 .bf16) := g704 (fun i => blkK w (mp1 i))
def Lvs1 (w : Ins F) : List (View.Piece (Elt F) S704x1024 .bf16) := g704 (fun i => blkV w (mp1 i))
def Lks2 (w : Ins F) : List (View.Piece (Elt F) S768x1024 .bf16) := g768 (fun i => blkK w (mp2 i))
def Lvs2 (w : Ins F) : List (View.Piece (Elt F) S768x1024 .bf16) := g768 (fun i => blkV w (mp2 i))
def Lkd1 (w : Ins F) : List (View.Piece (Elt F) S704x1024 .bf16) := g704 (fun i => blkK w (md1 i))
def Lvd1 (w : Ins F) : List (View.Piece (Elt F) S704x1024 .bf16) := g704 (fun i => blkV w (md1 i))
def Lkd2 (w : Ins F) : List (View.Piece (Elt F) S640x1024 .bf16) := g640 (fun i => blkK w (md2 i))
def Lvd2 (w : Ins F) : List (View.Piece (Elt F) S640x1024 .bf16) := g640 (fun i => blkV w (md2 i))

/-- The block-diagonal mask of 512 rows. -/
def Ldb : List (View.Piece (Elt F) S512x512 .bf16) :=
  [⟨Rect.unit (s := S512x512) ![0, 0] S512x512.size inb_S512x512_S512x512_0_0,
    k0_pay131 (iota .tc S512x512 32 [0] iota_S512x512_d0_w32) 64#32 k0_pay129 k0_pay130 1#32 0#1⟩]

/-! ## Segments: (chunk, rows, first source row, row in the chunk, shared rows, own rows) -/

/-- Segment 0: the queries of source rows from 0. -/
def q0 (w : Ins F) : FVec F S512x1024 .bf16 :=
  k0_pay132 ((Memref.whole cc0_stg0_0).view.readAt (Elt F) (Rect.unit (s := S2048x1024) ![0, 0] S512x1024.size inb_S2048x1024_S512x1024_0_0).toLoadRect w.x) ((Memref.whole cc0_stg1_0).view.readAt (Elt F) (Rect.unit (s := S1024x1024) ![0, 0] S1024x1024.size inb_S1024x1024_S1024x1024_0_0).toLoadRect w.wq)
def Lq0 (w : Ins F) : List (View.Piece (Elt F) S512x1024 .bf16) :=
  ⟨Rect.unit (s := S512x1024) ![0, 0] S512x1024.size inb_S512x1024_S512x1024_0_0, q0 w⟩ :: []
theorem hq0_inb (h : Fin 8) : ∀ a, (![0, 128 * h.val] : Fin 2 → Nat) a + S512x128.size a ≤ S512x1024.size a := by revert h; decide
theorem hs0_inb (h : Fin 8) : ∀ a, (![0, 128 * h.val] : Fin 2 → Nat) a + S704x128.size a ≤ S704x1024.size a := by revert h; decide
/-- Head h of segment 0. -/
def hd0 (w : Ins F) (h : Fin 8) : FVec F S512x128 .bf16 :=
  k0_pay133
    ((Memref.whole cc0_scratch0).view.readCov (Lq0 w) (Rect.unit (s := S512x1024) ![0, 128 * h.val] S512x128.size (hq0_inb h)).toLoadRect)
    ((Memref.whole cc0_scratch2).view.readCov (Lks0 w) (Rect.unit (s := S704x1024) ![0, 128 * h.val] S704x128.size (hs0_inb h)).toLoadRect)
    ((Memref.whole cc0_scratch5).view.readCov (Lvs0 w) (Rect.unit (s := S704x1024) ![0, 128 * h.val] S704x128.size (hs0_inb h)).toLoadRect)
abbrev Lh0 (w : Ins F) : List (View.Piece (Elt F) S512x1024 .bf16) :=
  View.tilePieces (s := S512x1024) S512x128.size (fun h : Fin 8 => ![0, 128 * h.val]) hq0_inb (hd0 w) 8 (le_refl _)

/-- Segment 1a: the queries of source rows from 512. -/
def q1a (w : Ins F) : FVec F S192x1024 .bf16 :=
  k0_pay151 ((Memref.whole cc0_stg0_0).view.readAt (Elt F) (Rect.unit (s := S2048x1024) ![512, 0] S192x1024.size inb_S2048x1024_S192x1024_512_0).toLoadRect w.x) ((Memref.whole cc0_stg1_0).view.readAt (Elt F) (Rect.unit (s := S1024x1024) ![0, 0] S1024x1024.size inb_S1024x1024_S1024x1024_0_0).toLoadRect w.wq)
def Lq1a (w : Ins F) : List (View.Piece (Elt F) S512x1024 .bf16) :=
  ⟨Rect.unit (s := S512x1024) ![0, 0] S192x1024.size inb_S512x1024_S192x1024_0_0, q1a w⟩ :: []
theorem hq1a_inb (h : Fin 8) : ∀ a, (![0, 128 * h.val] : Fin 2 → Nat) a + S192x128.size a ≤ S512x1024.size a := by revert h; decide
theorem hs1a_inb (h : Fin 8) : ∀ a, (![0, 128 * h.val] : Fin 2 → Nat) a + S704x128.size a ≤ S704x1024.size a := by revert h; decide
/-- Head h of segment 1a. -/
def hd1a (w : Ins F) (h : Fin 8) : FVec F S192x128 .bf16 :=
  k0_pay156
    ((Memref.whole cc0_scratch0).view.readCov (Lq1a w) (Rect.unit (s := S512x1024) ![0, 128 * h.val] S192x128.size (hq1a_inb h)).toLoadRect)
    ((Memref.whole cc0_scratch2).view.readCov (Lks0 w) (Rect.unit (s := S704x1024) ![0, 128 * h.val] S704x128.size (hs1a_inb h)).toLoadRect)
    ((Memref.whole cc0_scratch5).view.readCov (Lvs0 w) (Rect.unit (s := S704x1024) ![0, 128 * h.val] S704x128.size (hs1a_inb h)).toLoadRect)
abbrev Lh1a (w : Ins F) : List (View.Piece (Elt F) S512x1024 .bf16) :=
  View.tilePieces (s := S512x1024) S192x128.size (fun h : Fin 8 => ![0, 128 * h.val]) hq1a_inb (hd1a w) 8 (le_refl _)

/-- Segment 1b: the queries of source rows from 704. -/
def q1b (w : Ins F) : FVec F S320x1024 .bf16 :=
  k0_pay172 ((Memref.whole cc0_stg0_0).view.readAt (Elt F) (Rect.unit (s := S2048x1024) ![704, 0] S320x1024.size inb_S2048x1024_S320x1024_704_0).toLoadRect w.x) ((Memref.whole cc0_stg1_0).view.readAt (Elt F) (Rect.unit (s := S1024x1024) ![0, 0] S1024x1024.size inb_S1024x1024_S1024x1024_0_0).toLoadRect w.wq)
def Lq1b (w : Ins F) : List (View.Piece (Elt F) S512x1024 .bf16) :=
  ⟨Rect.unit (s := S512x1024) ![192, 0] S320x1024.size inb_S512x1024_S320x1024_192_0, q1b w⟩ :: Lq1a w
theorem hq1b_inb (h : Fin 8) : ∀ a, (![192, 128 * h.val] : Fin 2 → Nat) a + S320x128.size a ≤ S512x1024.size a := by revert h; decide
theorem hs1b_inb (h : Fin 8) : ∀ a, (![0, 128 * h.val] : Fin 2 → Nat) a + S704x128.size a ≤ S704x1024.size a := by revert h; decide
theorem hd1b_inb (h : Fin 8) : ∀ a, (![0, 128 * h.val] : Fin 2 → Nat) a + S320x128.size a ≤ S704x1024.size a := by revert h; decide
/-- Head h of segment 1b. -/
def hd1b (w : Ins F) (h : Fin 8) : FVec F S320x128 .bf16 :=
  k0_pay173
    ((Memref.whole cc0_scratch0).view.readCov (Lq1b w) (Rect.unit (s := S512x1024) ![192, 128 * h.val] S320x128.size (hq1b_inb h)).toLoadRect)
    ((Memref.whole cc0_scratch3).view.readCov (Lks1 w) (Rect.unit (s := S704x1024) ![0, 128 * h.val] S704x128.size (hs1b_inb h)).toLoadRect)
    ((Memref.whole cc0_scratch8).view.readCov (Lkd1 w) (Rect.unit (s := S704x1024) ![0, 128 * h.val] S320x128.size (hd1b_inb h)).toLoadRect)
    ((Memref.whole cc0_scratch12).view.readCov Ldb (Rect.unit (s := S512x512) ![0, 0] S320x320.size inb_S512x512_S320x320_0_0).toLoadRect)
    ((Memref.whole cc0_scratch6).view.readCov (Lvs1 w) (Rect.unit (s := S704x1024) ![0, 128 * h.val] S704x128.size (hs1b_inb h)).toLoadRect)
    ((Memref.whole cc0_scratch10).view.readCov (Lvd1 w) (Rect.unit (s := S704x1024) ![0, 128 * h.val] S320x128.size (hd1b_inb h)).toLoadRect)
abbrev Lh1b (w : Ins F) : List (View.Piece (Elt F) S512x1024 .bf16) :=
  View.tilePieces (s := S512x1024) S320x128.size (fun h : Fin 8 => ![192, 128 * h.val]) hq1b_inb (hd1b w) 8 (le_refl _)

/-- Segment 2a: the queries of source rows from 1024. -/
def q2a (w : Ins F) : FVec F S384x1024 .bf16 :=
  k0_pay203 (k0_pay202 ((Memref.whole cc0_stg0_0).view.readAt (Elt F) (Rect.unit (s := S2048x1024) ![1024, 0] S384x1024.size inb_S2048x1024_S384x1024_1024_0).toLoadRect w.x)) ((Memref.whole cc0_stg1_0).view.readAt (Elt F) (Rect.unit (s := S1024x1024) ![0, 0] S1024x1024.size inb_S1024x1024_S1024x1024_0_0).toLoadRect w.wq)
def Lq2a (w : Ins F) : List (View.Piece (Elt F) S512x1024 .bf16) :=
  ⟨Rect.unit (s := S512x1024) ![0, 0] S384x1024.size inb_S512x1024_S384x1024_0_0, q2a w⟩ :: []
theorem hq2a_inb (h : Fin 8) : ∀ a, (![0, 128 * h.val] : Fin 2 → Nat) a + S384x128.size a ≤ S512x1024.size a := by revert h; decide
theorem hs2a_inb (h : Fin 8) : ∀ a, (![0, 128 * h.val] : Fin 2 → Nat) a + S704x128.size a ≤ S704x1024.size a := by revert h; decide
theorem hd2a_inb (h : Fin 8) : ∀ a, (![320, 128 * h.val] : Fin 2 → Nat) a + S384x128.size a ≤ S704x1024.size a := by revert h; decide
/-- Head h of segment 2a. -/
def hd2a (w : Ins F) (h : Fin 8) : FVec F S384x128 .bf16 :=
  k0_pay206
    ((Memref.whole cc0_scratch0).view.readCov (Lq2a w) (Rect.unit (s := S512x1024) ![0, 128 * h.val] S384x128.size (hq2a_inb h)).toLoadRect)
    ((Memref.whole cc0_scratch3).view.readCov (Lks1 w) (Rect.unit (s := S704x1024) ![0, 128 * h.val] S704x128.size (hs2a_inb h)).toLoadRect)
    ((Memref.whole cc0_scratch8).view.readCov (Lkd1 w) (Rect.unit (s := S704x1024) ![320, 128 * h.val] S384x128.size (hd2a_inb h)).toLoadRect)
    ((Memref.whole cc0_scratch12).view.readCov Ldb (Rect.unit (s := S512x512) ![0, 0] S384x384.size inb_S512x512_S384x384_0_0).toLoadRect)
    ((Memref.whole cc0_scratch6).view.readCov (Lvs1 w) (Rect.unit (s := S704x1024) ![0, 128 * h.val] S704x128.size (hs2a_inb h)).toLoadRect)
    ((Memref.whole cc0_scratch10).view.readCov (Lvd1 w) (Rect.unit (s := S704x1024) ![320, 128 * h.val] S384x128.size (hd2a_inb h)).toLoadRect)
abbrev Lh2a (w : Ins F) : List (View.Piece (Elt F) S512x1024 .bf16) :=
  View.tilePieces (s := S512x1024) S384x128.size (fun h : Fin 8 => ![0, 128 * h.val]) hq2a_inb (hd2a w) 8 (le_refl _)

/-- Segment 2b: the queries of source rows from 1408. -/
def q2b (w : Ins F) : FVec F S128x1024 .bf16 :=
  k0_pay230 ((Memref.whole cc0_stg0_0).view.readAt (Elt F) (Rect.unit (s := S2048x1024) ![1408, 0] S128x1024.size inb_S2048x1024_S128x1024_1408_0).toLoadRect w.x) ((Memref.whole cc0_stg1_0).view.readAt (Elt F) (Rect.unit (s := S1024x1024) ![0, 0] S1024x1024.size inb_S1024x1024_S1024x1024_0_0).toLoadRect w.wq)
def Lq2b (w : Ins F) : List (View.Piece (Elt F) S512x1024 .bf16) :=
  ⟨Rect.unit (s := S512x1024) ![384, 0] S128x1024.size inb_S512x1024_S128x1024_384_0, q2b w⟩ :: Lq2a w
theorem hq2b_inb (h : Fin 8) : ∀ a, (![384, 128 * h.val] : Fin 2 → Nat) a + S128x128.size a ≤ S512x1024.size a := by revert h; decide
theorem hs2b_inb (h : Fin 8) : ∀ a, (![0, 128 * h.val] : Fin 2 → Nat) a + S768x128.size a ≤ S768x1024.size a := by revert h; decide
theorem hd2b_inb (h : Fin 8) : ∀ a, (![0, 128 * h.val] : Fin 2 → Nat) a + S128x128.size a ≤ S640x1024.size a := by revert h; decide
/-- Head h of segment 2b. -/
def hd2b (w : Ins F) (h : Fin 8) : FVec F S128x128 .bf16 :=
  k0_pay244
    ((Memref.whole cc0_scratch0).view.readCov (Lq2b w) (Rect.unit (s := S512x1024) ![384, 128 * h.val] S128x128.size (hq2b_inb h)).toLoadRect)
    ((Memref.whole cc0_scratch4).view.readCov (Lks2 w) (Rect.unit (s := S768x1024) ![0, 128 * h.val] S768x128.size (hs2b_inb h)).toLoadRect)
    ((Memref.whole cc0_scratch9).view.readCov (Lkd2 w) (Rect.unit (s := S640x1024) ![0, 128 * h.val] S128x128.size (hd2b_inb h)).toLoadRect)
    ((Memref.whole cc0_scratch12).view.readCov Ldb (Rect.unit (s := S512x512) ![0, 0] S128x128.size inb_S512x512_S128x128_0_0).toLoadRect)
    ((Memref.whole cc0_scratch7).view.readCov (Lvs2 w) (Rect.unit (s := S768x1024) ![0, 128 * h.val] S768x128.size (hs2b_inb h)).toLoadRect)
    ((Memref.whole cc0_scratch11).view.readCov (Lvd2 w) (Rect.unit (s := S640x1024) ![0, 128 * h.val] S128x128.size (hd2b_inb h)).toLoadRect)
abbrev Lh2b (w : Ins F) : List (View.Piece (Elt F) S512x1024 .bf16) :=
  View.tilePieces (s := S512x1024) S128x128.size (fun h : Fin 8 => ![384, 128 * h.val]) hq2b_inb (hd2b w) 8 (le_refl _)

/-- Segment 3: the queries of source rows from 1536. -/
def q3 (w : Ins F) : FVec F S512x1024 .bf16 :=
  k0_pay259 ((Memref.whole cc0_stg0_0).view.readAt (Elt F) (Rect.unit (s := S2048x1024) ![1536, 0] S512x1024.size inb_S2048x1024_S512x1024_1536_0).toLoadRect w.x) ((Memref.whole cc0_stg1_0).view.readAt (Elt F) (Rect.unit (s := S1024x1024) ![0, 0] S1024x1024.size inb_S1024x1024_S1024x1024_0_0).toLoadRect w.wq)
def Lq3 (w : Ins F) : List (View.Piece (Elt F) S512x1024 .bf16) :=
  ⟨Rect.unit (s := S512x1024) ![0, 0] S512x1024.size inb_S512x1024_S512x1024_0_0, q3 w⟩ :: []
theorem hq3_inb (h : Fin 8) : ∀ a, (![0, 128 * h.val] : Fin 2 → Nat) a + S512x128.size a ≤ S512x1024.size a := by revert h; decide
theorem hs3_inb (h : Fin 8) : ∀ a, (![0, 128 * h.val] : Fin 2 → Nat) a + S768x128.size a ≤ S768x1024.size a := by revert h; decide
theorem hd3_inb (h : Fin 8) : ∀ a, (![128, 128 * h.val] : Fin 2 → Nat) a + S512x128.size a ≤ S640x1024.size a := by revert h; decide
/-- Head h of segment 3. -/
def hd3 (w : Ins F) (h : Fin 8) : FVec F S512x128 .bf16 :=
  k0_pay279
    ((Memref.whole cc0_scratch0).view.readCov (Lq3 w) (Rect.unit (s := S512x1024) ![0, 128 * h.val] S512x128.size (hq3_inb h)).toLoadRect)
    ((Memref.whole cc0_scratch4).view.readCov (Lks2 w) (Rect.unit (s := S768x1024) ![0, 128 * h.val] S768x128.size (hs3_inb h)).toLoadRect)
    ((Memref.whole cc0_scratch9).view.readCov (Lkd2 w) (Rect.unit (s := S640x1024) ![128, 128 * h.val] S512x128.size (hd3_inb h)).toLoadRect)
    ((Memref.whole cc0_scratch12).view.readCov Ldb (Rect.unit (s := S512x512) ![0, 0] S512x512.size inb_S512x512_S512x512_0_0).toLoadRect)
    ((Memref.whole cc0_scratch7).view.readCov (Lvs2 w) (Rect.unit (s := S768x1024) ![0, 128 * h.val] S768x128.size (hs3_inb h)).toLoadRect)
    ((Memref.whole cc0_scratch11).view.readCov (Lvd2 w) (Rect.unit (s := S640x1024) ![128, 128 * h.val] S512x128.size (hd3_inb h)).toLoadRect)
abbrev Lh3 (w : Ins F) : List (View.Piece (Elt F) S512x1024 .bf16) :=
  View.tilePieces (s := S512x1024) S512x128.size (fun h : Fin 8 => ![0, 128 * h.val]) hq3_inb (hd3 w) 8 (le_refl _)

/-! ## Chunks -/

def Lc0 (w : Ins F) : List (View.Piece (Elt F) S512x1024 .bf16) := Lh0 w
def part0 (w : Ins F) : FVec F S1x512x1024 .bf16 :=
  k0_pay149 ((Memref.whole cc0_scratch1).view.readCov (Lc0 w) (Rect.unit (s := S512x1024) ![0, 0] S512x1024.size inb_S512x1024_S512x1024_0_0).toLoadRect)
    ((Memref.whole cc0_stg2_0).view.readAt (Elt F) (Rect.unit (s := S1024x1024) ![0, 0] S1024x1024.size inb_S1024x1024_S1024x1024_0_0).toLoadRect w.wo)

def Lc1 (w : Ins F) : List (View.Piece (Elt F) S512x1024 .bf16) := Lh1b w ++ Lh1a w
def part1 (w : Ins F) : FVec F S1x512x1024 .bf16 :=
  k0_pay200 ((Memref.whole cc0_scratch1).view.readCov (Lc1 w) (Rect.unit (s := S512x1024) ![0, 0] S512x1024.size inb_S512x1024_S512x1024_0_0).toLoadRect)
    ((Memref.whole cc0_stg2_0).view.readAt (Elt F) (Rect.unit (s := S1024x1024) ![0, 0] S1024x1024.size inb_S1024x1024_S1024x1024_0_0).toLoadRect w.wo)

def Lc2 (w : Ins F) : List (View.Piece (Elt F) S512x1024 .bf16) := Lh2b w ++ Lh2a w
def part2 (w : Ins F) : FVec F S1x512x1024 .bf16 :=
  k0_pay257 ((Memref.whole cc0_scratch1).view.readCov (Lc2 w) (Rect.unit (s := S512x1024) ![0, 0] S512x1024.size inb_S512x1024_S512x1024_0_0).toLoadRect)
    ((Memref.whole cc0_stg2_0).view.readAt (Elt F) (Rect.unit (s := S1024x1024) ![0, 0] S1024x1024.size inb_S1024x1024_S1024x1024_0_0).toLoadRect w.wo)

def Lc3 (w : Ins F) : List (View.Piece (Elt F) S512x1024 .bf16) := Lh3 w
def part3 (w : Ins F) : FVec F S1x512x1024 .bf16 :=
  k0_pay285 (k0_pay284 ((Memref.whole cc0_scratch1).view.readCov (Lc3 w) (Rect.unit (s := S512x1024) ![0, 0] S512x1024.size inb_S512x1024_S512x1024_0_0).toLoadRect)
    ((Memref.whole cc0_stg2_0).view.readAt (Elt F) (Rect.unit (s := S1024x1024) ![0, 0] S1024x1024.size inb_S1024x1024_S1024x1024_0_0).toLoadRect w.wo))

/-- Chunk k of the partial product, as the copy carries it. -/
def part (w : Ins F) (k : Fin 4) : FVec F S1x512x1024 .bf16 :=
  if k = 0 then part0 w else if k = 1 then part1 w else if k = 2 then part2 w else part3 w
def pvOf (w : Ins F) (k : Fin 4) : Blk F := shapeCast S512x1024 (part w k) shapeCasts_S1x512x1024_S512x1024

/-- The sum of four partials, the own one first. -/
def sum4 (a b c d : Blk F) : Blk F :=
  k0_pay288 a (shapeCast S1x512x1024 b shapeCasts_S512x1024_S1x512x1024) (shapeCast S1x512x1024 c shapeCasts_S512x1024_S1x512x1024)
    (shapeCast S1x512x1024 d shapeCasts_S512x1024_S1x512x1024)
/-- What device c collects, at what each device's windows hold. -/
def rvOf (w : Dev nD → Ins F) (c : Dev nD) : Blk F :=
  sum4 (pvOf (w c) (own c)) (pvOf (w (pe c 0)) (own c)) (pvOf (w (pe c 1)) (own c)) (pvOf (w (pe c 2)) (own c))

end Cert.KernelIdeal.Own

end
-- ==== Proof.Sum.lean ====
/-
  The sum a device forms, and the rows of the result window as they are filled.
-/
module

public import proofs.«01_k».proof.Proof.Send
public import proofs.«01_k».proof.Proof.Values
public import Idealize.ShloMosaic.Lib.Pipeline.Value
public import Idealize.ShloMosaic.Lib.VecWindow
public import Idealize.ShloMosaic.Lib.Pipeline.FrameBody

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (pv : Dev nD → Fin 4 → Blk F) (rv : Dev nD → Blk F)

/-- The rows of the chunks in S hold the sums. -/
def Done (S : Finset (Fin 4)) (g : (Memref.whole cc0_stg5_0).view.ty.Contents (Elt F)) : Prop :=
  ∀ k ∈ S, (Memref.whole cc0_stg5_0).view.readAt (Elt F) (rowsR k).toLoadRect g = rv (ownerOf k)

theorem rows_disjoint {k k' : Fin 4} (h : k ≠ k') : Disjoint ((Memref.whole cc0_stg5_0).view.slice (rowsR k)).set
    (((Memref.whole cc0_stg5_0).view.slice (rowsR k')).setOn Finset.univ) := by
  rw [Finset.disjoint_left]
  intro i hi hj
  unfold View.set at hi
  obtain ⟨x, -, hx⟩ := Finset.mem_map.mp hi
  obtain ⟨y, -, hy⟩ := Finset.mem_map.mp hj
  have he : ((rowsR k).emb x) = ((rowsR k').emb y) := hx.trans hy.symm
  have h0 : 512 * k.val + 1 * (x 0).val = 512 * k'.val + 1 * (y 0).val := congrArg (fun j : S2048x1024.Idx => (j 0).val) he
  have hx0 : (x 0).val < 512 := (x 0).isLt
  have hy0 : (y 0).val < 512 := (y 0).isLt
  exact h (Fin.ext (by omega))

theorem done_step (S : Finset (Fin 4)) (k : Fin 4) {o : Fin 2 → Nat} (ho : o = ![512 * k.val, 0])
    (hi : ∀ a, o a + S512x1024.size a ≤ S2048x1024.size a) (f : (Memref.whole cc0_stg5_0).view.ty.Contents (Elt F))
    (P : S512x1024.Idx → Elt F .bf16) (hP : P = rv (ownerOf k)) (hf : Done rv S f) :
    Done rv (insert k S) ((Memref.whole cc0_stg5_0).view.writes (Elt F) f [⟨Rect.unit (s := S2048x1024) o S512x1024.size hi, P⟩]) := by
  subst ho hP
  intro k' hk'
  by_cases h : k' = k
  · subst h
    exact View.read_write_univ (v := (Memref.whole cc0_stg5_0).access (rowsR k')) f _
  · exact (View.read_slice_write_slice_of_disjoint (v := (Memref.whole cc0_stg5_0).view) (rowsR k') (rowsR k) f _ Finset.univ (rows_disjoint h)).trans
      (hf k' ((Finset.mem_insert.mp hk').resolve_left h))

theorem done_none (f : (Memref.whole cc0_stg5_0).view.ty.Contents (Elt F)) : Done rv ∅ f := fun k hk => absurd hk (Finset.notMem_empty k)

theorem rows_all : ∀ c : Dev nD, insert (own (pe c 1)) (insert (own (pe c 2)) (insert (own (pe c 0)) (insert (own c) ∅))) = (Finset.univ : Finset (Fin 4)) := by decide
theorem owner_own (c : Dev nD) : ownerOf (own c) = c := by revert c; decide
theorem off_own (c : Dev nD) : k0_off1 c 1#32 = ![512 * (own c).val, 0] := by revert c; decide
theorem off_pe0 (c : Dev nD) : k0_off1 c 2#32 = ![512 * (own (pe c 0)).val, 0] := by revert c; decide
theorem off_pe2 (c : Dev nD) : k0_off1 c 0#32 = ![512 * (own (pe c 2)).val, 0] := by revert c; decide
theorem off_pe1 (c : Dev nD) : k0_off1 c 3#32 = ![512 * (own (pe c 1)).val, 0] := by revert c; decide

/-- A received slot, loaded in three dimensions. -/
theorem slot_load (j : Fin 3) {v : Blk F} (g : (rsM j).view.ty.Contents (Elt F)) (h : (rsM j).view.read (Elt F) g = v) :
    (Memref.whole cc0_scratch14).view.readAt (Elt F) (rect3 j).toLoadRect g = shapeCast S1x512x1024 v shapeCasts_S512x1024_S1x512x1024 := by
  rw [← h]
  exact (shapeCast_shapeCast _ shapeCasts_S1x512x1024_S512x1024 shapeCasts_S512x1024_S1x512x1024).symm
theorem got_load (j : Fin 3) {v : Blk F} (g : (agM j).view.ty.Contents (Elt F)) (h : (agM j).view.read (Elt F) g = v) :
    shapeCast S512x1024 ((Memref.whole cc0_scratch16).view.readAt (Elt F) (rect3 j).toLoadRect g) shapeCasts_S1x512x1024_S512x1024 = v := h

theorem own_load (c : Dev nD) (f : (Memref.whole cc0_stg5_0).view.ty.Contents (Elt F)) (hf : OutOK pv c 4 f)
    {o : Fin 2 → Nat} (ho : o = ![512 * (own c).val, 0]) (hi : ∀ a, o a + S512x1024.size a ≤ S2048x1024.size a) :
    (Memref.whole cc0_stg5_0).view.readAt (Elt F) (Rect.unit (s := S2048x1024) o S512x1024.size hi).toLoadRect f = pv c (own c) := by
  subst ho
  exact hf (own c).isLt

theorem sum_value (c : Dev nD) (hrv : rv c = sum4 (pv c (own c)) (pv (pe c 0) (own c)) (pv (pe c 1) (own c)) (pv (pe c 2) (own c)))
    (f : (Memref.whole cc0_stg5_0).view.ty.Contents (Elt F)) (hf : OutOK pv c 4 f)
    (g0 : (rsM 0).view.ty.Contents (Elt F)) (h0 : (rsM 0).view.read (Elt F) g0 = pv (pe c 0) (own c))
    (g1 : (rsM 1).view.ty.Contents (Elt F)) (h1 : (rsM 1).view.read (Elt F) g1 = pv (pe c 1) (own c))
    (g2 : (rsM 2).view.ty.Contents (Elt F)) (h2 : (rsM 2).view.read (Elt F) g2 = pv (pe c 2) (own c)) :
    k0_pay288 (k0_pay287 ((Memref.whole cc0_stg5_0).view.readAt (Elt F) (Rect.unit (s := S2048x1024) (k0_off1 c 1#32) S512x1024.size (k0_off1_inb c 1)).toLoadRect f))
      ((Memref.whole cc0_scratch14).view.readAt (Elt F) (rect3 0).toLoadRect g0) ((Memref.whole cc0_scratch14).view.readAt (Elt F) (rect3 1).toLoadRect g1)
      ((Memref.whole cc0_scratch14).view.readAt (Elt F) (rect3 2).toLoadRect g2) = rv c := by
  rw [hrv, slot_load 0 g0 h0, slot_load 1 g1 h1, slot_load 2 g2 h2, own_load pv c f hf (off_own c) (k0_off1_inb c 1)]
  unfold k0_pay287 sum4
  rw [shapeCast_self]

theorem readCov_one {sp : Space} {s : Shape} {e : EltTy} {κ : Kind} (v : View sig κ sp s e) (r : Rect s) (w : r.shape.Idx → Elt F e) :
    v.readCov (Val := Elt F) [⟨r, w⟩] r.toLoadRect = w := by
  rw [View.readCov_eq_canon']
  funext j
  exact View.canon_cons_emb r w [] j

theorem own_cov (c : Dev nD) (P : Blk F) (h : ∀ a, k0_off1 c 1#32 a + S512x1024.size a ≤ S2048x1024.size a) :
    (Memref.whole cc0_stg5_0).view.readCov (Val := Elt F) [⟨Rect.unit (s := S2048x1024) (k0_off1 c 1#32) S512x1024.size h, P⟩]
        (Rect.unit (s := S2048x1024) (k0_off1 c 1#32) S512x1024.size h).toLoadRect = P := by
  generalize k0_off1 c 1#32 = o at h ⊢
  exact readCov_one (F := F) (e := .bf16) (Memref.whole cc0_stg5_0).view (Rect.unit (s := S2048x1024) o S512x1024.size h) P

theorem ags_read (c : Dev nD) (fA : agsM.view.ty.Contents (Elt F)) (Q : Blk F) (hQ : Q = rv c)
    (hi : ∀ a, (![0, 0] : Fin 2 → Nat) a + S512x1024.size a ≤ S512x1024.size a) :
    agsM.view.read (Elt F) (agsM.view.writes (Elt F) fA [⟨Rect.unit (s := S512x1024) ![0, 0] S512x1024.size hi, k0_pay289 Q⟩]) = rv c := by
  have e' : k0_pay289 Q = Q := (shapeCast_self (shapeCast S512x1024 Q shapeCasts_S512x1024_S512x1024) shapeCasts_S512x1024_S512x1024).trans (shapeCast_self Q shapeCasts_S512x1024_S512x1024)
  rw [e', hQ]
  have := View.readAt_writes_full agsM.view fA (Val := Elt F) hi hi (rv c) []
  rw [View.readAt_full] at this
  exact this

theorem ag_one (c : Dev nD) (j : Fin 3) :
    bigSep ((Rd pv rv).duties (rAGCell c j) 0) (fun d => (Rd pv rv).payload (rAGCell c j) 0 d)
      ⊢ iprop(∃ f, ⌜(agM j).view.read (Elt F) f = rv (pe c j)⌝ ∗ ((agM j).view.loc (c : Thread nD τ) ↦[(agM j).view.set]{fullShare} f)) := by
  rw [show (Rd pv rv).duties (rAGCell c j) 0 = {0} from duties_rAG pv rv c j, bigSep_singleton]
  exact rag_open pv rv c j
theorem sag_one (c : Dev nD) (i : Fin 3) :
    bigSep ((Rd pv rv).duties (sAGCell c i) 0) (fun d => (Rd pv rv).payload (sAGCell c i) 0 d) ⊢ iprop(∃ f, agsPts c i f) := by
  rw [show (Rd pv rv).duties (sAGCell c i) 0 = {0} from duties_sAG pv rv c i, bigSep_singleton]
  exact sag_open pv rv c i

end Cert.KernelIdeal.Own

end
-- ==== Proof.Body.lean ====
/-
  One device's walk through the kernel, at a symbolic place.
-/
module

public import proofs.«01_k».proof.Proof.Sum

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (pv : Dev nD → Fin 4 → Blk F) (rv : Dev nD → Blk F)

/-- What a device's walk leaves. -/
def bodyPost (c : Dev nD) (fB0 : Buf (Elt F) ((Memref.whole cc0_stg0_0).view.loc (c : Thread nD τ))) (fB1 : Buf (Elt F) ((Memref.whole cc0_stg1_0).view.loc (c : Thread nD τ))) (fB2 : Buf (Elt F) ((Memref.whole cc0_stg2_0).view.loc (c : Thread nD τ))) (fB3 : Buf (Elt F) ((Memref.whole cc0_stg3_0).view.loc (c : Thread nD τ))) (fB4 : Buf (Elt F) ((Memref.whole cc0_stg4_0).view.loc (c : Thread nD τ))) : sProp 𝕄 :=
  iprop((((Memref.whole cc0_stg0_0).view.loc (c : Thread nD τ) ↦{fullShare} fB0))
    ∗ (((Memref.whole cc0_stg1_0).view.loc (c : Thread nD τ) ↦{fullShare} fB1))
    ∗ (((Memref.whole cc0_stg2_0).view.loc (c : Thread nD τ) ↦{fullShare} fB2))
    ∗ (((Memref.whole cc0_stg3_0).view.loc (c : Thread nD τ) ↦{fullShare} fB3))
    ∗ (((Memref.whole cc0_stg4_0).view.loc (c : Thread nD τ) ↦{fullShare} fB4))
    ∗ (∃ g, ⌜∀ k, (Memref.whole cc0_stg5_0).view.readAt (Elt F) (rowsR k).toLoadRect g = rv (ownerOf k)⌝ ∗ ((Memref.whole cc0_stg5_0).view.loc (c : Thread nD τ) ↦{fullShare} g))
    ∗ (∃ g, ((Memref.whole cc0_scratch0).view.loc (c : Thread nD τ) ↦{fullShare} g))
    ∗ (∃ g, ((Memref.whole cc0_scratch1).view.loc (c : Thread nD τ) ↦{fullShare} g))
    ∗ (∃ g, ((Memref.whole cc0_scratch2).view.loc (c : Thread nD τ) ↦{fullShare} g))
    ∗ (∃ g, ((Memref.whole cc0_scratch3).view.loc (c : Thread nD τ) ↦{fullShare} g))
    ∗ (∃ g, ((Memref.whole cc0_scratch4).view.loc (c : Thread nD τ) ↦{fullShare} g))
    ∗ (∃ g, ((Memref.whole cc0_scratch5).view.loc (c : Thread nD τ) ↦{fullShare} g))
    ∗ (∃ g, ((Memref.whole cc0_scratch6).view.loc (c : Thread nD τ) ↦{fullShare} g))
    ∗ (∃ g, ((Memref.whole cc0_scratch7).view.loc (c : Thread nD τ) ↦{fullShare} g))
    ∗ (∃ g, ((Memref.whole cc0_scratch8).view.loc (c : Thread nD τ) ↦{fullShare} g))
    ∗ (∃ g, ((Memref.whole cc0_scratch9).view.loc (c : Thread nD τ) ↦{fullShare} g))
    ∗ (∃ g, ((Memref.whole cc0_scratch10).view.loc (c : Thread nD τ) ↦{fullShare} g))
    ∗ (∃ g, ((Memref.whole cc0_scratch11).view.loc (c : Thread nD τ) ↦{fullShare} g))
    ∗ (∃ g, ((Memref.whole cc0_scratch12).view.loc (c : Thread nD τ) ↦{fullShare} g))
    ∗ (∃ f, rowPts c 0 f)
    ∗ (∃ f, rowPts c 1 f)
    ∗ (∃ f, rowPts c 2 f)
    ∗ (∃ f, rowPts c 3 f)
    ∗ (∃ f, rsPts c 0 f)
    ∗ (∃ f, rsPts c 1 f)
    ∗ (∃ f, rsPts c 2 f)
    ∗ (∃ f, agPts c 0 f)
    ∗ (∃ f, agPts c 1 f)
    ∗ (∃ f, agPts c 2 f)
    ∗ (∃ f, agsPts c 0 f)
    ∗ (∃ f, agsPts c 1 f)
    ∗ (∃ f, agsPts c 2 f)
    ∗ atPos ER (barCell c) 1 ∅ 0
    ∗ sRSAt c 0
    ∗ sRSAt c 1
    ∗ sRSAt c 2
    ∗ sRSAt c 3
    ∗ atPos ER (rRSCell c 0) 1 ∅ 0
    ∗ atPos ER (rRSCell c 1) 1 ∅ 0
    ∗ atPos ER (rRSCell c 2) 1 ∅ 0
    ∗ atPos ER (sAGCell c 0) 1 ∅ 0
    ∗ atPos ER (sAGCell c 1) 1 ∅ 0
    ∗ atPos ER (sAGCell c 2) 1 ∅ 0
    ∗ atPos ER (rAGCell c 0) 1 ∅ 0
    ∗ atPos ER (rAGCell c 1) 1 ∅ 0
    ∗ atPos ER (rAGCell c 2) 1 ∅ 0
    ∗ (∃ W, owes (c : Thread nD τ) 0 W))

set_option maxHeartbeats 8000000 in
/-- The walk: from the launch's kits and the windows to the sums of every chunk in the result window. -/
theorem head (K : GSem nD τ sig → ℕ) (c : Dev nD) (W : Waits sig Unit) (Q : _ → sProp 𝕄) (fB0 : Buf (Elt F) ((Memref.whole cc0_stg0_0).view.loc (c : Thread nD τ))) (fB1 : Buf (Elt F) ((Memref.whole cc0_stg1_0).view.loc (c : Thread nD τ))) (fB2 : Buf (Elt F) ((Memref.whole cc0_stg2_0).view.loc (c : Thread nD τ))) (fB3 : Buf (Elt F) ((Memref.whole cc0_stg3_0).view.loc (c : Thread nD τ))) (fB4 : Buf (Elt F) ((Memref.whole cc0_stg4_0).view.loc (c : Thread nD τ))) (fB5 : Buf (Elt F) ((Memref.whole cc0_stg5_0).view.loc (c : Thread nD τ))) (fS0 : Buf (Elt F) ((Memref.whole cc0_scratch0).view.loc (c : Thread nD τ))) (fS1 : Buf (Elt F) ((Memref.whole cc0_scratch1).view.loc (c : Thread nD τ))) (fS2 : Buf (Elt F) ((Memref.whole cc0_scratch2).view.loc (c : Thread nD τ))) (fS3 : Buf (Elt F) ((Memref.whole cc0_scratch3).view.loc (c : Thread nD τ))) (fS4 : Buf (Elt F) ((Memref.whole cc0_scratch4).view.loc (c : Thread nD τ))) (fS5 : Buf (Elt F) ((Memref.whole cc0_scratch5).view.loc (c : Thread nD τ))) (fS6 : Buf (Elt F) ((Memref.whole cc0_scratch6).view.loc (c : Thread nD τ))) (fS7 : Buf (Elt F) ((Memref.whole cc0_scratch7).view.loc (c : Thread nD τ))) (fS8 : Buf (Elt F) ((Memref.whole cc0_scratch8).view.loc (c : Thread nD τ))) (fS9 : Buf (Elt F) ((Memref.whole cc0_scratch9).view.loc (c : Thread nD τ))) (fS10 : Buf (Elt F) ((Memref.whole cc0_scratch10).view.loc (c : Thread nD τ))) (fS11 : Buf (Elt F) ((Memref.whole cc0_scratch11).view.loc (c : Thread nD τ))) (fS12 : Buf (Elt F) ((Memref.whole cc0_scratch12).view.loc (c : Thread nD τ))) (fS15 : Buf (Elt F) ((Memref.whole cc0_scratch15).view.loc (c : Thread nD τ)))(fR0 : Buf (Elt F) ((rowM 0).view.loc (c : Thread nD τ))) (fR1 : Buf (Elt F) ((rowM 1).view.loc (c : Thread nD τ))) (fR2 : Buf (Elt F) ((rowM 2).view.loc (c : Thread nD τ))) (fR3 : Buf (Elt F) ((rowM 3).view.loc (c : Thread nD τ)))
    (hpv : pv c = pvOf ⟨fB0, fB1, fB2, fB3, fB4⟩)
    (hrv : rv c = sum4 (pv c (own c)) (pv (pe c 0) (own c)) (pv (pe c 1) (own c)) (pv (pe c 2) (own c))) :
  iprop(cellInv ER (Rd pv rv) (K (barCell c)) (barCell c)
   ∗ cellInv ER (Rd pv rv) (K (barCell (pe c 0))) (barCell (pe c 0))
   ∗ dutyTok ER (barCell (pe c 0)) 0 (c : Fin 4)
   ∗ reached ER (barCell (pe c 0)) 0
   ∗ ((∃ f, rsPts c 0 f) ∗ (∃ f, agPts c 0 f) ∗ reached ER (rRSCell c 0) 0 ∗ reached ER (rAGCell c 0) 0)
   ∗ cellInv ER (Rd pv rv) (K (barCell (pe c 1))) (barCell (pe c 1))
   ∗ dutyTok ER (barCell (pe c 1)) 0 (c : Fin 4)
   ∗ reached ER (barCell (pe c 1)) 0
   ∗ ((∃ f, rsPts c 1 f) ∗ (∃ f, agPts c 1 f) ∗ reached ER (rRSCell c 1) 0 ∗ reached ER (rAGCell c 1) 0)
   ∗ cellInv ER (Rd pv rv) (K (barCell (pe c 2))) (barCell (pe c 2))
   ∗ dutyTok ER (barCell (pe c 2)) 0 (c : Fin 4)
   ∗ reached ER (barCell (pe c 2)) 0
   ∗ ((∃ f, rsPts c 2 f) ∗ (∃ f, agPts c 2 f) ∗ reached ER (rRSCell c 2) 0 ∗ reached ER (rAGCell c 2) 0)
   ∗ cred (tallyAt (barCell c) () 3)
   ∗ levAts L lv
   ∗ atPos ER (barCell c) 0 ∅ 0
   ∗ owes (c : Thread nD τ) (O₀ c) W
   ∗ ((Memref.whole cc0_stg0_0).view.loc (c : Thread nD τ) ↦{fullShare} fB0)
   ∗ ((Memref.whole cc0_stg1_0).view.loc (c : Thread nD τ) ↦{fullShare} fB1)
   ∗ ((Memref.whole cc0_stg2_0).view.loc (c : Thread nD τ) ↦{fullShare} fB2)
   ∗ ((Memref.whole cc0_stg3_0).view.loc (c : Thread nD τ) ↦{fullShare} fB3)
   ∗ ((Memref.whole cc0_stg4_0).view.loc (c : Thread nD τ) ↦{fullShare} fB4)
   ∗ ((Memref.whole cc0_stg5_0).view.loc (c : Thread nD τ) ↦{fullShare} fB5)
   ∗ ((Memref.whole cc0_scratch0).view.loc (c : Thread nD τ) ↦{fullShare} fS0)
   ∗ ((Memref.whole cc0_scratch1).view.loc (c : Thread nD τ) ↦{fullShare} fS1)
   ∗ ((Memref.whole cc0_scratch2).view.loc (c : Thread nD τ) ↦{fullShare} fS2)
   ∗ ((Memref.whole cc0_scratch3).view.loc (c : Thread nD τ) ↦{fullShare} fS3)
   ∗ ((Memref.whole cc0_scratch4).view.loc (c : Thread nD τ) ↦{fullShare} fS4)
   ∗ ((Memref.whole cc0_scratch5).view.loc (c : Thread nD τ) ↦{fullShare} fS5)
   ∗ ((Memref.whole cc0_scratch6).view.loc (c : Thread nD τ) ↦{fullShare} fS6)
   ∗ ((Memref.whole cc0_scratch7).view.loc (c : Thread nD τ) ↦{fullShare} fS7)
   ∗ ((Memref.whole cc0_scratch8).view.loc (c : Thread nD τ) ↦{fullShare} fS8)
   ∗ ((Memref.whole cc0_scratch9).view.loc (c : Thread nD τ) ↦{fullShare} fS9)
   ∗ ((Memref.whole cc0_scratch10).view.loc (c : Thread nD τ) ↦{fullShare} fS10)
   ∗ ((Memref.whole cc0_scratch11).view.loc (c : Thread nD τ) ↦{fullShare} fS11)
   ∗ ((Memref.whole cc0_scratch12).view.loc (c : Thread nD τ) ↦{fullShare} fS12)
   ∗ ((Memref.whole cc0_scratch15).view.loc (c : Thread nD τ) ↦{fullShare} fS15)
   ∗ ((rowM 0).view.loc (c : Thread nD τ) ↦[(rowM 0).view.set]{fullShare} fR0)
   ∗ ((rowM 1).view.loc (c : Thread nD τ) ↦[(rowM 1).view.set]{fullShare} fR1)
   ∗ ((rowM 2).view.loc (c : Thread nD τ) ↦[(rowM 2).view.set]{fullShare} fR2)
   ∗ ((rowM 3).view.loc (c : Thread nD τ) ↦[(rowM 3).view.set]{fullShare} fR3)
   ∗ cellInv ER (Rd pv rv) (K (sRSCell c 0)) (sRSCell c 0)
   ∗ reached ER (sRSCell c 0) 0
   ∗ sendTok pv rv K c 0
   ∗ atPos ER (sRSCell c 0) 0 ∅ 0
   ∗ cellInv ER (Rd pv rv) (K (sRSCell c 1)) (sRSCell c 1)
   ∗ reached ER (sRSCell c 1) 0
   ∗ sendTok pv rv K c 1
   ∗ atPos ER (sRSCell c 1) 0 ∅ 0
   ∗ cellInv ER (Rd pv rv) (K (sRSCell c 2)) (sRSCell c 2)
   ∗ reached ER (sRSCell c 2) 0
   ∗ sendTok pv rv K c 2
   ∗ atPos ER (sRSCell c 2) 0 ∅ 0
   ∗ cellInv ER (Rd pv rv) (K (sRSCell c 3)) (sRSCell c 3)
   ∗ reached ER (sRSCell c 3) 0
   ∗ sendTok pv rv K c 3
   ∗ atPos ER (sRSCell c 3) 0 ∅ 0
   ∗ cellInv ER (Rd pv rv) (K (rRSCell c 0)) (rRSCell c 0)
   ∗ cred (tallyAt (rRSCell c 0) () N)
   ∗ atPos ER (rRSCell c 0) 0 ∅ 0
   ∗ cellInv ER (Rd pv rv) (K (rRSCell c 1)) (rRSCell c 1)
   ∗ cred (tallyAt (rRSCell c 1) () N)
   ∗ atPos ER (rRSCell c 1) 0 ∅ 0
   ∗ cellInv ER (Rd pv rv) (K (rRSCell c 2)) (rRSCell c 2)
   ∗ cred (tallyAt (rRSCell c 2) () N)
   ∗ atPos ER (rRSCell c 2) 0 ∅ 0
   ∗ cellInv ER (Rd pv rv) (K (sAGCell c 0)) (sAGCell c 0)
   ∗ reached ER (sAGCell c 0) 0
   ∗ dutyTok ER (sAGCell c 0) 0 0
   ∗ atPos ER (sAGCell c 0) 0 ∅ 0
   ∗ cellInv ER (Rd pv rv) (K (rAGCell (pm c 0) 0)) (rAGCell (pm c 0) 0)
   ∗ dutyTok ER (rAGCell (pm c 0) 0) 0 0
   ∗ cellInv ER (Rd pv rv) (K (rAGCell c 0)) (rAGCell c 0)
   ∗ cred (tallyAt (rAGCell c 0) () N)
   ∗ atPos ER (rAGCell c 0) 0 ∅ 0
   ∗ cellInv ER (Rd pv rv) (K (sAGCell c 1)) (sAGCell c 1)
   ∗ reached ER (sAGCell c 1) 0
   ∗ dutyTok ER (sAGCell c 1) 0 0
   ∗ atPos ER (sAGCell c 1) 0 ∅ 0
   ∗ cellInv ER (Rd pv rv) (K (rAGCell (pm c 1) 1)) (rAGCell (pm c 1) 1)
   ∗ dutyTok ER (rAGCell (pm c 1) 1) 0 0
   ∗ cellInv ER (Rd pv rv) (K (rAGCell c 1)) (rAGCell c 1)
   ∗ cred (tallyAt (rAGCell c 1) () N)
   ∗ atPos ER (rAGCell c 1) 0 ∅ 0
   ∗ cellInv ER (Rd pv rv) (K (sAGCell c 2)) (sAGCell c 2)
   ∗ reached ER (sAGCell c 2) 0
   ∗ dutyTok ER (sAGCell c 2) 0 0
   ∗ atPos ER (sAGCell c 2) 0 ∅ 0
   ∗ cellInv ER (Rd pv rv) (K (rAGCell (pm c 2) 2)) (rAGCell (pm c 2) 2)
   ∗ dutyTok ER (rAGCell (pm c 2) 2) 0 0
   ∗ cellInv ER (Rd pv rv) (K (rAGCell c 2)) (rAGCell c 2)
   ∗ cred (tallyAt (rAGCell c 2) () N)
   ∗ atPos ER (rAGCell c 2) 0 ∅ 0
   ∗ (bodyPost rv c fB0 fB1 fB2 fB3 fB4 -∗ Q ⟨⟩))
   ⊢ wp frame (wpE (defs₀ (F := F)) 𝒱₀ (c : Thread nD τ) none) Set.univ (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20) Q := by
  unfold cc0__body
  iintro ⟨#HIb, #HI0, Ht0, #Hr0, Hp0, #HI1, Ht1, #Hr1, Hp1, #HI2, Ht2, #Hr2, Hp2, Hcb, #Hlev, Hat, HO, HB0, HB1, HB2, HB3, HB4, HB5, HS0, HS1, HS2, HS3, HS4, HS5, HS6, HS7, HS8, HS9, HS10, HS11, HS12, HS15, HR0, HR1, HR2, HR3, #HIs0, #Hrs0, Hts0, Has0, #HIs1, #Hrs1, Hts1, Has1, #HIs2, #Hrs2, Hts2, Has2, #HIs3, #Hrs3, Hts3, Has3, #HIr0, Hcr0, Har0, #HIr1, Hcr1, Har1, #HIr2, Hcr2, Har2, #HIa0, #Hra0, Hta0, Haa0, #HIg0, Htg0, #HIw0, Hcg0, Hag0, #HIa1, #Hra1, Hta1, Haa1, #HIg1, Htg1, #HIw1, Hcg1, Hag1, #HIa2, #Hra2, Hta2, Haa2, #HIg2, Htg2, #HIw2, Hcg2, Hag2, HQ⟩
  sl_exec_parts
  iapply (signal_step pv rv c 0 (dev1_eq c) (by decide) rfl (dueSend c + tallyAt (barCell (pe c 2)) () 1 + tallyAt (barCell (pe c 1)) () 1) (O₀_peel c)) $$ [HO Ht0 Hp0]
  · isplitr; · iexact HI0
    isplitl [HO]; · iexact HO
    isplitl [Ht0]; · iexact Ht0
    isplitl [Hp0]; · iexact Hp0
    iexact Hr0
  iintro HO
  sl_exec_parts
  iapply (signal_step pv rv c 1 (dev2_eq c) (by decide) rfl (dueSend c + tallyAt (barCell (pe c 2)) () 1) rfl) $$ [HO Ht1 Hp1]
  · isplitr; · iexact HI1
    isplitl [HO]; · iexact HO
    isplitl [Ht1]; · iexact Ht1
    isplitl [Hp1]; · iexact Hp1
    iexact Hr1
  iintro HO
  sl_exec_parts
  iapply (signal_step pv rv c 2 (dev3_eq c) (by decide) rfl (dueSend c) rfl) $$ [HO Ht2 Hp2]
  · isplitr; · iexact HI2
    isplitl [HO]; · iexact HO
    isplitl [Ht2]; · iexact Ht2
    isplitl [Hp2]; · iexact Hp2
    iexact Hr2
  iintro HO
  sl_exec_parts
  iapply (bar_step pv rv c (by decide) rfl) $$ [Hcb HO Hat]
  · isplitr; · iexact HIb
    isplitl [Hcb]; · iexact Hcb
    isplitl [HO]; · iexact HO
    isplitr; · iexact Hlev
    iexact Hat
  iintro ⟨⟨%W1, HO⟩, Hat, Hq0, Hq1, Hq2⟩
  ihave ⟨⟨Hd0, Hd1, Hd2, Hd3⟩, ⟨He0, He1, He2⟩⟩ := (bar_spread c) $$ [Hq0 Hq1 Hq2]
  · isplitl [Hq0]; · iexact Hq0
    isplitl [Hq1]; · iexact Hq1
    iexact Hq2
  have h0 : OutOK pv c 0 fB5 := fun h => absurd h (Nat.not_lt_zero _)
  sl_exec_parts
  have hc0 : ∀ c : Dev nD, head.sl.v819 c = 1#1 ↔ own c = 0 := by decide
  have hP0 : head.sl.v2288 c fB0 fB1 fB2 fB3 fB4 = pv c 0 := by rw [hpv]; rfl
  iapply (learn (c := c) (r := cc0_stg5_0) (OutOK pv c 1) (outOK_step pv c 0 (hc0 c) fB5 (head.sl.v2288 c fB0 fB1 fB2 fB3 fB4) hP0 h0)) $$ [HB5]
  · iexact HB5
  iintro %gO0 %h1 HB5
  iapply forget $$ [HS0]
  · iexact HS0
  iintro %gQ0 HS0
  iapply forget $$ [HS1]
  · iexact HS1
  iintro %gC0 HS1
  have hf0 : (rowM 0).view.read (Elt F) (head.sl.HR0_w1 c fB0 fB1 fB2 fB3 fB4 fR0) = pv c 0 := by
    rw [hpv]; exact row_read 0 fR0 (head.sl.v816 c fB0 fB1 fB2 fB3 fB4)
  iapply (send_start pv rv K c 0 (dueAG c + dueRS c 3 + dueRS c 2 + dueRS c 1) W1 hf0) $$ [HR0 Hts0 Hd0 HO]
  · isplitr; · iexact HIs0
    isplitr; · iexact Hrs0
    isplitl [HR0]; · iexact HR0
    isplitl [Hts0]; · iexact Hts0
    isplitl [Hd0]; · iexact Hd0
    iexact HO
  iintro Hst
  iapply (send_at pv rv K c 0 0 (dueAG c + dueRS c 3 + dueRS c 2 + dueRS c 1) W1 (cond2_iff c) 0 1 rfl rfl) $$ [Hst]
  · isplitr
    · ipureintro
      exact fun h => ⟨_, dev4_eq c h, _, _, _, _, rfl⟩
    iexact Hst
  iintro Hst
  sl_exec_parts
  iapply (send_at pv rv K c 0 1 (dueAG c + dueRS c 3 + dueRS c 2 + dueRS c 1) W1 (cond3_iff c) 1 2 rfl rfl) $$ [Hst]
  · isplitr
    · ipureintro
      exact fun h => ⟨_, dev5_eq c h, _, _, _, _, rfl⟩
    iexact Hst
  iintro Hst
  sl_exec_parts
  iapply (send_at pv rv K c 0 2 (dueAG c + dueRS c 3 + dueRS c 2 + dueRS c 1) W1 (cond4_iff c) 2 3 rfl rfl) $$ [Hst]
  · isplitr
    · ipureintro
      exact fun h => ⟨_, dev6_eq c h, _, _, _, _, rfl⟩
    iexact Hst
  iintro Hst
  ihave ⟨Hse0, HO⟩ := (send_end pv rv K c 0 (dueAG c + dueRS c 3 + dueRS c 2 + dueRS c 1) W1) $$ Hst
  sl_exec_parts
  have hc1 : ∀ c : Dev nD, head.sl.v1248 c = 1#1 ↔ own c = 1 := by decide
  have hP1 : head.sl.v2288_1 c fB0 fB1 fB2 fB3 fB4 = pv c 1 := by rw [hpv]; rfl
  iapply (learn (c := c) (r := cc0_stg5_0) (OutOK pv c 2) (outOK_step pv c 1 (hc1 c) gO0 (head.sl.v2288_1 c fB0 fB1 fB2 fB3 fB4) hP1 h1)) $$ [HB5]
  · iexact HB5
  iintro %gO1 %h2 HB5
  iapply forget $$ [HS0]
  · iexact HS0
  iintro %gQ1 HS0
  iapply forget $$ [HS1]
  · iexact HS1
  iintro %gC1 HS1
  have hf1 : (rowM 1).view.read (Elt F) (head.sl.HR1_w1 c fB0 fB1 fB2 fB3 fB4 fR1) = pv c 1 := by
    rw [hpv]; exact row_read 1 fR1 (head.sl.v1245 c fB0 fB1 fB2 fB3 fB4)
  iapply (send_start pv rv K c 1 (dueAG c + dueRS c 3 + dueRS c 2) W1 hf1) $$ [HR1 Hts1 Hd1 HO]
  · isplitr; · iexact HIs1
    isplitr; · iexact Hrs1
    isplitl [HR1]; · iexact HR1
    isplitl [Hts1]; · iexact Hts1
    isplitl [Hd1]; · iexact Hd1
    iexact HO
  iintro Hst
  iapply (send_at pv rv K c 1 0 (dueAG c + dueRS c 3 + dueRS c 2) W1 (cond6_iff c) 0 1 rfl rfl) $$ [Hst]
  · isplitr
    · ipureintro
      exact fun h => ⟨_, dev7_eq c h, _, _, _, _, rfl⟩
    iexact Hst
  iintro Hst
  sl_exec_parts
  iapply (send_at pv rv K c 1 1 (dueAG c + dueRS c 3 + dueRS c 2) W1 (cond7_iff c) 1 2 rfl rfl) $$ [Hst]
  · isplitr
    · ipureintro
      exact fun h => ⟨_, dev8_eq c h, _, _, _, _, rfl⟩
    iexact Hst
  iintro Hst
  sl_exec_parts
  iapply (send_at pv rv K c 1 2 (dueAG c + dueRS c 3 + dueRS c 2) W1 (cond8_iff c) 2 3 rfl rfl) $$ [Hst]
  · isplitr
    · ipureintro
      exact fun h => ⟨_, dev9_eq c h, _, _, _, _, rfl⟩
    iexact Hst
  iintro Hst
  ihave ⟨Hse1, HO⟩ := (send_end pv rv K c 1 (dueAG c + dueRS c 3 + dueRS c 2) W1) $$ Hst
  sl_exec_parts
  have hc2 : ∀ c : Dev nD, head.sl.v1781 c = 1#1 ↔ own c = 2 := by decide
  have hP2 : k0_pay258 (head.sl.v1778 c fB0 fB1 fB2 fB3 fB4) = pv c 2 := by rw [hpv]; rfl
  iapply (learn (c := c) (r := cc0_stg5_0) (OutOK pv c 3) (outOK_step pv c 2 (hc2 c) gO1 (k0_pay258 (head.sl.v1778 c fB0 fB1 fB2 fB3 fB4)) hP2 h2)) $$ [HB5]
  · iexact HB5
  iintro %gO2 %h3 HB5
  iapply forget $$ [HS0]
  · iexact HS0
  iintro %gQ2 HS0
  iapply forget $$ [HS1]
  · iexact HS1
  iintro %gC2 HS1
  have hf2 : (rowM 2).view.read (Elt F) (head.sl.HR2_w1 c fB0 fB1 fB2 fB3 fB4 fR2) = pv c 2 := by
    rw [hpv]; exact row_read 2 fR2 (head.sl.v1778 c fB0 fB1 fB2 fB3 fB4)
  iapply (send_start pv rv K c 2 (dueAG c + dueRS c 3) W1 hf2) $$ [HR2 Hts2 Hd2 HO]
  · isplitr; · iexact HIs2
    isplitr; · iexact Hrs2
    isplitl [HR2]; · iexact HR2
    isplitl [Hts2]; · iexact Hts2
    isplitl [Hd2]; · iexact Hd2
    iexact HO
  iintro Hst
  iapply (send_at pv rv K c 2 0 (dueAG c + dueRS c 3) W1 (cond10_iff c) 0 1 rfl rfl) $$ [Hst]
  · isplitr
    · ipureintro
      exact fun h => ⟨_, dev10_eq c h, _, _, _, _, rfl⟩
    iexact Hst
  iintro Hst
  sl_exec_parts
  iapply (send_at pv rv K c 2 1 (dueAG c + dueRS c 3) W1 (cond11_iff c) 1 2 rfl rfl) $$ [Hst]
  · isplitr
    · ipureintro
      exact fun h => ⟨_, dev11_eq c h, _, _, _, _, rfl⟩
    iexact Hst
  iintro Hst
  sl_exec_parts
  iapply (send_at pv rv K c 2 2 (dueAG c + dueRS c 3) W1 (cond12_iff c) 2 3 rfl rfl) $$ [Hst]
  · isplitr
    · ipureintro
      exact fun h => ⟨_, dev12_eq c h, _, _, _, _, rfl⟩
    iexact Hst
  iintro Hst
  ihave ⟨Hse2, HO⟩ := (send_end pv rv K c 2 (dueAG c + dueRS c 3) W1) $$ Hst
  sl_exec_parts
  have hc3 : ∀ c : Dev nD, head.sl.v2063 c = 1#1 ↔ own c = 3 := by decide
  have hP3 : head.sl.v2288_2 c fB0 fB1 fB2 fB3 fB4 = pv c 3 := by rw [hpv]; rfl
  iapply (learn (c := c) (r := cc0_stg5_0) (OutOK pv c 4) (outOK_step pv c 3 (hc3 c) gO2 (head.sl.v2288_2 c fB0 fB1 fB2 fB3 fB4) hP3 h3)) $$ [HB5]
  · iexact HB5
  iintro %gO3 %h4 HB5
  iapply forget $$ [HS0]
  · iexact HS0
  iintro %gQ3 HS0
  iapply forget $$ [HS1]
  · iexact HS1
  iintro %gC3 HS1
  have hf3 : (rowM 3).view.read (Elt F) (head.sl.HR3_w1 c fB0 fB1 fB2 fB3 fB4 fR3) = pv c 3 := by
    rw [hpv]; exact row_read 3 fR3 (head.sl.v2060 c fB0 fB1 fB2 fB3 fB4)
  iapply (send_start pv rv K c 3 (dueAG c) W1 hf3) $$ [HR3 Hts3 Hd3 HO]
  · isplitr; · iexact HIs3
    isplitr; · iexact Hrs3
    isplitl [HR3]; · iexact HR3
    isplitl [Hts3]; · iexact Hts3
    isplitl [Hd3]; · iexact Hd3
    iexact HO
  iintro Hst
  iapply (send_at pv rv K c 3 0 (dueAG c) W1 (cond14_iff c) 0 1 rfl rfl) $$ [Hst]
  · isplitr
    · ipureintro
      exact fun h => ⟨_, dev13_eq c h, _, _, _, _, rfl⟩
    iexact Hst
  iintro Hst
  sl_exec_parts
  iapply (send_at pv rv K c 3 1 (dueAG c) W1 (cond15_iff c) 1 2 rfl rfl) $$ [Hst]
  · isplitr
    · ipureintro
      exact fun h => ⟨_, dev14_eq c h, _, _, _, _, rfl⟩
    iexact Hst
  iintro Hst
  sl_exec_parts
  iapply (send_at pv rv K c 3 2 (dueAG c) W1 (cond16_iff c) 2 3 rfl rfl) $$ [Hst]
  · isplitr
    · ipureintro
      exact fun h => ⟨_, dev15_eq c h, _, _, _, _, rfl⟩
    iexact Hst
  iintro Hst
  ihave ⟨Hse3, HO⟩ := (send_end pv rv K c 3 (dueAG c) W1) $$ Hst
  sl_exec_parts
  iapply (wait_step pv rv c (rRS 0) (duties_rRS pv rv c 0) (dst := rsM 0) rfl) $$ [Hcr0 HO Har0]
  · isplitr; · iexact HIr0
    isplitl [Hcr0]; · iexact Hcr0
    isplitl [HO]; · iexact HO
    isplitr; · iapply (mayWait_rRS c 0) $$ Hlev
    iexact Har0
  iintro ⟨⟨%V0, HO⟩, Har0, Hp0⟩
  ihave ⟨%g0, %hg0, Hrs_0⟩ := (rrs_open pv rv c 0) $$ Hp0
  sl_exec_parts
  iapply (wait_step pv rv c (rRS 1) (duties_rRS pv rv c 1) (dst := rsM 1) rfl) $$ [Hcr1 HO Har1]
  · isplitr; · iexact HIr1
    isplitl [Hcr1]; · iexact Hcr1
    isplitl [HO]; · iexact HO
    isplitr; · iapply (mayWait_rRS c 1) $$ Hlev
    iexact Har1
  iintro ⟨⟨%V1, HO⟩, Har1, Hp1⟩
  ihave ⟨%g1, %hg1, Hrs_1⟩ := (rrs_open pv rv c 1) $$ Hp1
  sl_exec_parts
  iapply (wait_step pv rv c (rRS 2) (duties_rRS pv rv c 2) (dst := rsM 2) rfl) $$ [Hcr2 HO Har2]
  · isplitr; · iexact HIr2
    isplitl [Hcr2]; · iexact Hcr2
    isplitl [HO]; · iexact HO
    isplitr; · iapply (mayWait_rRS c 2) $$ Hlev
    iexact Har2
  iintro ⟨⟨%V2, HO⟩, Har2, Hp2⟩
  ihave ⟨%g2, %hg2, Hrs_2⟩ := (rrs_open pv rv c 2) $$ Hp2
  sl_exec_parts
  have hsum : head.sl.v2125 c gO3 g0 g1 g2 = rv c := sum_value pv rv c hrv gO3 h4 g0 hg0 g1 hg1 g2 hg2
  iapply (learn (c := c) (r := cc0_scratch15) (fun g => agsM.view.read (Elt F) g = rv c)
    (ags_read rv c fS15 _ ((own_cov c (head.sl.v2125 c gO3 g0 g1 g2) _).trans hsum) _ : agsM.view.read (Elt F) ((Memref.whole cc0_scratch15).view.writes (Elt F) fS15 (head.sl.HS15_1 c gO3 g0 g1 g2)) = rv c)) $$ [HS15]
  · iexact HS15
  iintro %gA %hgA HS15
  ihave ⟨Hgs0, Hgs1, Hgs2⟩ := (ags_split c gA) $$ HS15
  iapply (learn (c := c) (r := cc0_stg5_0) (Done rv _)
    (done_step rv ∅ (own c) (off_own c) (k0_off1_inb c 1) gO3 (head.sl.v2125 c gO3 g0 g1 g2) (hsum.trans (congrArg rv (owner_own c).symm)) (done_none rv gO3) :
      Done rv _ ((Memref.whole cc0_stg5_0).view.writes (Elt F) gO3 (head.sl.HB5_1 c gO3 g0 g1 g2)))) $$ [HB5]
  · iexact HB5
  iintro %gF0 %hF0 HB5
  unfold sumSlot
  icases He0 with ⟨He0, #Hre0⟩
  icases He1 with ⟨He1, #Hre1⟩
  icases He2 with ⟨He2, #Hre2⟩
  iapply (send_sum_step pv rv c 0 2 (dev16_eq c) (O := tallyAt (rAGCell (pm c 0) 0) () N + tallyAt (rAGCell (pm c 1) 1) () N) rfl hgA) $$ [Hgs0 He2 HO Hta0 Htg2]
  · isplitr; · iexact HIa0
    isplitr; · iexact HIg2
    isplitl [Hgs0]; · iexact Hgs0
    isplitl [He2]; · iexact He2
    isplitl [HO]; · iexact HO
    isplitl [Hta0]; · iexact Hta0
    isplitr; · iexact Hra0
    isplitl [Htg2]; · iexact Htg2
    iexact Hre2
  iintro ⟨Hca0, HO⟩
  sl_exec_parts
  iapply (send_sum_step pv rv c 1 1 (dev17_eq c) (O := tallyAt (rAGCell (pm c 0) 0) () N) rfl hgA) $$ [Hgs1 He1 HO Hta1 Htg1]
  · isplitr; · iexact HIa1
    isplitr; · iexact HIg1
    isplitl [Hgs1]; · iexact Hgs1
    isplitl [He1]; · iexact He1
    isplitl [HO]; · iexact HO
    isplitl [Hta1]; · iexact Hta1
    isplitr; · iexact Hra1
    isplitl [Htg1]; · iexact Htg1
    iexact Hre1
  iintro ⟨Hca1, HO⟩
  sl_exec_parts
  iapply (send_sum_step pv rv c 2 0 (dev18_eq c) (O := 0) (zero_add _).symm hgA) $$ [Hgs2 He0 HO Hta2 Htg0]
  · isplitr; · iexact HIa2
    isplitr; · iexact HIg0
    isplitl [Hgs2]; · iexact Hgs2
    isplitl [He0]; · iexact He0
    isplitl [HO]; · iexact HO
    isplitl [Hta2]; · iexact Hta2
    isplitr; · iexact Hra2
    isplitl [Htg0]; · iexact Htg0
    iexact Hre0
  iintro ⟨Hca2, HO⟩
  sl_exec_parts
  ihave ⟨%a0, %ha0, Hag_0⟩ := (ag_one pv rv c 0) $$ Hag0_pay1
  sl_exec_parts
  iapply (learn (c := c) (r := cc0_stg5_0) (Done rv _)
    (done_step rv (insert (own c) ∅) (own (pe c 0)) (off_pe0 c) (k0_off1_inb c 2) gF0 (head.sl.v2212 a0) ((got_load 0 a0 ha0 : head.sl.v2212 a0 = rv (pe c 0)).trans (congrArg rv (owner_own (pe c 0)).symm)) hF0 :
      Done rv _ ((Memref.whole cc0_stg5_0).view.writes (Elt F) gF0 [⟨Rect.unit (k0_off1 c 2#32) S512x1024.size (k0_off1_inb c 2), head.sl.v2212 a0⟩]))) $$ [HB5]
  · iexact HB5
  iintro %gF1 %hF1 HB5
  ihave ⟨%a2, %ha2, Hag_2⟩ := (ag_one pv rv c 2) $$ Hag2_pay1
  sl_exec_parts
  iapply (learn (c := c) (r := cc0_stg5_0) (Done rv _)
    (done_step rv (insert (own (pe c 0)) (insert (own c) ∅)) (own (pe c 2)) (off_pe2 c) (k0_off1_inb c 0) gF1 (head.sl.v2236 a2) ((got_load 2 a2 ha2 : head.sl.v2236 a2 = rv (pe c 2)).trans (congrArg rv (owner_own (pe c 2)).symm)) hF1 :
      Done rv _ ((Memref.whole cc0_stg5_0).view.writes (Elt F) gF1 [⟨Rect.unit (k0_off1 c 0#32) S512x1024.size (k0_off1_inb c 0), head.sl.v2236 a2⟩]))) $$ [HB5]
  · iexact HB5
  iintro %gF2 %hF2 HB5
  ihave ⟨%a1, %ha1, Hag_1⟩ := (ag_one pv rv c 1) $$ Hag1_pay1
  sl_exec_parts
  iapply (learn (c := c) (r := cc0_stg5_0) (Done rv _)
    (done_step rv (insert (own (pe c 2)) (insert (own (pe c 0)) (insert (own c) ∅))) (own (pe c 1)) (off_pe1 c) (k0_off1_inb c 3) gF2 (head.sl.v2260 a1) ((got_load 1 a1 ha1 : head.sl.v2260 a1 = rv (pe c 1)).trans (congrArg rv (owner_own (pe c 1)).symm)) hF2 :
      Done rv _ ((Memref.whole cc0_stg5_0).view.writes (Elt F) gF2 [⟨Rect.unit (k0_off1 c 3#32) S512x1024.size (k0_off1_inb c 3), head.sl.v2260 a1⟩]))) $$ [HB5]
  · iexact HB5
  iintro %gF3 %hF3 HB5
  have hw0 : ∀ c : Dev nD, head.sl.v2265 c = 1#1 ↔ own c ≠ 0 := by decide
  iapply (wait_sent pv rv K c 0 (hw0 c)) $$ [Hse0 Has0 HO]
  · isplitr
    · ipureintro
      exact fun h => ⟨_, _, rfl⟩
    isplitr; · iexact HIs0
    isplitl [Hse0]; · iexact Hse0
    isplitl [Has0]; · iexact Has0
    iexists _; iexact HO
  iintro ⟨⟨%fS0, HR0⟩, Has0, ⟨%Y0, HO⟩⟩
  sl_exec_parts
  have hw1 : ∀ c : Dev nD, head.sl.v2268 c = 1#1 ↔ own c ≠ 1 := by decide
  iapply (wait_sent pv rv K c 1 (hw1 c)) $$ [Hse1 Has1 HO]
  · isplitr
    · ipureintro
      exact fun h => ⟨_, _, rfl⟩
    isplitr; · iexact HIs1
    isplitl [Hse1]; · iexact Hse1
    isplitl [Has1]; · iexact Has1
    iexists _; iexact HO
  iintro ⟨⟨%fS1, HR1⟩, Has1, ⟨%Y1, HO⟩⟩
  sl_exec_parts
  have hw2 : ∀ c : Dev nD, head.sl.v2271 c = 1#1 ↔ own c ≠ 2 := by decide
  iapply (wait_sent pv rv K c 2 (hw2 c)) $$ [Hse2 Has2 HO]
  · isplitr
    · ipureintro
      exact fun h => ⟨_, _, rfl⟩
    isplitr; · iexact HIs2
    isplitl [Hse2]; · iexact Hse2
    isplitl [Has2]; · iexact Has2
    iexists _; iexact HO
  iintro ⟨⟨%fS2, HR2⟩, Has2, ⟨%Y2, HO⟩⟩
  sl_exec_parts
  have hw3 : ∀ c : Dev nD, head.sl.v2274 c = 1#1 ↔ own c ≠ 3 := by decide
  iapply (wait_sent pv rv K c 3 (hw3 c)) $$ [Hse3 Has3 HO]
  · isplitr
    · ipureintro
      exact fun h => ⟨_, _, rfl⟩
    isplitr; · iexact HIs3
    isplitl [Hse3]; · iexact Hse3
    isplitl [Has3]; · iexact Has3
    iexists _; iexact HO
  iintro ⟨⟨%fS3, HR3⟩, Has3, ⟨%Y3, HO⟩⟩
  sl_exec_parts
  ihave ⟨%u0, Hgs_0⟩ := (sag_one pv rv c 0) $$ Haa0_pay1
  ihave ⟨%u1, Hgs_1⟩ := (sag_one pv rv c 1) $$ Haa1_pay1
  ihave ⟨%u2, Hgs_2⟩ := (sag_one pv rv c 2) $$ Haa2_pay1
  rw [wp_ret]
  imodintro
  iapply HQ
  unfold bodyPost
  isplitl [HB0]
  · iexact HB0
  isplitl [HB1]
  · iexact HB1
  isplitl [HB2]
  · iexact HB2
  isplitl [HB3]
  · iexact HB3
  isplitl [HB4]
  · iexact HB4
  isplitl [HB5]
  · iexists gF3; isplitr; · ipureintro; exact fun k => hF3 k (rows_all c ▸ Finset.mem_univ k)
    iexact HB5
  isplitl [HS0]
  · iexists _; iexact HS0
  isplitl [HS1]
  · iexists _; iexact HS1
  isplitl [HS2]
  · iexists _; iexact HS2
  isplitl [HS3]
  · iexists _; iexact HS3
  isplitl [HS4]
  · iexists _; iexact HS4
  isplitl [HS5]
  · iexists _; iexact HS5
  isplitl [HS6]
  · iexists _; iexact HS6
  isplitl [HS7]
  · iexists _; iexact HS7
  isplitl [HS8]
  · iexists _; iexact HS8
  isplitl [HS9]
  · iexists _; iexact HS9
  isplitl [HS10]
  · iexists _; iexact HS10
  isplitl [HS11]
  · iexists _; iexact HS11
  isplitl [HS12]
  · iexists _; iexact HS12
  isplitl [HR0]
  · iexists _; iexact HR0
  isplitl [HR1]
  · iexists _; iexact HR1
  isplitl [HR2]
  · iexists _; iexact HR2
  isplitl [HR3]
  · iexists _; iexact HR3
  isplitl [Hrs_0]
  · unfold rsPts; iexists g0; iexact Hrs_0
  isplitl [Hrs_1]
  · unfold rsPts; iexists g1; iexact Hrs_1
  isplitl [Hrs_2]
  · unfold rsPts; iexists g2; iexact Hrs_2
  isplitl [Hag_0]
  · unfold agPts; iexists a0; iexact Hag_0
  isplitl [Hag_1]
  · unfold agPts; iexists a1; iexact Hag_1
  isplitl [Hag_2]
  · unfold agPts; iexists a2; iexact Hag_2
  isplitl [Hgs_0]
  · iexists _; iexact Hgs_0
  isplitl [Hgs_1]
  · iexists _; iexact Hgs_1
  isplitl [Hgs_2]
  · iexists _; iexact Hgs_2
  isplitl [Hat]
  · iexact Hat
  isplitl [Has0]
  · iexact Has0
  isplitl [Has1]
  · iexact Has1
  isplitl [Has2]
  · iexact Has2
  isplitl [Has3]
  · iexact Has3
  isplitl [Har0]
  · iexact Har0
  isplitl [Har1]
  · iexact Har1
  isplitl [Har2]
  · iexact Har2
  isplitl [Haa0]
  · iexact Haa0
  isplitl [Haa1]
  · iexact Haa1
  isplitl [Haa2]
  · iexact Haa2
  isplitl [Hag0]
  · iexact Hag0
  isplitl [Hag1]
  · iexact Hag1
  isplitl [Hag2]
  · iexact Hag2
  iexists _; iexact HO

end Cert.KernelIdeal.Own

end
-- ==== Proof.Kits.lean ====
/-
  What the launch deals each device: the invariants of all the cells, its positions, the tokens of the duties it pays,
  and the credit of what it will wait for.
-/
module

public import proofs.«01_k».proof.Proof.Send
public import proofs.«01_k».proof.Proof.Gen.KernelIdeal.Regions
public import Idealize.ShloMosaic.Lib.Pipeline.RegionTalk

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (pv : Dev nD → Fin 4 → Blk F) (rv : Dev nD → Blk F)

/-! ## The cells -/

/-- The kernel's own semaphores: four sends and three receives of the reduce-scatter, three and three of the all-gather. -/
abbrev osem (k : Fin 13) : SemLoc sig := .dma ⟨6 + k.val, by have := k.isLt; show 6 + k.val < 19; omega⟩

theorem osem_inj : Function.Injective osem := by decide
theorem osem_ne_bar : ∀ k : Fin 13, osem k ≠ .reg barrier0 := by decide

def barEmb : Dev nD ↪ GSem nD τ sig := ⟨fun c => barCell c, fun _ _ h => congrArg (fun g : GSem nD τ sig => g.1.1) h⟩
def dmaEmb : Dev nD × Fin 13 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev dmaCells : Finset (GSem nD τ sig) := Finset.univ.map dmaEmb

theorem disjoint_cells : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ dmaCells : Finset (GSem nD τ sig)) :=
  Finset.mem_union_left _ (Finset.mem_map_of_mem barEmb (Finset.mem_univ c))
theorem dma_mem (c : Dev nD) (k : Fin 13) : ((c : Thread nD τ), osem k) ∈ (barCells ∪ dmaCells : Finset (GSem nD τ sig)) :=
  Finset.mem_union_right _ (Finset.mem_map_of_mem dmaEmb (Finset.mem_univ (c, k)))

/-! ## The tokens, by the device that pays -/

/-- The duties of device c: a unit on each of three barriers; three copies of partials and three of the sum, each
    crediting its own send cell and the receiver's cell. -/
def tokOf (c : Dev nD) : Fin 5 → Fin 3 → GSem nD τ sig × ℕ × Fin 4
  | 0, j => (barCell (pe c j), 0, c)
  | 1, j => (sRSCell c (own (pm c j)), 0, 0)
  | 2, j => (rRSCell (pm c j) j, 0, 0)
  | 3, j => (sAGCell c j, 0, 0)
  | 4, j => (rAGCell (pm c j) j, 0, 0)

/-- A token read as numbers. -/
def tokNum (t : GSem nD τ sig × ℕ × Fin 4) : ℕ × ℕ × ℕ :=
  (t.1.1.1.val, (match t.1.2 with | .reg s => 0 | .dma n => 1 + n.val), t.2.2.val)

theorem tok_num_inj : ∀ x y : Dev nD × Fin 5 × Fin 3, tokNum (tokOf x.1 x.2.1 x.2.2) = tokNum (tokOf y.1 y.2.1 y.2.2) → x = y := by
  decide +kernel

def tokEmb : Dev nD × Fin 5 × Fin 3 ↪ GSem nD τ sig × ℕ × Fin 4 :=
  ⟨fun x => tokOf x.1 x.2.1 x.2.2, fun x y h => tok_num_inj x y (congrArg tokNum h)⟩
def toks : Finset (GSem nD τ sig × ℕ × Fin 4) := Finset.univ.map tokEmb

def tokPt (x : GSem nD τ sig × ℕ × Fin 4) : sProp 𝕄 := dutyTok ER x.1 x.2.1 x.2.2

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- Device c's tokens, three by three. -/
def myToks (c : Dev nD) : sProp 𝕄 :=
  iprop((tokPt (tokOf c 0 0) ∗ tokPt (tokOf c 0 1) ∗ tokPt (tokOf c 0 2))
    ∗ (tokPt (tokOf c 1 0) ∗ tokPt (tokOf c 1 1) ∗ tokPt (tokOf c 1 2))
    ∗ (tokPt (tokOf c 2 0) ∗ tokPt (tokOf c 2 1) ∗ tokPt (tokOf c 2 2))
    ∗ (tokPt (tokOf c 3 0) ∗ tokPt (tokOf c 3 1) ∗ tokPt (tokOf c 3 2))
    ∗ (tokPt (tokOf c 4 0) ∗ tokPt (tokOf c 4 1) ∗ tokPt (tokOf c 4 2)))

theorem toks_eq : bigSep toks (fun x => (dutyTok ER x.1 x.2.1 x.2.2 : sProp 𝕄)) = bigSep Finset.univ fun c : Dev nD => myToks c := by
  unfold toks
  rw [bigSep_map, bigSep_univ_prod]
  refine bigSep_congr fun c _ => ?_
  rw [bigSep_univ_prod, bigSep_fin5, bigSep_fin3, bigSep_fin3, bigSep_fin3, bigSep_fin3, bigSep_fin3]
  rfl

/-! ## The launch element -/

def u₀ : UU :=
  (initOf (Pipeline.cells (Pipeline.pin (pcfgs (F := F)) adm) cellOf_inj) (Pipeline.launchToks (Pipeline.pin (pcfgs (F := F)) adm) cellOf_inj),
    launchOf barCells dmaCells toks)

/-- The exchange's part, kept on device 0 until the launch deals it. -/
def G (c : Dev nD) : sProp 𝕄 := if c = 0 then BI.own (ER (launchOf barCells dmaCells toks)) else iprop(emp)
theorem bigSep_G : bigSep Finset.univ (G (F := F)) = BI.own (ER (launchOf barCells dmaCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What all may consult, and what is one device's -/

def records (κ : GSem nD τ sig → ℕ) : sProp 𝕄 :=
  iprop((bigSep (barCells ∪ dmaCells) fun g => cellInv ER (Rd pv rv) (κ g) g) ∗ bigSep barCells fun g => reached ER g 0)

instance records_persistent (κ : GSem nD τ sig → ℕ) : BI.Persistent (records pv rv κ) := by unfold records; infer_instance

theorem rec_bar (κ : GSem nD τ sig → ℕ) (c : Dev nD) : records pv rv κ ⊢ cellInv ER (Rd pv rv) (κ (barCell c)) (barCell c) := by
  unfold records
  exact (Laws.sep_and.trans and_elimL).trans (bigSep_elim (Φ := fun g => cellInv ER (Rd pv rv) (κ g) g) (bar_mem c))
theorem rec_dma (κ : GSem nD τ sig → ℕ) (c : Dev nD) (k : Fin 13) :
    records pv rv κ ⊢ cellInv ER (Rd pv rv) (κ ((c : Thread nD τ), osem k)) ((c : Thread nD τ), osem k) := by
  unfold records
  exact (Laws.sep_and.trans and_elimL).trans (bigSep_elim (Φ := fun g => cellInv ER (Rd pv rv) (κ g) g) (dma_mem c k))
theorem rec_reached (κ : GSem nD τ sig → ℕ) (c : Dev nD) : records pv rv κ ⊢ reached ER (barCell c) 0 := by
  unfold records
  exact (Laws.sep_and.trans and_elimR).trans (bigSep_elim (Φ := fun g => reached ER g 0) (Finset.mem_map_of_mem barEmb (Finset.mem_univ c)))

theorem cell_sRS (c : Dev nD) (k : Fin 4) : sRSCell c k = ((c : Thread nD τ), osem ⟨k.val, by omega⟩) :=
  Prod.ext rfl (congrArg SemLoc.dma (Fin.ext (by show 6 + k.val = 6 + k.val; rfl)))
theorem cell_rRS (c : Dev nD) (j : Fin 3) : rRSCell c j = ((c : Thread nD τ), osem ⟨4 + j.val, by omega⟩) := Prod.ext rfl (congrArg SemLoc.dma (Fin.ext (by show 10 + j.val = 6 + (4 + j.val); omega)))
theorem cell_sAG (c : Dev nD) (j : Fin 3) : sAGCell c j = ((c : Thread nD τ), osem ⟨7 + j.val, by omega⟩) := Prod.ext rfl (congrArg SemLoc.dma (Fin.ext (by show 13 + j.val = 6 + (7 + j.val); omega)))
theorem cell_rAG (c : Dev nD) (j : Fin 3) : rAGCell c j = ((c : Thread nD τ), osem ⟨10 + j.val, by omega⟩) := Prod.ext rfl (congrArg SemLoc.dma (Fin.ext (by show 16 + j.val = 6 + (10 + j.val); omega)))

theorem rec_sRS (κ : GSem nD τ sig → ℕ) (c : Dev nD) (k : Fin 4) : records pv rv κ ⊢ cellInv ER (Rd pv rv) (κ (sRSCell c k)) (sRSCell c k) := by
  rw [cell_sRS]; exact rec_dma pv rv κ c _
theorem rec_rRS (κ : GSem nD τ sig → ℕ) (c : Dev nD) (j : Fin 3) : records pv rv κ ⊢ cellInv ER (Rd pv rv) (κ (rRSCell c j)) (rRSCell c j) := by
  rw [cell_rRS]; exact rec_dma pv rv κ c _
theorem rec_sAG (κ : GSem nD τ sig → ℕ) (c : Dev nD) (j : Fin 3) : records pv rv κ ⊢ cellInv ER (Rd pv rv) (κ (sAGCell c j)) (sAGCell c j) := by
  rw [cell_sAG]; exact rec_dma pv rv κ c _
theorem rec_rAG (κ : GSem nD τ sig → ℕ) (c : Dev nD) (j : Fin 3) : records pv rv κ ⊢ cellInv ER (Rd pv rv) (κ (rAGCell c j)) (rAGCell c j) := by
  rw [cell_rAG]; exact rec_dma pv rv κ c _

/-- The credit of what device c waits for. -/
def creds (c : Dev nD) : sProp 𝕄 :=
  iprop(cred (tallyAt (barCell c) () 3)
    ∗ (cred (tallyAt (rRSCell c 0) () N) ∗ cred (tallyAt (rRSCell c 1) () N) ∗ cred (tallyAt (rRSCell c 2) () N))
    ∗ (cred (tallyAt (rAGCell c 0) () N) ∗ cred (tallyAt (rAGCell c 1) () N) ∗ cred (tallyAt (rAGCell c 2) () N)))

/-- Before the own cells are opened. -/
def Tk (c : Dev nD) : sProp 𝕄 :=
  iprop((∃ κ, records pv rv κ ∗ atPos ER (barCell c) 0 ∅ 0 ∗ (bigSep Finset.univ fun k : Fin 13 => openTok ER ((c : Thread nD τ), osem k)) ∗ myToks c) ∗ creds c)
/-- After. -/
def Xk (c : Dev nD) : sProp 𝕄 :=
  iprop((∃ κ, records pv rv κ ∗ atPos ER (barCell c) 0 ∅ 0
      ∗ (bigSep Finset.univ fun k : Fin 13 => iprop(atPos ER ((c : Thread nD τ), osem k) 0 ∅ 0 ∗ reached ER ((c : Thread nD τ), osem k) 0)) ∗ myToks c)
    ∗ creds c ∗ levAts L lv)

theorem zip_all {ι : Type} [Fintype ι] (Φ Ψ : ι → sProp 𝕄) :
    iprop(bigSep Finset.univ Φ ∗ bigSep Finset.univ Ψ) ⊢ bigSep Finset.univ (fun k => iprop(Φ k ∗ Ψ k)) :=
  Entails.of_eq (bigSep_sep' _ _ _).symm
theorem unzip_all {ι : Type} [Fintype ι] (Φ Ψ : ι → sProp 𝕄) :
    bigSep Finset.univ (fun k => iprop(Φ k ∗ Ψ k)) ⊢ iprop(bigSep Finset.univ Φ ∗ bigSep Finset.univ Ψ) :=
  Entails.of_eq (bigSep_sep' _ _ _)

theorem open_one (κ : GSem nD τ sig → ℕ) (c : Dev nD) (k : Fin 13) :
    iprop(records pv rv κ ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#HR, Ho, Hv⟩
  iapply (Rounds.cell_open ER (Rd pv rv) (g := ((c : Thread nD τ), osem k)) (Set.mem_univ (κ ((c : Thread nD τ), osem k))))
  isplitr; · iapply (rec_dma pv rv κ c k); iexact HR
  isplitl [Ho] <;> iassumption

theorem open_all (c : Dev nD) : iprop(Tk pv rv c ∗ Pipeline.ownSems0 osem c ∗ levAts L lv) ⊢ (|={Set.univ}=> Xk pv rv c : sProp 𝕄) := by
  unfold Tk Xk Pipeline.ownSems0
  iintro ⟨⟨⟨%κ, #HR, Hat, Ho, Ht⟩, Hc⟩, Hv, #Hl⟩
  ihave H := (zip_all (fun k : Fin 13 => (openTok ER ((c : Thread nD τ), osem k) : sProp 𝕄)) (fun k : Fin 13 => (semVal ((c : Thread nD τ), osem k) 0 : sProp 𝕄))) $$ [Ho Hv]
  · isplitl [Ho] <;> iassumption
  imod ((bigSep_with_persistent (R := records pv rv κ) fun k _ => open_one pv rv κ c k).trans (BI.bigSep_fupd _ _)) $$ [H] with H
  · isplitr; · iexact HR
    iexact H
  imodintro
  isplitl [Hat H Ht]
  · iexists κ
    isplitr; · iexact HR
    isplitl [Hat]; · iexact Hat
    isplitl [H]; · iexact H
    iexact Ht
  isplitl [Hc]; · iexact Hc
  iexact Hl

/-! ## The tokens of the four chunks -/

theorem sendTok_of (κ : GSem nD τ sig → ℕ) (c : Dev nD) (j : Fin 3) (k : Fin 4) (h : own (pm c j) = k) :
    iprop(records pv rv κ ∗ tokPt (tokOf c 1 j) ∗ tokPt (tokOf c 2 j)) ⊢ sendTok pv rv κ c k := by
  subst h
  unfold sendTok
  rw [if_neg (show own c ≠ own (pm c j) from (chunkTo_ne c j).symm), show ownerOf (own (pm c j)) = pm c j from by revert c j; decide, slotOf_pm]
  unfold tokPt tokOf
  iintro ⟨#HR, H1, H2⟩
  isplitr; · iapply (rec_rRS pv rv κ); iexact HR
  isplitl [H1]; · iexact H1
  iexact H2
theorem sendTok_own (κ : GSem nD τ sig → ℕ) (c : Dev nD) (k : Fin 4) (h : own c = k) : (iprop(emp) : sProp 𝕄) ⊢ sendTok pv rv κ c k := by
  unfold sendTok; rw [if_pos h]

theorem sendToks (κ : GSem nD τ sig → ℕ) (c : Dev nD) :
    iprop(records pv rv κ ∗ (tokPt (tokOf c 1 0) ∗ tokPt (tokOf c 1 1) ∗ tokPt (tokOf c 1 2)) ∗ (tokPt (tokOf c 2 0) ∗ tokPt (tokOf c 2 1) ∗ tokPt (tokOf c 2 2)))
      ⊢ iprop(sendTok pv rv κ c 0 ∗ sendTok pv rv κ c 1 ∗ sendTok pv rv κ c 2 ∗ sendTok pv rv κ c 3) := by
  iintro ⟨#HR, ⟨A0, A1, A2⟩, ⟨B0, B1, B2⟩⟩
  have T0 := fun k h => sendTok_of pv rv κ c 0 k h
  have T1 := fun k h => sendTok_of pv rv κ c 1 k h
  have T2 := fun k h => sendTok_of pv rv κ c 2 k h
  match c, T0, T1, T2 with
  | 0, T0, T1, T2 =>
    isplitl [A0 B0]
    · iapply (T0 0 (by decide))
      isplitr; · iexact HR
      isplitl [A0] <;> iassumption
    isplitr; · iapply (sendTok_own pv rv κ 0 1 (by decide)); iempintro
    isplitl [A2 B2]
    · iapply (T2 2 (by decide))
      isplitr; · iexact HR
      isplitl [A2] <;> iassumption
    iapply (T1 3 (by decide))
    isplitr; · iexact HR
    isplitl [A1] <;> iassumption
  | 1, T0, T1, T2 =>
    isplitl [A1 B1]
    · iapply (T1 0 (by decide))
      isplitr; · iexact HR
      isplitl [A1] <;> iassumption
    isplitl [A0 B0]
    · iapply (T0 1 (by decide))
      isplitr; · iexact HR
      isplitl [A0] <;> iassumption
    isplitr; · iapply (sendTok_own pv rv κ 1 2 (by decide)); iempintro
    iapply (T2 3 (by decide))
    isplitr; · iexact HR
    isplitl [A2] <;> iassumption
  | 2, T0, T1, T2 =>
    isplitl [A2 B2]
    · iapply (T2 0 (by decide))
      isplitr; · iexact HR
      isplitl [A2] <;> iassumption
    isplitl [A1 B1]
    · iapply (T1 1 (by decide))
      isplitr; · iexact HR
      isplitl [A1] <;> iassumption
    isplitl [A0 B0]
    · iapply (T0 2 (by decide))
      isplitr; · iexact HR
      isplitl [A0] <;> iassumption
    iapply (sendTok_own pv rv κ 2 3 (by decide)); iempintro
  | 3, T0, T1, T2 =>
    isplitr; · iapply (sendTok_own pv rv κ 3 0 (by decide)); iempintro
    isplitl [A2 B2]
    · iapply (T2 1 (by decide))
      isplitr; · iexact HR
      isplitl [A2] <;> iassumption
    isplitl [A1 B1]
    · iapply (T1 2 (by decide))
      isplitr; · iexact HR
      isplitl [A1] <;> iassumption
    iapply (T0 3 (by decide))
    isplitr; · iexact HR
    isplitl [A0] <;> iassumption

/-! ## The launch credit -/

/-- How often device d owes a copy's credit, and a barrier unit, to cell g. -/
def copiesTo (d : Dev nD) (g : GSem nD τ sig) : ℕ :=
  (∑ j : Fin 3, if g = rAGCell (pm d j) j then 1 else 0)
    + ∑ k : Fin 4, if k = own d then 0 else if g = rRSCell (⟨(k.val + 3) % 4, Nat.mod_lt _ (by decide)⟩ : Dev nD) (slotOf d ⟨(k.val + 3) % 4, Nat.mod_lt _ (by decide)⟩) then 1 else 0
def unitsTo (d : Dev nD) (g : GSem nD τ sig) : ℕ := ∑ j : Fin 3, if g = barCell (pe d j) then 1 else 0

theorem tally_count (g g' : GSem nD τ sig) (n : ℕ) : tallyAt g' () n g () = (if g = g' then 1 else 0) * n := by
  rw [tallyAt_apply]
  by_cases h : g = g'
  · rw [if_pos ⟨h, rfl⟩, if_pos h, one_mul]
  · rw [if_neg (fun e => h e.1), if_neg h, zero_mul]

theorem dueRS_count (d : Dev nD) (k : Fin 4) (g : GSem nD τ sig) : dueRS d k g () =
    (if k = own d then 0 else if g = rRSCell (⟨(k.val + 3) % 4, Nat.mod_lt _ (by decide)⟩ : Dev nD) (slotOf d ⟨(k.val + 3) % 4, Nat.mod_lt _ (by decide)⟩) then 1 else 0) * N := by
  unfold dueRS
  by_cases h : k = own d
  · rw [if_pos h, if_pos h, zero_mul]; rfl
  · rw [if_neg h, if_neg h, tally_count]

theorem owed_count (d : Dev nD) (g : GSem nD τ sig) : O₀ d g () = copiesTo d g * N + unitsTo d g := by
  have hadd : ∀ A B : CellTallies nD τ sig Unit, (A + B) g () = A g () + B g () := fun A B => rfl
  unfold O₀ dueSend dueAG dueBar copiesTo unitsTo
  simp only [hadd, dueRS_count, tally_count, Fin.sum_univ_three, Fin.sum_univ_four]
  ring

theorem bar_copies : ∀ c : Dev nD, ∑ d : Dev nD, copiesTo d (barCell c) = 0 := by decide +kernel
theorem bar_units : ∀ c : Dev nD, ∑ d : Dev nD, unitsTo d (barCell c) = 3 := by decide +kernel
theorem rRS_copies : ∀ (c : Dev nD) (j : Fin 3), ∑ d : Dev nD, copiesTo d (rRSCell c j) = 1 := by decide +kernel
theorem rRS_units : ∀ (c : Dev nD) (j : Fin 3), ∑ d : Dev nD, unitsTo d (rRSCell c j) = 0 := by decide +kernel
theorem rAG_copies : ∀ (c : Dev nD) (j : Fin 3), ∑ d : Dev nD, copiesTo d (rAGCell c j) = 1 := by decide +kernel
theorem rAG_units : ∀ (c : Dev nD) (j : Fin 3), ∑ d : Dev nD, unitsTo d (rAGCell c j) = 0 := by decide +kernel

theorem launch_cell (g : GSem nD τ sig) (a b n : ℕ) (ha : ∑ d : Dev nD, copiesTo d g = a) (hb : ∑ d : Dev nD, unitsTo d g = b) (hn : a * N + b = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => owed_count d g, Finset.sum_add_distrib, ← Finset.sum_mul, ha, hb, hn]

/-- The semaphores whose credit is used. -/
abbrev credSems : List (SemLoc sig) := [.reg barrier0, .dma (rRS 0), .dma (rRS 1), .dma (rRS 2), .dma (rAG 0), .dma (rAG 1), .dma (rAG 2)]

theorem creds_of (c : Dev nD) : (Pipeline.launchCred O₀ c : sProp 𝕄) ⊢ creds c := by
  unfold Pipeline.launchCred
  refine (bigSep_subset (Finset.subset_univ credSems.toFinset)).trans ?_
  rw [bigSep_eq_bigSepL_of_eq credSems rfl (by decide)]
  show iprop(cred (tallyOn (barCell c) _) ∗ cred (tallyOn (rRSCell c 0) _) ∗ cred (tallyOn (rRSCell c 1) _) ∗ cred (tallyOn (rRSCell c 2) _)
    ∗ cred (tallyOn (rAGCell c 0) _) ∗ cred (tallyOn (rAGCell c 1) _) ∗ cred (tallyOn (rAGCell c 2) _)) ⊢ _
  have hr := fun j => launch_cell (rRSCell c j) 1 0 N (rRS_copies c j) (rRS_units c j) (by rw [one_mul, Nat.add_zero])
  have hg := fun j => launch_cell (rAGCell c j) 1 0 N (rAG_copies c j) (rAG_units c j) (by rw [one_mul, Nat.add_zero])
  rw [launch_cell (barCell c) 0 3 3 (bar_copies c) (bar_units c) (by rw [zero_mul]), hr 0, hr 1, hr 2, hg 0, hg 1, hg 2]
  unfold creds
  iintro ⟨H0, H1, H2, H3, H4, H5, H6⟩
  isplitl [H0]; · iexact H0
  isplitl [H1 H2 H3]
  · isplitl [H1]; · iexact H1
    isplitl [H2] <;> iassumption
  isplitl [H4]; · iexact H4
  isplitl [H5] <;> iassumption

/-! ## The launch -/

theorem bar_only (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- Beside the buffers, before the kernel. -/
def startR (c : Dev nD) : sProp 𝕄 :=
  iprop(Tk pv rv c ∗ (∃ r, prngReg c r) ∗ ∃ W, owes (c : Thread nD τ) (O₀ c) W)
/-- Beside the buffers, after the kernel. -/
def endR (c : Dev nD) : sProp 𝕄 :=
  iprop(semVal (barCell c) 0 ∗ ∃ W, owes (c : Thread nD τ) (0 : CellTallies nD τ sig Unit) W)

/-- One device's share of the exchange. -/
def mine (c : Dev nD) : sProp 𝕄 :=
  iprop(atPos ER (barCell c) 0 ∅ 0 ∗ (bigSep Finset.univ fun k : Fin 13 => openTok ER ((c : Thread nD τ), osem k)) ∗ myToks c)
/-- The rest of what it holds at launch. -/
def other (c : Dev nD) : sProp 𝕄 :=
  iprop(creds c ∗ owes (c : Thread nD τ) (O₀ c) ∅ ∗ ∃ r, prngReg c r)

theorem start_intro (κ : GSem nD τ sig → ℕ) (c : Dev nD) : iprop(records pv rv κ ∗ (mine c ∗ other c)) ⊢ startR pv rv c := by
  unfold mine other startR Tk
  iintro ⟨#HR, ⟨Ha, Ho, Ht⟩, Hc, HO, Hp⟩
  isplitl [Ha Ho Ht Hc]
  · isplitr [Hc]
    · iexists κ
      isplitr; · iexact HR
      isplitl [Ha]; · iexact Ha
      isplitl [Ho] <;> iassumption
    iexact Hc
  isplitl [Hp]; · iexact Hp
  iexists ∅; iexact HO

theorem start_core (ρ : Dev nD → PrngReg) (c : Dev nD) : iprop(unscopedSems0 c ∗ owes (c : Thread nD τ) (O₀ c) ∅ ∗ Pipeline.launchCred O₀ c ∗ prngReg c (ρ c) ∗ G c)
    ⊢ (iprop(other c ∗ (semVal (barCell c) 0 ∗ G c)) : sProp 𝕄) := by
  rw [bar_only]
  unfold other
  iintro ⟨Hus, HO, Hcr, Hp, HG⟩
  isplitl [HO Hcr Hp]
  · isplitl [Hcr]; · iapply (creds_of c) $$ Hcr
    isplitl [HO]; · iexact HO
    iexists (ρ c); iexact Hp
  isplitl [Hus] <;> iassumption

theorem vals_of : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem ats_of : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem opens_of : bigSep dmaCells (fun g => (openTok ER g : sProp 𝕄))
    ⊢ bigSep Finset.univ (fun c : Dev nD => bigSep Finset.univ fun k : Fin 13 => (openTok ER ((c : Thread nD τ), osem k) : sProp 𝕄)) :=
  Entails.of_eq (by rw [bigSep_map, bigSep_univ_prod]; rfl)
theorem G_all : bigSep Finset.univ (G (F := F)) ⊢ BI.own (ER (launchOf barCells dmaCells toks)) := Entails.of_eq bigSep_G
theorem toks_all : bigSep toks (fun x => (dutyTok ER x.1 x.2.1 x.2.2 : sProp 𝕄)) ⊢ bigSep Finset.univ fun c : Dev nD => myToks c := Entails.of_eq toks_eq

/-- The launch deals every device its share. -/
theorem init (ρ : Dev nD → PrngReg) :
    iprop((bigSep Finset.univ fun c : Dev nD => iprop(unscopedSems0 c
          ∗ owes (c : Thread nD τ) (O₀ c) ∅ ∗ Pipeline.launchCred O₀ c ∗ prngReg c (ρ c) ∗ G c)) ∗ levAts L lv)
      ⊢ (|={Set.univ}=> bigSep Finset.univ (startR pv rv) : sProp 𝕄) := by
  iintro ⟨H, -⟩
  ihave H' := (show (bigSep Finset.univ fun c : Dev nD => iprop(unscopedSems0 c
          ∗ owes (c : Thread nD τ) (O₀ c) ∅ ∗ Pipeline.launchCred O₀ c ∗ prngReg c (ρ c) ∗ G c))
      ⊢ (bigSep Finset.univ fun c : Dev nD => iprop(other c ∗ (semVal (barCell c) 0 ∗ G c)) : sProp 𝕄) from bigSep_mono fun c _ => start_core ρ c) $$ H
  ihave H2 := (unzip_all (fun c : Dev nD => (other c : sProp 𝕄)) (fun c => iprop(semVal (barCell c) 0 ∗ G c))) $$ H'
  icases H2 with ⟨HB, H3⟩
  ihave H4 := (unzip_all (fun c : Dev nD => (semVal (barCell c) 0 : sProp 𝕄)) (fun c => G c)) $$ H3
  icases H4 with ⟨Hv, HG⟩
  imod (Rounds.fund_launch ER (Rd pv rv) disjoint_cells (fun g _ h => h) toks) $$ [Hv HG] with ⟨%κ, -, #Hinv, #Hr, Hat, Hopen, Htok⟩
  · isplitl [Hv]
    · iapply vals_of $$ Hv
    · iapply (G_all (F := F)) $$ HG
  imodintro
  iapply (bigSep_with_persistent (R := records pv rv κ) (Φ := fun c => iprop(mine c ∗ other c)) fun c _ => start_intro pv rv κ c)
  isplitr
  · unfold records
    isplitr; · iexact Hinv
    iexact Hr
  iapply (zip_all (fun c : Dev nD => (mine c : sProp 𝕄)) (fun c => other c))
  isplitr [HB]
  · unfold mine
    iapply (zip_all (fun c : Dev nD => (atPos ER (barCell c) 0 ∅ 0 : sProp 𝕄)) (fun c => iprop((bigSep Finset.univ fun k : Fin 13 => openTok ER ((c : Thread nD τ), osem k)) ∗ myToks c)))
    isplitl [Hat]; · iapply ats_of $$ Hat
    iapply (zip_all (fun c : Dev nD => (bigSep Finset.univ fun k : Fin 13 => openTok ER ((c : Thread nD τ), osem k) : sProp 𝕄)) (fun c => myToks c))
    isplitl [Hopen]; · iapply opens_of $$ Hopen
    iapply toks_all $$ Htok
  · iexact HB

end Cert.KernelIdeal.Own

end
-- ==== Proof.Slots.lean ====
/-
  The landing buffers cut into slots and joined again, and every cell closed at the end.
-/
module

public import proofs.«01_k».proof.Proof.Kits

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (pv : Dev nD → Fin 4 → Blk F) (rv : Dev nD → Blk F)

/-! ## Slots -/

theorem row_mem (k : Fin 4) (i : S4x512x1024.Idx) : i ∈ (rowM k).view.set ↔ (i 0).val = k.val := by
  rw [Memref.set_view_squeeze]
  show i ∈ ((View.whole cc0_scratch13).slice (rect4 k)).set ↔ _
  rw [View.set_slice_whole, Rect.mem_set_unit]
  constructor
  · intro h
    have h0 : k.val ≤ (i 0).val ∧ (i 0).val < k.val + 1 := h 0
    omega
  · intro h a
    match a with
    | 0 => exact ⟨le_of_eq h.symm, by show (i 0).val < k.val + 1; omega⟩
    | 1 => exact ⟨Nat.zero_le _, by have := (i 1).isLt; show (i 1).val < 0 + 512; change (i 1).val < 512 at this; omega⟩
    | 2 => exact ⟨Nat.zero_le _, by have := (i 2).isLt; show (i 2).val < 0 + 1024; change (i 2).val < 1024 at this; omega⟩
theorem rs_mem (j : Fin 3) (i : S3x512x1024.Idx) : i ∈ (rsM j).view.set ↔ (i 0).val = j.val := by
  rw [Memref.set_view_squeeze]
  show i ∈ ((View.whole cc0_scratch14).slice (rect3 j)).set ↔ _
  rw [View.set_slice_whole, Rect.mem_set_unit]
  constructor
  · intro h
    have h0 : j.val ≤ (i 0).val ∧ (i 0).val < j.val + 1 := h 0
    omega
  · intro h a
    match a with
    | 0 => exact ⟨le_of_eq h.symm, by show (i 0).val < j.val + 1; omega⟩
    | 1 => exact ⟨Nat.zero_le _, by have := (i 1).isLt; show (i 1).val < 0 + 512; change (i 1).val < 512 at this; omega⟩
    | 2 => exact ⟨Nat.zero_le _, by have := (i 2).isLt; show (i 2).val < 0 + 1024; change (i 2).val < 1024 at this; omega⟩
theorem ag_mem (j : Fin 3) (i : S3x512x1024.Idx) : i ∈ (agM j).view.set ↔ (i 0).val = j.val := by
  rw [Memref.set_view_squeeze]
  show i ∈ ((View.whole cc0_scratch16).slice (rect3 j)).set ↔ _
  rw [View.set_slice_whole, Rect.mem_set_unit]
  constructor
  · intro h
    have h0 : j.val ≤ (i 0).val ∧ (i 0).val < j.val + 1 := h 0
    omega
  · intro h a
    match a with
    | 0 => exact ⟨le_of_eq h.symm, by show (i 0).val < j.val + 1; omega⟩
    | 1 => exact ⟨Nat.zero_le _, by have := (i 1).isLt; show (i 1).val < 0 + 512; change (i 1).val < 512 at this; omega⟩
    | 2 => exact ⟨Nat.zero_le _, by have := (i 2).isLt; show (i 2).val < 0 + 1024; change (i 2).val < 1024 at this; omega⟩

/-- A buffer cut along a family of element sets that partition it. -/
theorem cut_all {T : Type} [Fintype T] [DecidableEq T] {ℓ : Loc nD τ sig} (K : T → Finset (Idx ℓ)) (p : Idx ℓ → T) (hp : ∀ t i, i ∈ K t ↔ p i = t) (f : Buf (Elt F) ℓ) :
    (ℓ ↦{fullShare} f : sProp 𝕄) = bigSep Finset.univ fun t => ℓ ↦[K t]{fullShare} f := by
  rw [← pointsTo_biUnion Finset.univ K (fun t _ t' _ h => Finset.disjoint_left.mpr fun i hi hj => h (((hp t i).mp hi).symm.trans ((hp t' i).mp hj))),
    show Finset.univ.biUnion K = Finset.univ from Finset.eq_univ_iff_forall.mpr fun i => Finset.mem_biUnion.mpr ⟨p i, Finset.mem_univ _, (hp _ _).mpr rfl⟩]
theorem join_all {T : Type} [Fintype T] [DecidableEq T] {ℓ : Loc nD τ sig} (K : T → Finset (Idx ℓ)) (p : Idx ℓ → T) (hp : ∀ t i, i ∈ K t ↔ p i = t)
    (fs : T → Buf (Elt F) ℓ) (f₀ : Buf (Elt F) ℓ) :
    (bigSep Finset.univ fun t => ℓ ↦[K t]{fullShare} fs t : sProp 𝕄) ⊢ iprop(∃ g, ℓ ↦{fullShare} g) := by
  iintro H
  ihave H' := (pointsTo_biUnion_join Finset.univ K fs f₀ (fun t _ t' _ h => Finset.disjoint_left.mpr fun i hi hj => h (((hp t i).mp hi).symm.trans ((hp t' i).mp hj)))) $$ H
  icases H' with ⟨%g, -, H⟩
  iexists g
  iapply (Entails.of_eq (by rw [show Finset.univ.biUnion K = Finset.univ from Finset.eq_univ_iff_forall.mpr fun i => Finset.mem_biUnion.mpr ⟨p i, Finset.mem_univ _, (hp _ _).mpr rfl⟩])) $$ H

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rows_cut (c : Dev nD) (f : Buf (Elt F) ((c : Thread nD τ).loc cc0_scratch13)) :
    (((c : Thread nD τ).loc cc0_scratch13 ↦{fullShare} f) : sProp 𝕄) ⊢ iprop(rowPts c 0 f ∗ rowPts c 1 f ∗ rowPts c 2 f ∗ rowPts c 3 f) :=
  Entails.of_eq ((cut_all (ℓ := (c : Thread nD τ).loc cc0_scratch13) (fun k : Fin 4 => (rowM k).view.set) (fun i : S4x512x1024.Idx => (i 0 : Fin 4))
    (fun k i => (row_mem k i).trans Fin.ext_iff.symm) f).trans (bigSep_fin4 _))
theorem rows_join (c : Dev nD) :
    (iprop((∃ f, rowPts c 0 f) ∗ (∃ f, rowPts c 1 f) ∗ (∃ f, rowPts c 2 f) ∗ (∃ f, rowPts c 3 f)) : sProp 𝕄)
      ⊢ iprop(∃ f : Buf (Elt F) ((c : Thread nD τ).loc cc0_scratch13), (c : Thread nD τ).loc cc0_scratch13 ↦{fullShare} f) := by
  iintro ⟨⟨%f0, H0⟩, ⟨%f1, H1⟩, ⟨%f2, H2⟩, ⟨%f3, H3⟩⟩
  iapply (join_all (ℓ := (c : Thread nD τ).loc cc0_scratch13) (fun k : Fin 4 => (rowM k).view.set) (fun i : S4x512x1024.Idx => (i 0 : Fin 4))
    (fun k i => (row_mem k i).trans Fin.ext_iff.symm) (fun k => match k with | 0 => f0 | 1 => f1 | 2 => f2 | 3 => f3) f0)
  rw [bigSep_fin4]
  unfold rowPts
  isplitl [H0]; · iexact H0
  isplitl [H1]; · iexact H1
  isplitl [H2] <;> iassumption
theorem rs_cut (c : Dev nD) (f : Buf (Elt F) ((c : Thread nD τ).loc cc0_scratch14)) :
    (((c : Thread nD τ).loc cc0_scratch14 ↦{fullShare} f) : sProp 𝕄) ⊢ iprop(rsPts c 0 f ∗ rsPts c 1 f ∗ rsPts c 2 f) :=
  Entails.of_eq ((cut_all (ℓ := (c : Thread nD τ).loc cc0_scratch14) (fun k : Fin 3 => (rsM k).view.set) (fun i : S3x512x1024.Idx => (i 0 : Fin 3))
    (fun k i => (rs_mem k i).trans Fin.ext_iff.symm) f).trans (bigSep_fin3 _))
theorem rs_join (c : Dev nD) :
    (iprop((∃ f, rsPts c 0 f) ∗ (∃ f, rsPts c 1 f) ∗ (∃ f, rsPts c 2 f)) : sProp 𝕄)
      ⊢ iprop(∃ f : Buf (Elt F) ((c : Thread nD τ).loc cc0_scratch14), (c : Thread nD τ).loc cc0_scratch14 ↦{fullShare} f) := by
  iintro ⟨⟨%f0, H0⟩, ⟨%f1, H1⟩, ⟨%f2, H2⟩⟩
  iapply (join_all (ℓ := (c : Thread nD τ).loc cc0_scratch14) (fun k : Fin 3 => (rsM k).view.set) (fun i : S3x512x1024.Idx => (i 0 : Fin 3))
    (fun k i => (rs_mem k i).trans Fin.ext_iff.symm) (fun k => match k with | 0 => f0 | 1 => f1 | 2 => f2) f0)
  rw [bigSep_fin3]
  unfold rsPts
  isplitl [H0]; · iexact H0
  isplitl [H1] <;> iassumption
theorem ag_cut (c : Dev nD) (f : Buf (Elt F) ((c : Thread nD τ).loc cc0_scratch16)) :
    (((c : Thread nD τ).loc cc0_scratch16 ↦{fullShare} f) : sProp 𝕄) ⊢ iprop(agPts c 0 f ∗ agPts c 1 f ∗ agPts c 2 f) :=
  Entails.of_eq ((cut_all (ℓ := (c : Thread nD τ).loc cc0_scratch16) (fun k : Fin 3 => (agM k).view.set) (fun i : S3x512x1024.Idx => (i 0 : Fin 3))
    (fun k i => (ag_mem k i).trans Fin.ext_iff.symm) f).trans (bigSep_fin3 _))
theorem ag_join (c : Dev nD) :
    (iprop((∃ f, agPts c 0 f) ∗ (∃ f, agPts c 1 f) ∗ (∃ f, agPts c 2 f)) : sProp 𝕄)
      ⊢ iprop(∃ f : Buf (Elt F) ((c : Thread nD τ).loc cc0_scratch16), (c : Thread nD τ).loc cc0_scratch16 ↦{fullShare} f) := by
  iintro ⟨⟨%f0, H0⟩, ⟨%f1, H1⟩, ⟨%f2, H2⟩⟩
  iapply (join_all (ℓ := (c : Thread nD τ).loc cc0_scratch16) (fun k : Fin 3 => (agM k).view.set) (fun i : S3x512x1024.Idx => (i 0 : Fin 3))
    (fun k i => (ag_mem k i).trans Fin.ext_iff.symm) (fun k => match k with | 0 => f0 | 1 => f1 | 2 => f2) f0)
  rw [bigSep_fin3]
  unfold agPts
  isplitl [H0]; · iexact H0
  isplitl [H1] <;> iassumption

/-- The three shares of the sum's buffer agree and join. -/
theorem ags_same (c : Dev nD) (i j : Fin 3) (f g : Buf (Elt F) (agsM.view.loc (c : Thread nD τ))) :
    (iprop(agsPts c i f ∗ agsPts c j g) : sProp 𝕄) ⊢ iprop(agsPts c i f ∗ agsPts c j f) := by
  unfold agsPts
  rw [show agsM.view.set = Finset.univ from View.set_whole _]
  exact pure_elim _ pointsTo_agree fun h => by
    rw [show f = g from funext fun x => (h x (Finset.mem_inter.mpr ⟨Finset.mem_univ _, Finset.mem_univ _⟩)).1]
theorem ags_join (c : Dev nD) :
    (iprop((∃ f, agsPts c 0 f) ∗ (∃ f, agsPts c 1 f) ∗ (∃ f, agsPts c 2 f)) : sProp 𝕄)
      ⊢ iprop(∃ f : Buf (Elt F) ((c : Thread nD τ).loc cc0_scratch15), (c : Thread nD τ).loc cc0_scratch15 ↦{fullShare} f) := by
  iintro ⟨⟨%f0, H0⟩, ⟨%f1, H1⟩, ⟨%f2, H2⟩⟩
  ihave H := (ags_same c 0 1 f0 f1) $$ [H0 H1]
  · isplitl [H0] <;> iassumption
  icases H with ⟨H0, H1⟩
  ihave H := (ags_same c 0 2 f0 f2) $$ [H0 H2]
  · isplitl [H0] <;> iassumption
  icases H with ⟨H0, H2⟩
  iexists f0
  unfold agsPts
  rw [show agsM.view.set = Finset.univ from View.set_whole _]
  iapply (pointsTo_share (PosShare.mem_left_op_right fullShare)).2
  isplitl [H0]; · iexact H0
  iapply (pointsTo_share (PosShare.mem_left_op_right fullShare.right)).2
  isplitl [H1]; · iexact H1
  iexact H2

/-! ## The cells closed -/

def ends (c : Dev nD) : sProp 𝕄 :=
  iprop(atPos ER (barCell c) 1 ∅ 0 ∗ (sRSAt c 0 ∗ sRSAt c 1 ∗ sRSAt c 2 ∗ sRSAt c 3)
    ∗ (atPos ER (rRSCell c 0) 1 ∅ 0 ∗ atPos ER (rRSCell c 1) 1 ∅ 0 ∗ atPos ER (rRSCell c 2) 1 ∅ 0)
    ∗ (atPos ER (sAGCell c 0) 1 ∅ 0 ∗ atPos ER (sAGCell c 1) 1 ∅ 0 ∗ atPos ER (sAGCell c 2) 1 ∅ 0)
    ∗ (atPos ER (rAGCell c 0) 1 ∅ 0 ∗ atPos ER (rAGCell c 1) 1 ∅ 0 ∗ atPos ER (rAGCell c 2) 1 ∅ 0))

theorem shut_sRS (κ : GSem nD τ sig → ℕ) (c : Dev nD) (k : Fin 4) : iprop(records pv rv κ ∗ sRSAt c k) ⊢ (|={Set.univ}=> semVal (sRSCell c k) 0 : sProp 𝕄) := by
  iintro ⟨#HR, H⟩
  iapply (close_sRS pv rv (κ (sRSCell c k)) c k)
  isplitr; · iapply (rec_sRS pv rv κ c k); iexact HR
  iexact H
theorem shut_rRS (κ : GSem nD τ sig → ℕ) (c : Dev nD) (j : Fin 3) : iprop(records pv rv κ ∗ atPos ER (rRSCell c j) 1 ∅ 0) ⊢ (|={Set.univ}=> semVal (rRSCell c j) 0 : sProp 𝕄) := by
  iintro ⟨#HR, H⟩
  iapply (close_step pv rv (κ (rRSCell c j)) (rRSCell c j))
  isplitr; · iapply (rec_rRS pv rv κ c j); iexact HR
  iexact H
theorem shut_sAG (κ : GSem nD τ sig → ℕ) (c : Dev nD) (j : Fin 3) : iprop(records pv rv κ ∗ atPos ER (sAGCell c j) 1 ∅ 0) ⊢ (|={Set.univ}=> semVal (sAGCell c j) 0 : sProp 𝕄) := by
  iintro ⟨#HR, H⟩
  iapply (close_step pv rv (κ (sAGCell c j)) (sAGCell c j))
  isplitr; · iapply (rec_sAG pv rv κ c j); iexact HR
  iexact H
theorem shut_rAG (κ : GSem nD τ sig → ℕ) (c : Dev nD) (j : Fin 3) : iprop(records pv rv κ ∗ atPos ER (rAGCell c j) 1 ∅ 0) ⊢ (|={Set.univ}=> semVal (rAGCell c j) 0 : sProp 𝕄) := by
  iintro ⟨#HR, H⟩
  iapply (close_step pv rv (κ (rAGCell c j)) (rAGCell c j))
  isplitr; · iapply (rec_rAG pv rv κ c j); iexact HR
  iexact H
theorem shut_bar (κ : GSem nD τ sig → ℕ) (c : Dev nD) : iprop(records pv rv κ ∗ atPos ER (barCell c) 1 ∅ 0) ⊢ (|={Set.univ}=> semVal (barCell c) 0 : sProp 𝕄) := by
  iintro ⟨#HR, H⟩
  iapply (close_step pv rv (κ (barCell c)) (barCell c))
  isplitr; · iapply (rec_bar pv rv κ c); iexact HR
  iexact H

theorem own_sems (c : Dev nD) : (Pipeline.ownSems0 osem c : sProp 𝕄)
    = iprop(semVal (sRSCell c 0) 0 ∗ semVal (sRSCell c 1) 0 ∗ semVal (sRSCell c 2) 0 ∗ semVal (sRSCell c 3) 0
      ∗ semVal (rRSCell c 0) 0 ∗ semVal (rRSCell c 1) 0 ∗ semVal (rRSCell c 2) 0
      ∗ semVal (sAGCell c 0) 0 ∗ semVal (sAGCell c 1) 0 ∗ semVal (sAGCell c 2) 0
      ∗ semVal (rAGCell c 0) 0 ∗ semVal (rAGCell c 1) 0 ∗ semVal (rAGCell c 2) 0) := by
  unfold Pipeline.ownSems0
  rw [bigSep_fin13]
  rfl

theorem shut_all (κ : GSem nD τ sig → ℕ) (c : Dev nD) :
    iprop(records pv rv κ ∗ ends c) ⊢ (|={Set.univ}=> iprop(semVal (barCell c) 0 ∗ Pipeline.ownSems0 osem c) : sProp 𝕄) := by
  rw [own_sems]
  unfold ends
  iintro ⟨#HR, Hb, ⟨S0, S1, S2, S3⟩, ⟨R0, R1, R2⟩, ⟨A0, A1, A2⟩, ⟨B0, B1, B2⟩⟩
  imod (shut_bar pv rv κ c) $$ [Hb] with Hb
  · isplitr; · iexact HR
    iexact Hb
  imod (shut_sRS pv rv κ c 0) $$ [S0] with S0
  · isplitr; · iexact HR
    iexact S0
  imod (shut_sRS pv rv κ c 1) $$ [S1] with S1
  · isplitr; · iexact HR
    iexact S1
  imod (shut_sRS pv rv κ c 2) $$ [S2] with S2
  · isplitr; · iexact HR
    iexact S2
  imod (shut_sRS pv rv κ c 3) $$ [S3] with S3
  · isplitr; · iexact HR
    iexact S3
  imod (shut_rRS pv rv κ c 0) $$ [R0] with R0
  · isplitr; · iexact HR
    iexact R0
  imod (shut_rRS pv rv κ c 1) $$ [R1] with R1
  · isplitr; · iexact HR
    iexact R1
  imod (shut_rRS pv rv κ c 2) $$ [R2] with R2
  · isplitr; · iexact HR
    iexact R2
  imod (shut_sAG pv rv κ c 0) $$ [A0] with A0
  · isplitr; · iexact HR
    iexact A0
  imod (shut_sAG pv rv κ c 1) $$ [A1] with A1
  · isplitr; · iexact HR
    iexact A1
  imod (shut_sAG pv rv κ c 2) $$ [A2] with A2
  · isplitr; · iexact HR
    iexact A2
  imod (shut_rAG pv rv κ c 0) $$ [B0] with B0
  · isplitr; · iexact HR
    iexact B0
  imod (shut_rAG pv rv κ c 1) $$ [B1] with B1
  · isplitr; · iexact HR
    iexact B1
  imod (shut_rAG pv rv κ c 2) $$ [B2] with B2
  · isplitr; · iexact HR
    iexact B2
  imodintro
  isplitl [Hb]; · iexact Hb
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [A0]; · iexact A0
  isplitl [A1]; · iexact A1
  isplitl [A2]; · iexact A2
  isplitl [B0]; · iexact B0
  isplitl [B1]; · iexact B1
  iexact B2

end Cert.KernelIdeal.Own

end
-- ==== Proof.Region.lean ====
/-
  The kernel's region: its proof data, the walk as its body, and its record.
-/
module

public import proofs.«01_k».proof.Proof.Body
public import proofs.«01_k».proof.Proof.Slots
public import Idealize.ShloMosaic.Lib.Pipeline.ValueKit.Geometry

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig Unit (Elt F) ℕ UU ℕ

/-! ## At the buffers that each device enters with -/

variable (V : Dev nD → Valuation τ sig (Elt F))

def insOf (c : Dev nD) : Ins F := ⟨V c main_v18, V c main_v9, V c main_v14, V c main_v20, V c main_v22⟩
/-- The partials and the sums. -/
def pvV (c : Dev nD) : Fin 4 → Blk F := pvOf (insOf V c)
def rvV (c : Dev nD) : Blk F := rvOf (insOf V) c
theorem hrvV (c : Dev nD) : rvV V c = sum4 (pvV V c (own c)) (pvV V (pe c 0) (own c)) (pvV V (pe c 1) (own c)) (pvV V (pe c 2) (own c)) := rfl

/-- A row's chunk and its row in the chunk. -/
def chunkRow (i : S2048x1024.Idx) : Fin 4 := ⟨(i 0).val / 512, by have h : (i 0).val < 2048 := (i 0).isLt; omega⟩
def inChunk (i : S2048x1024.Idx) : S512x1024.Idx
  | 0 => (⟨(i 0).val % 512, Nat.mod_lt _ (by decide)⟩ : Fin 512)
  | 1 => (i 1 : Fin 1024)
/-- The kernel's result, the four sums below one another; the same on every device. -/
def resV : S2048x1024.Idx → Elt F .bf16 := fun i => rvV V (ownerOf (chunkRow i)) (inChunk i)

/-- After the kernel only its result differs. -/
def after (c : Dev nD) : Valuation τ sig (Elt F) := Function.update (V c) main_v23 (resV V)

/-- The invariant before the walk and after it. -/
def phi0 (c : Dev nD) : sProp 𝕄 := iprop(Xk (pvV V) (rvV V) c ∗ Pipeline.scopedRest spec0 c ∗ ∃ r, prngReg c r)
def phi1 (c : Dev nD) : sProp 𝕄 := iprop((semVal (barCell c) 0 ∗ Pipeline.ownSems0 osem c) ∗ Pipeline.scopedRest spec0 c ∗ ∃ r, prngReg c r)

def dat0 (c : Dev nD) : Dat τ (Elt F) Unit ℕ UU ℕ cfg0 c where
  A w := V c (Pipeline.arrRef spec0 w)
  after w t := match w with
    | 0 => V c main_v18
    | 1 => V c main_v9
    | 2 => V c main_v14
    | 3 => V c main_v20
    | 4 => V c main_v22
    | 5 => resV V
    | ⟨_ + 6, h⟩ => absurd h (Nat.not_lt.mpr (Nat.le_add_left _ _))
  Φ t := if t.val = 0 then phi0 V c else phi1 c
  q _ := fullShare
  owed t := if t.val = 0 then O₀ c else 0

abbrev pdats (p : Fin 1) (c : Dev nD) : Dat τ (Elt F) Unit ℕ UU ℕ (cfgs p) c := match p with | 0 => dat0 V c

theorem idx0_0 : ∀ t : Fin cfg0.N, win0_0.index t = ![0, 0] := (by decide +kernel : ∀ t : Fin grid0.N, _)
theorem emb0_0 (y : ((cfg0.win 0).xblock (cfg0.grid.coords t0_0)).Idx) : ((cfg0.win 0).blk t0_0).view.emb y = (y : main_v18.ty.shape.Idx) := by
  funext a
  refine Fin.ext ?_
  fin_cases a <;> blk_simp [idx0_0]
theorem before0_0 (c : Dev nD) (t : Fin cfg0.N) (d) : (dat0 V c).before 0 t d = V c main_v18 := by
  refine ((dat0 V c).before_fetched 0 t (fetch0_0 t) d).trans ?_
  funext y
  obtain rfl := fin_N0 t
  show V c main_v18 (((cfg0.win 0).blk t0_0).view.emb y) = V c main_v18 y
  rw [emb0_0]
theorem idx0_1 : ∀ t : Fin cfg0.N, win0_1.index t = ![0, 0] := (by decide +kernel : ∀ t : Fin grid0.N, _)
theorem emb0_1 (y : ((cfg0.win 1).xblock (cfg0.grid.coords t0_0)).Idx) : ((cfg0.win 1).blk t0_0).view.emb y = (y : main_v9.ty.shape.Idx) := by
  funext a
  refine Fin.ext ?_
  fin_cases a <;> blk_simp [idx0_1]
theorem before0_1 (c : Dev nD) (t : Fin cfg0.N) (d) : (dat0 V c).before 1 t d = V c main_v9 := by
  refine ((dat0 V c).before_fetched 1 t (fetch0_1 t) d).trans ?_
  funext y
  obtain rfl := fin_N0 t
  show V c main_v9 (((cfg0.win 1).blk t0_0).view.emb y) = V c main_v9 y
  rw [emb0_1]
theorem idx0_2 : ∀ t : Fin cfg0.N, win0_2.index t = ![0, 0] := (by decide +kernel : ∀ t : Fin grid0.N, _)
theorem emb0_2 (y : ((cfg0.win 2).xblock (cfg0.grid.coords t0_0)).Idx) : ((cfg0.win 2).blk t0_0).view.emb y = (y : main_v14.ty.shape.Idx) := by
  funext a
  refine Fin.ext ?_
  fin_cases a <;> blk_simp [idx0_2]
theorem before0_2 (c : Dev nD) (t : Fin cfg0.N) (d) : (dat0 V c).before 2 t d = V c main_v14 := by
  refine ((dat0 V c).before_fetched 2 t (fetch0_2 t) d).trans ?_
  funext y
  obtain rfl := fin_N0 t
  show V c main_v14 (((cfg0.win 2).blk t0_0).view.emb y) = V c main_v14 y
  rw [emb0_2]
theorem idx0_3 : ∀ t : Fin cfg0.N, win0_3.index t = ![0, 0] := (by decide +kernel : ∀ t : Fin grid0.N, _)
theorem emb0_3 (y : ((cfg0.win 3).xblock (cfg0.grid.coords t0_0)).Idx) : ((cfg0.win 3).blk t0_0).view.emb y = (y : main_v20.ty.shape.Idx) := by
  funext a
  refine Fin.ext ?_
  fin_cases a <;> blk_simp [idx0_3]
theorem before0_3 (c : Dev nD) (t : Fin cfg0.N) (d) : (dat0 V c).before 3 t d = V c main_v20 := by
  refine ((dat0 V c).before_fetched 3 t (fetch0_3 t) d).trans ?_
  funext y
  obtain rfl := fin_N0 t
  show V c main_v20 (((cfg0.win 3).blk t0_0).view.emb y) = V c main_v20 y
  rw [emb0_3]
theorem idx0_4 : ∀ t : Fin cfg0.N, win0_4.index t = ![0, 0] := (by decide +kernel : ∀ t : Fin grid0.N, _)
theorem emb0_4 (y : ((cfg0.win 4).xblock (cfg0.grid.coords t0_0)).Idx) : ((cfg0.win 4).blk t0_0).view.emb y = (y : main_v22.ty.shape.Idx) := by
  funext a
  refine Fin.ext ?_
  fin_cases a <;> blk_simp [idx0_4]
theorem before0_4 (c : Dev nD) (t : Fin cfg0.N) (d) : (dat0 V c).before 4 t d = V c main_v22 := by
  refine ((dat0 V c).before_fetched 4 t (fetch0_4 t) d).trans ?_
  funext y
  obtain rfl := fin_N0 t
  show V c main_v22 (((cfg0.win 4).blk t0_0).view.emb y) = V c main_v22 y
  rw [emb0_4]

/-! ## The walk between what the region hands it and what it hands back -/

theorem pos_eq (c : Dev nD) : (bigSep Finset.univ fun k : Fin 13 => iprop(atPos ER ((c : Thread nD τ), osem k) 0 ∅ 0 ∗ reached ER ((c : Thread nD τ), osem k) 0) : sProp 𝕄)
    = iprop((atPos ER (sRSCell c 0) 0 ∅ 0 ∗ reached ER (sRSCell c 0) 0) ∗ (atPos ER (sRSCell c 1) 0 ∅ 0 ∗ reached ER (sRSCell c 1) 0)
      ∗ (atPos ER (sRSCell c 2) 0 ∅ 0 ∗ reached ER (sRSCell c 2) 0) ∗ (atPos ER (sRSCell c 3) 0 ∅ 0 ∗ reached ER (sRSCell c 3) 0)
      ∗ (atPos ER (rRSCell c 0) 0 ∅ 0 ∗ reached ER (rRSCell c 0) 0) ∗ (atPos ER (rRSCell c 1) 0 ∅ 0 ∗ reached ER (rRSCell c 1) 0)
      ∗ (atPos ER (rRSCell c 2) 0 ∅ 0 ∗ reached ER (rRSCell c 2) 0)
      ∗ (atPos ER (sAGCell c 0) 0 ∅ 0 ∗ reached ER (sAGCell c 0) 0) ∗ (atPos ER (sAGCell c 1) 0 ∅ 0 ∗ reached ER (sAGCell c 1) 0)
      ∗ (atPos ER (sAGCell c 2) 0 ∅ 0 ∗ reached ER (sAGCell c 2) 0)
      ∗ (atPos ER (rAGCell c 0) 0 ∅ 0 ∗ reached ER (rAGCell c 0) 0) ∗ (atPos ER (rAGCell c 1) 0 ∅ 0 ∗ reached ER (rAGCell c 1) 0)
      ∗ (atPos ER (rAGCell c 2) 0 ∅ 0 ∗ reached ER (rAGCell c 2) 0)) := by
  rw [bigSep_fin13]
  rfl

theorem tok_bar (c : Dev nD) (j : Fin 3) : (tokPt (tokOf c 0 j) : sProp 𝕄) ⊢ dutyTok ER (barCell (pe c j)) 0 (c : Fin 4) := Entails.refl _
theorem tok_sAG (c : Dev nD) (j : Fin 3) : (tokPt (tokOf c 3 j) : sProp 𝕄) ⊢ dutyTok ER (sAGCell c j) 0 0 := Entails.refl _
theorem tok_rAG (c : Dev nD) (j : Fin 3) : (tokPt (tokOf c 4 j) : sProp 𝕄) ⊢ dutyTok ER (rAGCell (pm c j) j) 0 0 := Entails.refl _

/-- A row of the result in its chunk. -/
theorem row_at (i : S2048x1024.Idx) : (rowsR (chunkRow i)).emb (inChunk i) = i := by
  funext a
  refine Fin.ext ?_
  fin_cases a
  · show 512 * ((i 0).val / 512) + 1 * ((i 0).val % 512) = (i 0).val
    omega
  · show 0 + 1 * (i 1).val = (i 1).val
    omega
/-- The four rows read as the sums are the result. -/
theorem all_rows (rv : Dev nD → Blk F) (g : S2048x1024.Idx → Elt F .bf16)
    (hg : ∀ k, (Memref.whole cc0_stg5_0).view.readAt (Elt F) (rowsR k).toLoadRect g = rv (ownerOf k)) :
    g = fun i => rv (ownerOf (chunkRow i)) (inChunk i) := by
  funext i
  rw [← hg (chunkRow i)]
  show g i = g ((rowsR (chunkRow i)).emb (inChunk i))
  rw [row_at]

/-- What the walk hands back. -/
def walkPost (c : Dev nD) : sProp 𝕄 :=
  iprop((semVal (barCell c) 0 ∗ Pipeline.ownSems0 osem c) ∗ Pipeline.scopedRest spec0 c ∗ (∃ W, owes (c : Thread nD τ) 0 W)
    ∗ ((c : Thread nD τ).loc cc0_stg0_0 ↦{fullShare} V c main_v18) ∗ ((c : Thread nD τ).loc cc0_stg1_0 ↦{fullShare} V c main_v9)
    ∗ ((c : Thread nD τ).loc cc0_stg2_0 ↦{fullShare} V c main_v14) ∗ ((c : Thread nD τ).loc cc0_stg3_0 ↦{fullShare} V c main_v20)
    ∗ ((c : Thread nD τ).loc cc0_stg4_0 ↦{fullShare} V c main_v22) ∗ ((c : Thread nD τ).loc cc0_stg5_0 ↦{fullShare} resV V))

set_option maxHeartbeats 4000000 in
theorem back (κ : GSem nD τ sig → ℕ) (c : Dev nD) :
    iprop(records (pvV V) (rvV V) κ ∗ bodyPost (rvV V) c (V c main_v18) (V c main_v9) (V c main_v14) (V c main_v20) (V c main_v22))
      ⊢ (|={Set.univ}=> walkPost V c : sProp 𝕄) := by
  unfold bodyPost walkPost
  rw [scopedRest0_eq]
  iintro ⟨#HR, B0, B1, B2, B3, B4, ⟨%g, %hg, B5⟩, S0, S1, S2, S3, S4, S5, S6, S7, S8, S9, S10, S11, S12, R0, R1, R2, R3, P0, P1, P2, G0, G1, G2, D0, D1, D2, Eb, E0, E1, E2, E3, F0, F1, F2, H0, H1, H2, J0, J1, J2, HO⟩
  ihave X13 := (rows_join c) $$ [R0 R1 R2 R3]
  · isplitl [R0]; · iexact R0
    isplitl [R1]; · iexact R1
    isplitl [R2]; · iexact R2
    iexact R3
  ihave X14 := (rs_join c) $$ [P0 P1 P2]
  · isplitl [P0]; · iexact P0
    isplitl [P1]; · iexact P1
    iexact P2
  ihave X16 := (ag_join c) $$ [G0 G1 G2]
  · isplitl [G0]; · iexact G0
    isplitl [G1]; · iexact G1
    iexact G2
  ihave X15 := (ags_join c) $$ [D0 D1 D2]
  · isplitl [D0]; · iexact D0
    isplitl [D1]; · iexact D1
    iexact D2
  imod (shut_all (pvV V) (rvV V) κ c) $$ [Eb E0 E1 E2 E3 F0 F1 F2 H0 H1 H2 J0 J1 J2] with HS
  · unfold ends
    isplitr; · iexact HR
    isplitl [Eb]; · iexact Eb
    isplitl [E0 E1 E2 E3]
    · isplitl [E0]; · iexact E0
      isplitl [E1]; · iexact E1
      isplitl [E2]; · iexact E2
      iexact E3
    isplitl [F0 F1 F2]
    · isplitl [F0]; · iexact F0
      isplitl [F1]; · iexact F1
      iexact F2
    isplitl [H0 H1 H2]
    · isplitl [H0]; · iexact H0
      isplitl [H1]; · iexact H1
      iexact H2
    isplitl [J0]; · iexact J0
    isplitl [J1]; · iexact J1
    iexact J2
  imodintro
  isplitl [HS]; · iexact HS
  isplitl [S0 S1 S2 S3 S4 S5 S6 S7 S8 S9 S10 S11 S12 X13 X14 X15 X16]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [X13]; · iexact X13
    isplitl [X14]; · iexact X14
    isplitl [X15]; · iexact X15
    iexact X16
  isplitl [HO]; · iexact HO
  isplitl [B0]; · iexact B0
  isplitl [B1]; · iexact B1
  isplitl [B2]; · iexact B2
  isplitl [B3]; · iexact B3
  isplitl [B4]; · iexact B4
  rw [show resV V = g from (all_rows (rvV V) g hg).symm]
  iexact B5

set_option maxHeartbeats 4000000 in
theorem walk (c : Dev nD) (W : Waits sig Unit) (fB5 : Buf (Elt F) ((Memref.whole cc0_stg5_0).view.loc (c : Thread nD τ))) (Q : PUnit → sProp 𝕄) :
    iprop(Xk (pvV V) (rvV V) c ∗ Pipeline.scopedRest spec0 c ∗ owes (c : Thread nD τ) (O₀ c) W
        ∗ ((c : Thread nD τ).loc cc0_stg0_0 ↦{fullShare} V c main_v18) ∗ ((c : Thread nD τ).loc cc0_stg1_0 ↦{fullShare} V c main_v9)
        ∗ ((c : Thread nD τ).loc cc0_stg2_0 ↦{fullShare} V c main_v14) ∗ ((c : Thread nD τ).loc cc0_stg3_0 ↦{fullShare} V c main_v20)
        ∗ ((c : Thread nD τ).loc cc0_stg4_0 ↦{fullShare} V c main_v22) ∗ ((c : Thread nD τ).loc cc0_stg5_0 ↦{fullShare} fB5)
        ∗ (walkPost V c -∗ Q ⟨⟩))
      ⊢ wp frame (wpE (defs₀ (F := F)) 𝒱₀ (c : Thread nD τ) none) Set.univ (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20) Q := by
  unfold Xk myToks creds
  rw [scopedRest0_eq, pos_eq]
  iintro ⟨⟨⟨%κ, #HR, Hat, ⟨⟨Y0, #Z0⟩, ⟨Y1, #Z1⟩, ⟨Y2, #Z2⟩, ⟨Y3, #Z3⟩, ⟨Y4, #Z4⟩, ⟨Y5, #Z5⟩, ⟨Y6, #Z6⟩, ⟨Y7, #Z7⟩, ⟨Y8, #Z8⟩, ⟨Y9, #Z9⟩, ⟨Y10, #Z10⟩, ⟨Y11, #Z11⟩, ⟨Y12, #Z12⟩⟩, ⟨⟨T0, T1, T2⟩, TA, TB, ⟨U0, U1, U2⟩, ⟨V0, V1, V2⟩⟩⟩, ⟨Hcb, ⟨C0, C1, C2⟩, ⟨D0, D1, D2⟩⟩, #Hlev⟩, ⟨⟨%fS0, S0⟩, ⟨%fS1, S1⟩, ⟨%fS2, S2⟩, ⟨%fS3, S3⟩, ⟨%fS4, S4⟩, ⟨%fS5, S5⟩, ⟨%fS6, S6⟩, ⟨%fS7, S7⟩, ⟨%fS8, S8⟩, ⟨%fS9, S9⟩, ⟨%fS10, S10⟩, ⟨%fS11, S11⟩, ⟨%fS12, S12⟩, ⟨%fS13, S13⟩, ⟨%fS14, S14⟩, ⟨%fS15, S15⟩, ⟨%fS16, S16⟩⟩, HO, B0, B1, B2, B3, B4, B5, HQ⟩
  ihave ⟨R0, R1, R2, R3⟩ := (rows_cut c fS13) $$ S13
  ihave ⟨P0, P1, P2⟩ := (rs_cut c fS14) $$ S14
  ihave ⟨G0, G1, G2⟩ := (ag_cut c fS16) $$ S16
  ihave ⟨X0, X1, X2, X3⟩ := (sendToks (pvV V) (rvV V) κ c) $$ [TA TB]
  · isplitr; · iexact HR
    isplitl [TA]; · iexact TA
    iexact TB
  iapply (wp_fupd _ _)
  iapply (head (pvV V) (rvV V) κ c W _ (V c main_v18) (V c main_v9) (V c main_v14) (V c main_v20) (V c main_v22) fB5 fS0 fS1 fS2 fS3 fS4 fS5 fS6 fS7 fS8 fS9 fS10 fS11 fS12 fS15 fS13 fS13 fS13 fS13 rfl (hrvV V c))
  isplitr; · iapply (rec_bar (pvV V) (rvV V) κ c); iexact HR
  isplitr; · iapply (rec_bar (pvV V) (rvV V) κ (pe c 0)); iexact HR
  isplitl [T0]; · iapply (tok_bar c 0) $$ T0
  isplitr; · iapply (rec_reached (pvV V) (rvV V) κ (pe c 0)); iexact HR
  isplitl [P0 G0]
  · isplitl [P0]; · iexists fS14; iexact P0
    isplitl [G0]; · iexists fS16; iexact G0
    isplitr; · iexact Z4
    iexact Z10
  isplitr; · iapply (rec_bar (pvV V) (rvV V) κ (pe c 1)); iexact HR
  isplitl [T1]; · iapply (tok_bar c 1) $$ T1
  isplitr; · iapply (rec_reached (pvV V) (rvV V) κ (pe c 1)); iexact HR
  isplitl [P1 G1]
  · isplitl [P1]; · iexists fS14; iexact P1
    isplitl [G1]; · iexists fS16; iexact G1
    isplitr; · iexact Z5
    iexact Z11
  isplitr; · iapply (rec_bar (pvV V) (rvV V) κ (pe c 2)); iexact HR
  isplitl [T2]; · iapply (tok_bar c 2) $$ T2
  isplitr; · iapply (rec_reached (pvV V) (rvV V) κ (pe c 2)); iexact HR
  isplitl [P2 G2]
  · isplitl [P2]; · iexists fS14; iexact P2
    isplitl [G2]; · iexists fS16; iexact G2
    isplitr; · iexact Z6
    iexact Z12
  isplitl [Hcb]; · iexact Hcb
  isplitr; · iexact Hlev
  isplitl [Hat]; · iexact Hat
  isplitl [HO]; · iexact HO
  isplitl [B0]; · iexact B0
  isplitl [B1]; · iexact B1
  isplitl [B2]; · iexact B2
  isplitl [B3]; · iexact B3
  isplitl [B4]; · iexact B4
  isplitl [B5]; · iexact B5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S15]; · iexact S15
  isplitl [R0]; · unfold rowPts; iexact R0
  isplitl [R1]; · unfold rowPts; iexact R1
  isplitl [R2]; · unfold rowPts; iexact R2
  isplitl [R3]; · unfold rowPts; iexact R3
  isplitr; · iapply (rec_sRS (pvV V) (rvV V) κ c 0); iexact HR
  isplitr; · iexact Z0
  isplitl [X0]; · iexact X0
  isplitl [Y0]; · iexact Y0
  isplitr; · iapply (rec_sRS (pvV V) (rvV V) κ c 1); iexact HR
  isplitr; · iexact Z1
  isplitl [X1]; · iexact X1
  isplitl [Y1]; · iexact Y1
  isplitr; · iapply (rec_sRS (pvV V) (rvV V) κ c 2); iexact HR
  isplitr; · iexact Z2
  isplitl [X2]; · iexact X2
  isplitl [Y2]; · iexact Y2
  isplitr; · iapply (rec_sRS (pvV V) (rvV V) κ c 3); iexact HR
  isplitr; · iexact Z3
  isplitl [X3]; · iexact X3
  isplitl [Y3]; · iexact Y3
  isplitr; · iapply (rec_rRS (pvV V) (rvV V) κ c 0); iexact HR
  isplitl [C0]; · iexact C0
  isplitl [Y4]; · iexact Y4
  isplitr; · iapply (rec_rRS (pvV V) (rvV V) κ c 1); iexact HR
  isplitl [C1]; · iexact C1
  isplitl [Y5]; · iexact Y5
  isplitr; · iapply (rec_rRS (pvV V) (rvV V) κ c 2); iexact HR
  isplitl [C2]; · iexact C2
  isplitl [Y6]; · iexact Y6
  isplitr; · iapply (rec_sAG (pvV V) (rvV V) κ c 0); iexact HR
  isplitr; · iexact Z7
  isplitl [U0]; · iapply (tok_sAG c 0) $$ U0
  isplitl [Y7]; · iexact Y7
  isplitr; · iapply (rec_rAG (pvV V) (rvV V) κ (pm c 0) 0); iexact HR
  isplitl [V0]; · iapply (tok_rAG c 0) $$ V0
  isplitr; · iapply (rec_rAG (pvV V) (rvV V) κ c 0); iexact HR
  isplitl [D0]; · iexact D0
  isplitl [Y10]; · iexact Y10
  isplitr; · iapply (rec_sAG (pvV V) (rvV V) κ c 1); iexact HR
  isplitr; · iexact Z8
  isplitl [U1]; · iapply (tok_sAG c 1) $$ U1
  isplitl [Y8]; · iexact Y8
  isplitr; · iapply (rec_rAG (pvV V) (rvV V) κ (pm c 1) 1); iexact HR
  isplitl [V1]; · iapply (tok_rAG c 1) $$ V1
  isplitr; · iapply (rec_rAG (pvV V) (rvV V) κ c 1); iexact HR
  isplitl [D1]; · iexact D1
  isplitl [Y11]; · iexact Y11
  isplitr; · iapply (rec_sAG (pvV V) (rvV V) κ c 2); iexact HR
  isplitr; · iexact Z9
  isplitl [U2]; · iapply (tok_sAG c 2) $$ U2
  isplitl [Y9]; · iexact Y9
  isplitr; · iapply (rec_rAG (pvV V) (rvV V) κ (pm c 2) 2); iexact HR
  isplitl [V2]; · iapply (tok_rAG c 2) $$ V2
  isplitr; · iapply (rec_rAG (pvV V) (rvV V) κ c 2); iexact HR
  isplitl [D2]; · iexact D2
  isplitl [Y12]; · iexact Y12
  iintro HP
  imod (back V κ c) $$ [HP] with HP
  · isplitr; · iexact HR
    iexact HP
  imodintro
  iapply HQ
  iexact HP

end Cert.KernelIdeal.Own

end
-- ==== Proof.Record.lean ====
/-
  The kernel in its region: its obligation, its record, and how a device enters and leaves it.
-/
module

public import proofs.«01_k».proof.Proof.Region
public import Idealize.ShloMosaic.Lib.Pipeline.ValueKit.Geometry

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig Unit (Elt F) ℕ UU ℕ

/-! ## At the buffers that each device enters with -/

variable (V : Dev nD → Valuation τ sig (Elt F))

theorem owed_zero (c : Dev nD) : (dat0 V c).owed 0 = O₀ c := rfl
theorem owed_last (c : Dev nD) : (dat0 V c).owed (Fin.last cfg0.N) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h0 : (dat0 V c).owed t = O) (W : Waits sig Unit) :
    (owes (c : Thread nD τ) O W : sProp 𝕄) ⊢ ((dat0 V c).owesAt () t : sProp 𝕄) := by
  unfold Dat.owesAt Pipeline.owesWithin Dat.bound; rw [h0]
  iintro HO; iexists W; isplitr; · ipureintro; exact fun _ _ => Or.inl trivial
  iexact HO
theorem owes_out (c : Dev nD) (t : Fin (cfg0.N + 1)) (O : CellTallies nD τ sig Unit) (h0 : (dat0 V c).owed t = O) :
    ((dat0 V c).owesAt () t : sProp 𝕄) ⊢ iprop(∃ W, owes (c : Thread nD τ) O W) := by
  unfold Dat.owesAt Pipeline.owesWithin; rw [h0]
  iintro ⟨%W, -, HO⟩; iexists W; iexact HO

set_option maxHeartbeats 4000000 in
/-- The region's obligation: the walk. -/
theorem body0 (c : Dev nD) : BodyObligation (dat0 V c) defs₀ 𝒱₀ () Set.univ := fun t => by
  obtain rfl := fin_N0 t
  rw [bigSep_W0, bigSep_W0]
  rw [show (dat0 V c).Φ (Fin.castSucc t0_0) = phi0 V c from rfl, show (dat0 V c).Φ (Fin.succ t0_0) = phi1 c from rfl]
  unfold phi0 phi1
  iintro ⟨⟨HX, Hs, Hp⟩, HO, ⟨%d0, B0⟩, ⟨%d1, B1⟩, ⟨%d2, B2⟩, ⟨%d3, B3⟩, ⟨%d4, B4⟩, ⟨%d5, B5⟩⟩
  rw [before0_0, before0_1, before0_2, before0_3, before0_4]
  ihave B0 := (Entails.of_eq (owns_whole (c : Thread nD τ) cc0_stg0_0 fullShare (V c main_v18))) $$ B0
  ihave B1 := (Entails.of_eq (owns_whole (c : Thread nD τ) cc0_stg1_0 fullShare (V c main_v9))) $$ B1
  ihave B2 := (Entails.of_eq (owns_whole (c : Thread nD τ) cc0_stg2_0 fullShare (V c main_v14))) $$ B2
  ihave B3 := (Entails.of_eq (owns_whole (c : Thread nD τ) cc0_stg3_0 fullShare (V c main_v20))) $$ B3
  ihave B4 := (Entails.of_eq (owns_whole (c : Thread nD τ) cc0_stg4_0 fullShare (V c main_v22))) $$ B4
  ihave B5 := (Entails.of_eq (owns_whole (c : Thread nD τ) cc0_stg5_0 fullShare ((dat0 V c).before 5 t0_0 d5))) $$ B5
  ihave HO' := (owes_out V c (Fin.castSucc t0_0) (O₀ c) rfl) $$ HO
  icases HO' with ⟨%W, HO⟩
  iapply (walk V c W _ _)
  isplitl [HX]; · iexact HX
  isplitl [Hs]; · iexact Hs
  isplitl [HO]; · iexact HO
  isplitl [B0]; · iexact B0
  isplitl [B1]; · iexact B1
  isplitl [B2]; · iexact B2
  isplitl [B3]; · iexact B3
  isplitl [B4]; · iexact B4
  isplitl [B5]; · iexact B5
  unfold walkPost
  iintro ⟨HY, Hs, ⟨%W', HO⟩, B0, B1, B2, B3, B4, B5⟩
  isplitl [HY Hs Hp]
  · isplitl [HY]; · iexact HY
    isplitl [Hs]; · iexact Hs
    iexact Hp
  isplitl [HO]
  · iapply (owes_in V c (Fin.succ t0_0) 0 rfl W'); iexact HO
  isplitl [B0]; · iapply (Entails.of_eq (owns_whole (c : Thread nD τ) cc0_stg0_0 fullShare (V c main_v18)).symm) $$ B0
  isplitl [B1]; · iapply (Entails.of_eq (owns_whole (c : Thread nD τ) cc0_stg1_0 fullShare (V c main_v9)).symm) $$ B1
  isplitl [B2]; · iapply (Entails.of_eq (owns_whole (c : Thread nD τ) cc0_stg2_0 fullShare (V c main_v14)).symm) $$ B2
  isplitl [B3]; · iapply (Entails.of_eq (owns_whole (c : Thread nD τ) cc0_stg3_0 fullShare (V c main_v20)).symm) $$ B3
  isplitl [B4]; · iapply (Entails.of_eq (owns_whole (c : Thread nD τ) cc0_stg4_0 fullShare (V c main_v22)).symm) $$ B4
  iapply (Entails.of_eq (owns_whole (c : Thread nD τ) cc0_stg5_0 fullShare (resV V)).symm) $$ B5

/-! ## The record -/

theorem cut_owed (c : Dev nD) (t : Fin (cfg0.N + 1)) (g : GSem nD τ sig) (i : Unit) (h : 0 < (dat0 V c).owed t g i) : i ∈ L g ∧ (0 : ℕ) < lv g i := by
  have e : (dat0 V c).owed t = if t.val = 0 then O₀ c else 0 := rfl
  rw [e] at h
  split at h
  · have hb : ∀ j, Above 0 (tallyAt (barCell (pe c j)) () 1 : CellTallies nD τ sig Unit) := fun j => above_tally _ _ _ (by decide)
    have hd : Above 0 (dueBar c) := above_add (above_add (hb 2) (hb 1)) (hb 0)
    have hs : Above 0 (dueSend c) := fun g u hu => ⟨(above_dueSend c g u hu).1, Nat.lt_of_succ_lt (above_dueSend c g u hu).2⟩
    obtain ⟨h1, h2⟩ := above_add hs hd g i h
    refine ⟨?_, h2⟩
    unfold L
    rw [if_pos h1]
    exact Finset.mem_singleton_self _
  · exact absurd h (Nat.lt_irrefl 0)

theorem stage_low : ∀ (w : Fin 6) (s : Fin (spec0 w).nbuf), lvS (.dma ((spec0 w).sem s)) ≤ 0 := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hold_none (c : Dev nD) (W : Valuation τ sig (Elt F)) : (StableHlo.held (c.tc : Thread nD τ) (∅ : Finset (DevRef τ sig)) W : sProp 𝕄) = BI.emp := by
  unfold StableHlo.held
  exact BI.bigSep_empty

theorem enter (c : Dev nD) : iprop(Pipeline.scopedRest (Pipeline.pin (pcfgs (F := F)) adm 0).spec c ∗ (∃ r, prngReg c r)
      ∗ StableHlo.held (c.tc : Thread nD τ) (∅ : Finset (DevRef τ sig)) (V c) ∗ Xk (pvV V) (rvV V) c)
    ⊢ (pdats V 0 c).Φ 0 := by
  rw [show (pdats V 0 c).Φ 0 = phi0 V c from rfl, hold_none]
  unfold phi0
  iintro ⟨Hs, Hp, -, HX⟩
  isplitl [HX]; · iexact HX
  isplitl [Hs]; · iexact Hs
  iexact Hp
theorem leave (c : Dev nD) : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (after V c) ∗ Pipeline.ownSems0 osem c ∗ semVal (barCell c) 0) := by
  rw [show (pdats V 0 c).Φ (Fin.last _) = phi1 c from rfl, hold_none]
  unfold phi1
  iintro ⟨⟨Hb, Ho⟩, Hs, Hp⟩
  isplitl [Hs]; · iexact Hs
  isplitl [Hp]; · iexact Hp
  isplitr; · iempintro
  isplitl [Ho]; · iexact Ho
  iexact Hb

theorem arr_in (c : Dev nD) (w : Fin 6) : (dat0 V c).arrAt w 0 = V c (Proc.devRef .tc (Pipeline.arrRef spec0 w)) := rfl
theorem emb0_5 (y : ((cfg0.win 5).xblock (cfg0.grid.coords t0_0)).Idx) : ((cfg0.win 5).blk t0_0).view.emb y = (y : main_v23.ty.shape.Idx) := by
  have idx0_5 : ∀ t : Fin cfg0.N, win0_5.index t = ![0, 0] := (by decide +kernel : ∀ t : Fin grid0.N, _)
  funext a
  refine Fin.ext ?_
  fin_cases a <;> blk_simp [idx0_5]
theorem arr_five (c : Dev nD) : (dat0 V c).arrAt 5 cfg0.N = resV V := by
  refine (dat0 V c).arrAt_eq_of_covers 5 _ (by decide +kernel) fun t hf y => ?_
  obtain rfl := fin_N0 t
  refine Eq.trans ?_ (congrArg (resV V) (emb0_5 y).symm)
  blk_simp
  rfl
theorem after_of (c : Dev nD) (r : Ref sig .tc) (h : r ≠ main_v23) : after V c r = V c r :=
  Function.update_of_ne (StableHlo.devRef_ne_of_ne h) _ _
theorem arr_out (c : Dev nD) : ∀ w : Fin 6, (dat0 V c).arrAt w cfg0.N = after V c (Proc.devRef .tc (Pipeline.arrRef spec0 w))
  | 0 => ((dat0 V c).arrAt_in 0 rfl cfg0.N).trans (after_of V c main_v18 (by decide)).symm
  | 1 => ((dat0 V c).arrAt_in 1 rfl cfg0.N).trans (after_of V c main_v9 (by decide)).symm
  | 2 => ((dat0 V c).arrAt_in 2 rfl cfg0.N).trans (after_of V c main_v14 (by decide)).symm
  | 3 => ((dat0 V c).arrAt_in 3 rfl cfg0.N).trans (after_of V c main_v20 (by decide)).symm
  | 4 => ((dat0 V c).arrAt_in 4 rfl cfg0.N).trans (after_of V c main_v22 (by decide)).symm
  | 5 => (arr_five V c).trans (Function.update_self (Proc.devRef .tc main_v23) (resV V) (V c)).symm
  | ⟨_ + 6, h⟩ => absurd h (Nat.not_lt.mpr (Nat.le_add_left _ _))

abbrev restRefs : Finset (DevRef τ sig) := Pipeline.ucRefs τ sig \ Pipeline.arrRefs (τ := τ) spec0
theorem arr_sub : Pipeline.arrRefs (τ := τ) spec0 ⊆ Pipeline.ucRefs τ sig := by decide +kernel
theorem v23_arr : (Proc.devRef .tc main_v23 : DevRef τ sig) ∈ Pipeline.arrRefs (τ := τ) spec0 := by decide +kernel

set_option backward.isDefEq.respectTransparency.types false in
/-- The region's record. -/
def reg0 : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ restRefs (Finset.empty_subset _) kit rfl (fun c => (body0 V c).loose)
    (fun _ => 0) O₀ (fun c => (owed_zero V c).trans (zero_add _).symm) (owed_last V) (fun _ => rfl) (fun c w => (dat0 V c).share_full (fun _ => rfl) w)
    V (after V) (fun c b hb => Function.update_of_ne (fun h => by
      rw [Finset.sdiff_empty] at hb
      exact (Finset.mem_sdiff.mp hb).2 (h ▸ v23_arr)) _ _)
    (Tk (pvV V) (rvV V)) (fun c => semVal (barCell c) 0) (Xk (pvV V) (rvV V)) (fun c => semVal (barCell c) 0) (open_all (pvV V) (rvV V)) (enter V) (leave V)
    (fun c => by iintro H; imodintro; iexact H)
    (fun _ => 0)
    ⟨fun c w s => by rw [L_tc]; exact Finset.mem_singleton_self _, fun c w s => stage_low w s, fun c t g i h => cut_owed V c t g i h⟩
    (fun _ => iprop(emp))
    (fun c w => arr_in V c w) (fun c w => arr_out V c w)

theorem reg_pre (c : Dev nD) : iprop(StableHlo.held (c : Thread nD τ) (Pipeline.ucRefs τ sig) (V c) ∗ startR (pvV V) (rvV V) c) ⊢ (reg0 V).pre c := by
  show _ ⊢ iprop(StableHlo.held (c.tc : Thread nD τ) (Pipeline.arrRefs (τ := τ) spec0) (V c) ∗ (∃ r, prngReg c r)
    ∗ (StableHlo.held (c.tc : Thread nD τ) restRefs (V c) ∗ emp) ∗ Tk (pvV V) (rvV V) c ∗ ∃ Wd, owes (c : Thread nD τ) (0 + O₀ c) Wd)
  rw [zero_add, StableHlo.held_sub_split (c.tc : Thread nD τ) arr_sub (V c)]
  unfold startR
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg0 V).post c ⊢ iprop(StableHlo.held (c : Thread nD τ) (Pipeline.ucRefs τ sig) (after V c) ∗ endR c) := by
  show iprop(StableHlo.held (c.tc : Thread nD τ) (Pipeline.arrRefs (τ := τ) spec0) (after V c) ∗ (∃ r, prngReg c r)
    ∗ (StableHlo.held (c.tc : Thread nD τ) restRefs (after V c) ∗ emp) ∗ semVal (barCell c) 0 ∗ ∃ Wd, owes (c : Thread nD τ) (0 : CellTallies nD τ sig Unit) Wd) ⊢ _
  rw [StableHlo.held_sub_split (c.tc : Thread nD τ) arr_sub (after V c)]
  unfold endR
  iintro ⟨Ha, -, ⟨Hr, -⟩, Hb, HO⟩
  isplitl [Ha Hr]
  · isplitl [Ha]; · iexact Ha
    iexact Hr
  isplitl [Hb]; · iexact Hb
  iexact HO

end Cert.KernelIdeal.Own

end
-- ==== Proof.Launch.lean ====
/-
  The run of the whole program: every execution ends, the arguments as they were, the result named, every counter at zero.
-/
module

public import proofs.«01_k».proof.Proof.Record
public import Idealize.ShloMosaic.Lib.Quiescent

@[expose] public section

noncomputable section

namespace Cert.KernelIdeal.Own

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-- What the kernel leaves. -/
def outs : Outs (F := F) := fun _ r c => after (V3 m) c r
theorem V4_eq (c : Dev nD) : V4 m (outs m) c = after (V3 m) c := by
  show Function.update (V3 m c) main_v23 (after (V3 m) c main_v23) = Function.update (V3 m c) main_v23 (resV (V3 m))
  exact congrArg (Function.update (V3 m c) _) (show after (V3 m) c (Proc.devRef .tc main_v23) = resV (V3 m) from by unfold after; exact Function.update_self ..)

abbrev Es : Fin 2 → Dev nD → sProp 𝕄 := fun | 0 => startR (pvV (V3 m)) (rvV (V3 m)) | 1 => endR

abbrev Rg := reg0 (V3 m)
abbrev Sg (c : Dev nD) := segs m (outs m) 𝒱₀ L lv (Es m) () (pdats (V3 m)) (Rg m) c

theorem unscoped_eq : ∀ sm : SemLoc sig, sm.isScoped .tc = false → sm = .reg barrier0 := by decide

theorem fund : (ownU (u₀ (F := F) : UU) : sProp 𝕄)
    ⊢ |={Set.univ}=> iprop(BI.own (EP (initOf (Pipeline.cells cfgs cellOf_inj) (Pipeline.launchToks cfgs cellOf_inj))) ∗ bigSep Finset.univ G) := by
  unfold u₀
  iintro Hu
  ihave H := (ownU_pair _ _) $$ Hu
  icases H with ⟨HP, HX⟩
  imodintro
  isplitl [HP]; · iexact HP
  rw [bigSep_G]; iexact HX

abbrev T0 (c : Dev nD) : sProp 𝕄 := iprop(StableHlo.held (c : Thread nD τ) (Pipeline.ucRefs τ sig) (V0 m c) ∗ Es m 0 c)
abbrev Tn (c : Dev nD) : sProp 𝕄 := iprop(StableHlo.held (c : Thread nD τ) (Pipeline.ucRefs τ sig) (V7 m (outs m) c) ∗ semVal (barCell c) 0)

theorem deal :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T0 m) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
    rw [← bigSep_sep']
    exact bigSep_mono fun c _ => by rw [← Pipeline.unscopedBufs_held c (V0 m c)]; exact BI.Entails.refl _
  iintro ⟨H, Hla⟩
  ihave H' := hsplit $$ H
  icases H' with ⟨Hh, Hr⟩
  imod (init (pvV (V3 m)) (rvV (V3 m)) ρ) $$ [Hr Hla] with HE
  · isplitl [Hr]; · iexact Hr
    iexact Hla
  imodintro
  rw [bigSep_sep']
  isplitl [Hh]; · iexact Hh
  iexact HE

/-- What is read off a device's end. -/
def Ends (c : Dev nD) (s : MemSt nD τ sig (Elt F)) : Prop :=
  (s.mem ((c.tc : Thread nD τ).loc main_v26) = V7 m (outs m) c main_v26
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem (barCell c) = 0

theorem finish (c : Dev nD) (s' : Phys nD τ sig (Elt F)) : (iprop(Tn m c ∗ SI s') : sProp 𝕄) ⊢ |={Set.univ}=> iprop(⌜Ends m c s'.mem⌝ ∗ SI s') := by
  unfold Tn StableHlo.held
  iintro ⟨⟨Hh, Hb0⟩, HSI⟩
  icombine HSI Hb0 gives %hb
  ihave Hr := (pointsTo_read_all (Pipeline.ucRefs τ sig) (fun b => ((c : Thread nD τ).1, b)) (V7 m (outs m) c) s') $$ [Hh HSI]
  · isplitl [Hh] <;> iassumption
  icases Hr with ⟨%h, HSI⟩
  imodintro
  isplitr
  · ipureintro
    exact ⟨⟨h (Proc.devRef .tc main_v26) (Finset.mem_filter.mpr ⟨StableHlo.devRef_mem_tcRefs main_v26, by decide⟩),
      (h (Proc.devRef .tc main_arg0) (Finset.mem_filter.mpr ⟨StableHlo.devRef_mem_tcRefs main_arg0, by decide⟩)).trans (V7_main_arg0 m (outs m) c),
      (h (Proc.devRef .tc main_arg1) (Finset.mem_filter.mpr ⟨StableHlo.devRef_mem_tcRefs main_arg1, by decide⟩)).trans (V7_main_arg1 m (outs m) c),
      (h (Proc.devRef .tc main_arg2) (Finset.mem_filter.mpr ⟨StableHlo.devRef_mem_tcRefs main_arg2, by decide⟩)).trans (V7_main_arg2 m (outs m) c),
      (h (Proc.devRef .tc main_arg3) (Finset.mem_filter.mpr ⟨StableHlo.devRef_mem_tcRefs main_arg3, by decide⟩)).trans (V7_main_arg3 m (outs m) c),
      (h (Proc.devRef .tc main_arg4) (Finset.mem_filter.mpr ⟨StableHlo.devRef_mem_tcRefs main_arg4, by decide⟩)).trans (V7_main_arg4 m (outs m) c)⟩,
      by simpa using hb⟩
  · iexact HSI

set_option backward.isDefEq.respectTransparency.types false in
theorem run_all [∀ e, Nonempty (Elt F e)] : θ_run defs (onTc (τ := τ) (main (F := F))) ⟨m, fun _ => 0, ρ⟩ (fun r =>
    (∀ c : Dev nD, r.2.mem ((c.tc : Thread nD τ).loc main_v26) = V7 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  Pipeline.θ_run_regions_kit_dev_sems (pcfgs (F := F)) adm (pdats (V3 m)) () cellOf_inj EP defs₀ 𝒱₀ L lv m ρ main (Sg m)
    (fun c Q => by
      rewrite [main_chain c, Seg.run_eq_chain,
        show (segs m (outs m) 𝒱₀ L lv (Es m) () (pdats (V3 m)) (Rg m) c).map Seg.prog = [
          StableHlo.seq (hostOps0 c),
          StableHlo.seq hostOps0_1,
          StableHlo.seq hostOps0_2,
          Prog.lift (.customCall (Pipeline.entry 0) ()),
          StableHlo.seq hostOps1,
          StableHlo.seq hostOps1_1,
          StableHlo.seq hostOps1_2 ] from rfl]
      dsimp (config := { failIfUnchanged := false }) only
      exact .rfl)
    (fun c => by simp only [segs, Seg.pipes_host, Seg.pipes_region, Seg.pipes_nil]; decide)
    O₀ L_of_ne G u₀ fund (T0 m) (Tn m)
    (fun c => ⟨.rfl, .rfl, .rfl, reg_pre (V3 m) c, (reg_post (V3 m) c).trans (Entails.of_eq (by rw [← V4_eq]; rfl)), .rfl, .rfl, by
      show iprop(StableHlo.held (c : Thread nD τ) (Pipeline.ucRefs τ sig) (V7 m (outs m) c) ∗ endR c)
        ⊢ iprop(Tn m c ∗ ∃ W, owes (c.tc : Thread nD τ) (0 : CellTallies nD τ sig Unit) W)
      unfold endR
      iintro ⟨Hh, Hb0, HO⟩
      isplitr [HO]
      · isplitl [Hh] <;> iassumption
      · iexact HO⟩)
    (deal m ρ) (Ends m) (finish m)
    (fun s h hs => ⟨fun c => (h c).1, sem_eq_zero hs fun c sm hsm => by
      obtain rfl := unscoped_eq sm hsm
      exact (h c).2⟩)

end Cert.KernelIdeal.Own

end
-- ==== Proof.ValHead.lean ====
/-
  The arithmetic of the kernel read at an index, at the ideal values: one head of one segment, the queries of a segment,
  the partial product of a chunk, and the sum of four partials.
-/
module

public import proofs.«01_k».proof.Proof.Values
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value

@[expose] public section

noncomputable section

namespace Cert.KernelIdeal.Own

open Idealize.ShloMosaic Idealize.ShloMosaic.TcCoe Cert.KernelIdeal.Gen Idealize.ShloMosaic.ValueIdx
open scoped BigOperators

/-! ## One head, generic in the rows and in the keys -/

theorem mmP {M K N : ℕ} (l : FVec Ideal ⟨2, ![M, K]⟩ .bf16) (r : FVec Ideal ⟨2, ![K, N]⟩ .bf16) (i : Fin M) (j : Fin N) :
    matmul (DotDims.plain M K N) none l r (constant ⟨2, ![M, N]⟩ .f32 0x00000000#32) (ix2 i j) = ∑ k : Fin K, l (ix2 i k) * r (ix2 k j) := by
  refine (Ideal.matmul_plain_apply none l r _ i j).trans ?_
  show Ideal.ofBits .f32 0x00000000#32 + _ = _
  rw [Ideal.ofBits_zero_f32, zero_add]
theorem mmT {M K N : ℕ} (l : FVec Ideal ⟨2, ![M, K]⟩ .bf16) (r : FVec Ideal ⟨2, ![N, K]⟩ .bf16) (i : Fin M) (j : Fin N) :
    matmul (DotDims.transposedRhs M K N) none l r (constant ⟨2, ![M, N]⟩ .f32 0x00000000#32) (ix2 i j) = ∑ k : Fin K, l (ix2 i k) * r (ix2 j k) := by
  refine (Ideal.matmul_transposedRhs_apply none l r _ i j).trans ?_
  show Ideal.ofBits .f32 0x00000000#32 + _ = _
  rw [Ideal.ofBits_zero_f32, zero_add]

theorem rowSum {M N : ℕ} (x : FVec Ideal ⟨2, ![M, N]⟩ .f32) (h : (⟨2, ![M, N]⟩ : Shape).Reduces [1] ⟨1, ![M]⟩)
    (hφ : FKind.Formats .f32) (ha : (0x00000000#32 : BitVec 32) = FKind.add.neutral .f32 hφ)
    (hc : (⟨1, ![M]⟩ : Shape).ShapeCasts ⟨2, ![M, 1]⟩) (i : Fin M) (u : Fin 1) :
    shapeCast ⟨2, ![M, 1]⟩ (multiReduction .add [1] ⟨1, ![M]⟩ x 0x00000000#32 h hφ ha) hc (ix2 i u) = ∑ k : Fin N, x (ix2 i k) := by
  rw [shapeCast_a_a1_apply]
  refine (Ideal.multiReduction_add_single x _ h hφ ha _).trans (Finset.sum_congr rfl fun k _ => congrArg x ?_)
  funext a; apply Fin.ext
  match a with
  | ⟨0, _⟩ => rfl
  | ⟨1, _⟩ => rfl

theorem colB {M N : ℕ} (x : FVec Ideal ⟨2, ![M, 1]⟩ .f32) (h : (⟨2, ![M, 1]⟩ : Shape).Broadcasts ⟨2, ![M, N]⟩) (i : Fin M) (j : Fin N) :
    broadcastTo ⟨2, ![M, N]⟩ x h (ix2 i j) = x (ix2 i 0) := by
  refine broadcastTo_apply x h _ _ fun a => ?_
  match a with
  | ⟨0, _⟩ =>
    show i.val = if M = 1 then 0 else i.val
    have := i.isLt
    split <;> omega
  | ⟨1, _⟩ => rfl

/-- The score of a query row at a key row. -/
def scr {M N : ℕ} (q : FVec Ideal ⟨2, ![M, 128]⟩ .bf16) (k : FVec Ideal ⟨2, ![N, 128]⟩ .bf16) (i : Fin M) (j : Fin N) : EReal :=
  ∑ d : Fin 128, q (ix2 i d) * k (ix2 j d)

theorem headA_at {M N : ℕ} (q : FVec Ideal ⟨2, ![M, 128]⟩ .bf16) (k v : FVec Ideal ⟨2, ![N, 128]⟩ .bf16)
    (h : (⟨2, ![M, N]⟩ : Shape).Reduces [1] ⟨1, ![M]⟩)
    (hφ : FKind.Formats .f32) (ha : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, 128]⟩)
    (ht : FTy.bf16.bits < FTy.f32.bits) (hs : (⟨2, ![M, 128]⟩ : Shape).ShapeCasts ⟨2, ![M, 128]⟩) (r : Fin M) (c : Fin 128) :
    shapeCast ⟨2, ![M, 128]⟩ (truncf .bf16 (mulf
      (matmul (DotDims.plain M N 128) none (truncf .bf16 (exp (matmul (DotDims.transposedRhs M 128 N) none q k (constant ⟨2, ![M, N]⟩ .f32 0x00000000#32))) ht)
        v (constant ⟨2, ![M, 128]⟩ .f32 0x00000000#32))
      (broadcastTo ⟨2, ![M, 128]⟩ (divf (broadcast ⟨2, ![M, 1]⟩ (Scalar.ofBits .f32 0x3F800000#32))
        (shapeCast ⟨2, ![M, 1]⟩ (multiReduction .add [1] ⟨1, ![M]⟩ (exp (matmul (DotDims.transposedRhs M 128 N) none q k
          (constant ⟨2, ![M, N]⟩ .f32 0x00000000#32))) 0x00000000#32 h hφ ha) hc)) hb)) ht) hs (ix2 r c)
    = (∑ j : Fin N, Ideal.exp (scr q k r j) * v (ix2 j c)) * Ideal.div 1 (∑ j : Fin N, Ideal.exp (scr q k r j)) := by
  rw [shapeCast_self, truncf_apply, mulf_apply, mmP, colB, divf_apply, rowSum]
  have e : ∀ j : Fin N, exp (F := Ideal) (matmul (DotDims.transposedRhs M 128 N) none q k (constant ⟨2, ![M, N]⟩ .f32 0x00000000#32)) (ix2 r j)
      = Ideal.exp (scr q k r j) := fun j => congrArg Ideal.exp (mmT q k r j)
  have o : broadcast (⟨2, ![M, 1]⟩ : Shape) (Scalar.ofBits (F := Ideal) .f32 0x3F800000#32) (ix2 r 0) = 1 := Ideal.ofBits_one_f32
  rw [o]
  simp only [truncf_apply, e]

theorem headB_at {M N : ℕ} (q : FVec Ideal ⟨2, ![M, 128]⟩ .bf16) (k : FVec Ideal ⟨2, ![N, 128]⟩ .bf16) (kd : FVec Ideal ⟨2, ![M, 128]⟩ .bf16)
    (db : FVec Ideal ⟨2, ![M, M]⟩ .bf16) (v : FVec Ideal ⟨2, ![N, 128]⟩ .bf16) (vd : FVec Ideal ⟨2, ![M, 128]⟩ .bf16)
    (h : (⟨2, ![M, N]⟩ : Shape).Reduces [1] ⟨1, ![M]⟩) (h' : (⟨2, ![M, M]⟩ : Shape).Reduces [1] ⟨1, ![M]⟩)
    (hφ : FKind.Formats .f32) (ha : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, 128]⟩)
    (ht : FTy.bf16.bits < FTy.f32.bits) (hs : (⟨2, ![M, 128]⟩ : Shape).ShapeCasts ⟨2, ![M, 128]⟩) (r : Fin M) (c : Fin 128) :
    shapeCast ⟨2, ![M, 128]⟩ (truncf .bf16 (mulf (addf
      (matmul (DotDims.plain M N 128) none (truncf .bf16 (exp (matmul (DotDims.transposedRhs M 128 N) none q k (constant ⟨2, ![M, N]⟩ .f32 0x00000000#32))) ht)
        v (constant ⟨2, ![M, 128]⟩ .f32 0x00000000#32))
      (matmul (DotDims.plain M M 128) none (truncf .bf16 (exp (addf (matmul (DotDims.transposedRhs M 128 M) none q kd
          (constant ⟨2, ![M, M]⟩ .f32 0x00000000#32)) (extf .f32 db ht))) ht)
        vd (constant ⟨2, ![M, 128]⟩ .f32 0x00000000#32)))
      (broadcastTo ⟨2, ![M, 128]⟩ (divf (broadcast ⟨2, ![M, 1]⟩ (Scalar.ofBits .f32 0x3F800000#32))
        (addf (shapeCast ⟨2, ![M, 1]⟩ (multiReduction .add [1] ⟨1, ![M]⟩ (exp (matmul (DotDims.transposedRhs M 128 N) none q k
          (constant ⟨2, ![M, N]⟩ .f32 0x00000000#32))) 0x00000000#32 h hφ ha) hc)
          (shapeCast ⟨2, ![M, 1]⟩ (multiReduction .add [1] ⟨1, ![M]⟩ (exp (addf (matmul (DotDims.transposedRhs M 128 M) none q kd
          (constant ⟨2, ![M, M]⟩ .f32 0x00000000#32)) (extf .f32 db ht))) 0x00000000#32 h' hφ ha) hc))) hb)) ht) hs (ix2 r c)
    = (∑ j : Fin N, Ideal.exp (scr q k r j) * v (ix2 j c) + ∑ j : Fin M, Ideal.exp (scr q kd r j + db (ix2 r j)) * vd (ix2 j c))
      * Ideal.div 1 (∑ j : Fin N, Ideal.exp (scr q k r j) + ∑ j : Fin M, Ideal.exp (scr q kd r j + db (ix2 r j))) := by
  rw [shapeCast_self, truncf_apply, mulf_apply, addf_apply, mmP, mmP, colB, divf_apply, addf_apply, rowSum, rowSum]
  have e : ∀ j : Fin N, exp (F := Ideal) (matmul (DotDims.transposedRhs M 128 N) none q k (constant ⟨2, ![M, N]⟩ .f32 0x00000000#32)) (ix2 r j)
      = Ideal.exp (scr q k r j) := fun j => congrArg Ideal.exp (mmT q k r j)
  have e' : ∀ j : Fin M, exp (F := Ideal) (addf (matmul (DotDims.transposedRhs M 128 M) none q kd (constant ⟨2, ![M, M]⟩ .f32 0x00000000#32))
      (extf .f32 db ht)) (ix2 r j)
      = Ideal.exp (scr q kd r j + db (ix2 r j)) := fun j => congrArg (fun z => Ideal.exp (z + db (ix2 r j))) (mmT q kd r j)
  have o : broadcast (⟨2, ![M, 1]⟩ : Shape) (Scalar.ofBits (F := Ideal) .f32 0x3F800000#32) (ix2 r 0) = 1 := Ideal.ofBits_one_f32
  rw [o]
  simp only [truncf_apply, e, e']

/-- The queries of a segment: the rows times the scaled weights. -/
theorem qry_at {M : ℕ} (x : FVec Ideal ⟨2, ![M, 1024]⟩ .bf16) (w : FVec Ideal ⟨2, ![1024, 1024]⟩ .bf16)
    (hx hs : (⟨2, ![M, 1024]⟩ : Shape).ShapeCasts ⟨2, ![M, 1024]⟩) (hw : (⟨2, ![1024, 1024]⟩ : Shape).ShapeCasts ⟨2, ![1024, 1024]⟩)
    (ht : FTy.bf16.bits < FTy.f32.bits) (r : Fin M) (c : Fin 1024) :
    shapeCast ⟨2, ![M, 1024]⟩ (truncf .bf16 (matmul (DotDims.plain M 1024 1024) none (shapeCast ⟨2, ![M, 1024]⟩ x hx)
      (mulf (shapeCast ⟨2, ![1024, 1024]⟩ w hw) (broadcast ⟨2, ![1024, 1024]⟩ (Named.named (F := Ideal) κ "s" (φ := .bf16) 0x3DB5#16)))
      (constant ⟨2, ![M, 1024]⟩ .f32 0x00000000#32)) ht) hs (ix2 r c)
    = ∑ e : Fin 1024, x (ix2 r e) * (w (ix2 e c) * Named.named (F := Ideal) κ "s" (φ := .bf16) 0x3DB5#16) := by
  rw [shapeCast_self, shapeCast_self, shapeCast_self, truncf_apply, mmP]
  rfl

theorem prt_at {M : ℕ} (x : FVec Ideal ⟨2, ![M, 1024]⟩ .bf16) (w : FVec Ideal ⟨2, ![1024, 1024]⟩ .bf16)
    (hw : (⟨2, ![1024, 1024]⟩ : Shape).ShapeCasts ⟨2, ![1024, 1024]⟩)
    (ht : FTy.bf16.bits < FTy.f32.bits) (hs : (⟨2, ![M, 1024]⟩ : Shape).ShapeCasts ⟨3, ![1, M, 1024]⟩) (r : Fin M) (c : Fin 1024) (u : Fin 1) :
    shapeCast ⟨3, ![1, M, 1024]⟩ (truncf .bf16 (matmul (DotDims.plain M 1024 1024) none x (shapeCast ⟨2, ![1024, 1024]⟩ w hw)
      (constant ⟨2, ![M, 1024]⟩ .f32 0x00000000#32)) ht) hs (ix3 u r c)
    = ∑ e : Fin 1024, x (ix2 r e) * w (ix2 e c) := by
  rw [shapeCast_ab_1ab_apply, shapeCast_self, truncf_apply, mmP]

/-! ## The segments of this kernel -/

theorem pay133_at (q k v) (r : Fin 512) (c : Fin 128) : k0_pay133 (F := Ideal) q k v (ix2 r c)
    = (∑ j : Fin 704, Ideal.exp (scr q k r j) * v (ix2 j c)) * Ideal.div 1 (∑ j : Fin 704, Ideal.exp (scr q k r j)) :=
  headA_at (M := 512) (N := 704) q k v _ _ _ _ _ _ _ r c
theorem pay156_at (q k v) (r : Fin 192) (c : Fin 128) : k0_pay156 (F := Ideal) q k v (ix2 r c)
    = (∑ j : Fin 704, Ideal.exp (scr q k r j) * v (ix2 j c)) * Ideal.div 1 (∑ j : Fin 704, Ideal.exp (scr q k r j)) :=
  headA_at (M := 192) (N := 704) q k v _ _ _ _ _ _ _ r c
theorem pay173_at (q k kd db v vd) (r : Fin 320) (c : Fin 128) : k0_pay173 (F := Ideal) q k kd db v vd (ix2 r c)
    = (∑ j : Fin 704, Ideal.exp (scr q k r j) * v (ix2 j c) + ∑ j : Fin 320, Ideal.exp (scr q kd r j + db (ix2 r j)) * vd (ix2 j c))
      * Ideal.div 1 (∑ j : Fin 704, Ideal.exp (scr q k r j) + ∑ j : Fin 320, Ideal.exp (scr q kd r j + db (ix2 r j))) :=
  headB_at (M := 320) (N := 704) q k kd db v vd _ _ _ _ _ _ _ _ r c
theorem pay206_at (q k kd db v vd) (r : Fin 384) (c : Fin 128) : k0_pay206 (F := Ideal) q k kd db v vd (ix2 r c)
    = (∑ j : Fin 704, Ideal.exp (scr q k r j) * v (ix2 j c) + ∑ j : Fin 384, Ideal.exp (scr q kd r j + db (ix2 r j)) * vd (ix2 j c))
      * Ideal.div 1 (∑ j : Fin 704, Ideal.exp (scr q k r j) + ∑ j : Fin 384, Ideal.exp (scr q kd r j + db (ix2 r j))) :=
  headB_at (M := 384) (N := 704) q k kd db v vd _ _ _ _ _ _ _ _ r c
theorem pay244_at (q k kd db v vd) (r : Fin 128) (c : Fin 128) : k0_pay244 (F := Ideal) q k kd db v vd (ix2 r c)
    = (∑ j : Fin 768, Ideal.exp (scr q k r j) * v (ix2 j c) + ∑ j : Fin 128, Ideal.exp (scr q kd r j + db (ix2 r j)) * vd (ix2 j c))
      * Ideal.div 1 (∑ j : Fin 768, Ideal.exp (scr q k r j) + ∑ j : Fin 128, Ideal.exp (scr q kd r j + db (ix2 r j))) :=
  headB_at (M := 128) (N := 768) q k kd db v vd _ _ _ _ _ _ _ _ r c
theorem pay279_at (q k kd db v vd) (r : Fin 512) (c : Fin 128) : k0_pay279 (F := Ideal) q k kd db v vd (ix2 r c)
    = (∑ j : Fin 768, Ideal.exp (scr q k r j) * v (ix2 j c) + ∑ j : Fin 512, Ideal.exp (scr q kd r j + db (ix2 r j)) * vd (ix2 j c))
      * Ideal.div 1 (∑ j : Fin 768, Ideal.exp (scr q k r j) + ∑ j : Fin 512, Ideal.exp (scr q kd r j + db (ix2 r j))) :=
  headB_at (M := 512) (N := 768) q k kd db v vd _ _ _ _ _ _ _ _ r c
theorem pay132_at (x w) (r : Fin 512) (c : Fin 1024) : k0_pay132 (F := Ideal) x w (ix2 r c)
    = ∑ e : Fin 1024, x (ix2 r e) * (w (ix2 e c) * Named.named (F := Ideal) κ "s" (φ := .bf16) 0x3DB5#16) :=
  qry_at (M := 512) x w _ _ _ _ r c
theorem pay151_at (x w) (r : Fin 192) (c : Fin 1024) : k0_pay151 (F := Ideal) x w (ix2 r c)
    = ∑ e : Fin 1024, x (ix2 r e) * (w (ix2 e c) * Named.named (F := Ideal) κ "s" (φ := .bf16) 0x3DB5#16) :=
  qry_at (M := 192) x w _ _ _ _ r c
theorem pay172_at (x w) (r : Fin 320) (c : Fin 1024) : k0_pay172 (F := Ideal) x w (ix2 r c)
    = ∑ e : Fin 1024, x (ix2 r e) * (w (ix2 e c) * Named.named (F := Ideal) κ "s" (φ := .bf16) 0x3DB5#16) :=
  qry_at (M := 320) x w _ _ _ _ r c
theorem pay230_at (x w) (r : Fin 128) (c : Fin 1024) : k0_pay230 (F := Ideal) x w (ix2 r c)
    = ∑ e : Fin 1024, x (ix2 r e) * (w (ix2 e c) * Named.named (F := Ideal) κ "s" (φ := .bf16) 0x3DB5#16) :=
  qry_at (M := 128) x w _ _ _ _ r c
theorem pay259_at (x w) (r : Fin 512) (c : Fin 1024) : k0_pay259 (F := Ideal) x w (ix2 r c)
    = ∑ e : Fin 1024, x (ix2 r e) * (w (ix2 e c) * Named.named (F := Ideal) κ "s" (φ := .bf16) 0x3DB5#16) :=
  qry_at (M := 512) x w _ _ _ _ r c
theorem pay203_at (x w) (r : Fin 384) (c : Fin 1024) : k0_pay203 (F := Ideal) (k0_pay202 x) w (ix2 r c)
    = ∑ e : Fin 1024, x (ix2 r e) * (w (ix2 e c) * Named.named (F := Ideal) κ "s" (φ := .bf16) 0x3DB5#16) :=
  qry_at (M := 384) x w _ _ _ _ r c
theorem pay149_at (x w) (r : Fin 512) (c : Fin 1024) (u : Fin 1) : k0_pay149 (F := Ideal) x w (ix3 u r c) = ∑ e : Fin 1024, x (ix2 r e) * w (ix2 e c) :=
  prt_at (M := 512) x w _ _ _ r c u
theorem pay200_at (x w) (r : Fin 512) (c : Fin 1024) (u : Fin 1) : k0_pay200 (F := Ideal) x w (ix3 u r c) = ∑ e : Fin 1024, x (ix2 r e) * w (ix2 e c) :=
  prt_at (M := 512) x w _ _ _ r c u
theorem pay257_at (x w) (r : Fin 512) (c : Fin 1024) (u : Fin 1) : k0_pay257 (F := Ideal) x w (ix3 u r c) = ∑ e : Fin 1024, x (ix2 r e) * w (ix2 e c) :=
  prt_at (M := 512) x w _ _ _ r c u
theorem pay285_at (x w) (r : Fin 512) (c : Fin 1024) (u : Fin 1) : k0_pay285 (F := Ideal) (k0_pay284 x w) (ix3 u r c) = ∑ e : Fin 1024, x (ix2 r e) * w (ix2 e c) :=
  prt_at (M := 512) x w _ _ _ r c u

theorem sum4_at (a b c d : Blk Ideal) (j : S512x1024.Idx) : sum4 a b c d j = a j + b j + c j + d j := by
  have e : ∀ z : Blk Ideal, shapeCast S512x1024 (shapeCast S1x512x1024 z shapeCasts_S512x1024_S1x512x1024) shapeCasts_S1x512x1024_S512x1024 = z :=
    fun z => by
      funext i
      rw [eq_ix2 i]
      exact (shapeCast_1ab_ab_apply (a := 512) (b := 1024) _ _ _ _).trans (shapeCast_ab_1ab_apply (a := 512) (b := 1024) _ _ _ _ _)
  show a j + shapeCast S512x1024 (shapeCast S1x512x1024 b _) _ j + shapeCast S512x1024 (shapeCast S1x512x1024 c _) _ j
    + shapeCast S512x1024 (shapeCast S1x512x1024 d _) _ j = _
  rw [e, e, e]

theorem pvOf_at (w : Ins Ideal) (k : Fin 4) (r : Fin 512) (c : Fin 1024) : pvOf w k (ix2 r c) = part w k (ix3 0 r c) :=
  shapeCast_1ab_ab_apply (a := 512) (b := 1024) _ _ _ _

end Cert.KernelIdeal.Own

end
-- ==== Proof.ValRead.lean ====
/-
  What the kernel's buffers hold, read at an index at the ideal values: the gathered rows, the queries, the mask.
-/
module

public import proofs.«01_k».proof.Proof.ValHead

@[expose] public section

noncomputable section

namespace Cert.KernelIdeal.Own

open Idealize.ShloMosaic Idealize.ShloMosaic.TcCoe Cert.KernelIdeal.Gen Idealize.ShloMosaic.ValueIdx
open scoped BigOperators

/-! ## Loads and piece lists at an index -/

theorem rc_at {κ : Kind} {sp : Space} {s : Shape} {e : EltTy} (v : View sig κ sp s e) (L : List (View.Piece (Elt Ideal) s e))
    {off size : Fin s.rank → ℕ} (inb : ∀ a, off a + size a ≤ s.size a) (x : (⟨s.rank, size⟩ : Shape).Idx) (y : s.Idx)
    (hy : ∀ a, (y a).val = off a + (x a).val) :
    v.readCov L (Rect.unit (s := s) off size inb).toLoadRect x = v.read (Elt Ideal) (v.writes (Elt Ideal) v.junk L) y := by
  have h : (Rect.unit (s := s) off size inb).toLoadRect.idx x = y := funext fun a => Fin.ext (by
    show off a + 1 * (x a).val = (y a).val
    rw [hy a, Nat.one_mul])
  exact congrArg (v.read (Elt Ideal) (v.writes (Elt Ideal) v.junk L)) h

theorem ra_at {κ : Kind} (b : Ref sig κ) {off size : Fin b.ty.shape.rank → ℕ} (inb : ∀ a, off a + size a ≤ b.ty.shape.size a)
    (f : (Memref.whole b).view.ty.Contents (Elt Ideal)) (x : (⟨b.ty.shape.rank, size⟩ : Shape).Idx) (y : b.ty.shape.Idx)
    (hy : ∀ a, (y a).val = off a + (x a).val) :
    (Memref.whole b).view.readAt (Elt Ideal) (Rect.unit (s := b.ty.shape) off size inb).toLoadRect f x = (Memref.whole b).view.read (Elt Ideal) f y := by
  have h : (Rect.unit (s := b.ty.shape) off size inb).toLoadRect.idx x = y := funext fun a => Fin.ext (by
    show off a + 1 * (x a).val = (y a).val
    rw [hy a, Nat.one_mul])
  exact congrArg ((Memref.whole b).view.read (Elt Ideal) f) h

section
variable {κ : Kind} {sp : Space}
theorem g704_at (v : View sig κ sp S704x1024 .bf16) (f : v.ty.Contents (Elt Ideal)) (P : Fin 11 → FVec Ideal S64x1024 .bf16)
    (r : Fin 704) (c : Fin 1024) : v.read (Elt Ideal) (v.writes (Elt Ideal) f (g704 P)) (ix2 r c)
      = P ⟨r.val / 64, by omega⟩ (ix2 ⟨r.val % 64, by omega⟩ c) :=
  View.read_tilePieces v f _ _ _ P 11 (le_refl _) (ix2 r c) ⟨r.val / 64, by omega⟩ (show r.val / 64 < 11 by omega) _ (fun a => by
    match a with
    | ⟨0, _⟩ => show r.val = 64 * (r.val / 64) + r.val % 64; omega
    | ⟨1, _⟩ => show c.val = 0 + c.val; omega) (0 : Fin 2) fun i' hi' => by
      have : i'.val ≠ r.val / 64 := fun h => hi' (Fin.ext h)
      show r.val < 64 * i'.val ∨ 64 * i'.val + 64 ≤ r.val
      omega
theorem g768_at (v : View sig κ sp S768x1024 .bf16) (f : v.ty.Contents (Elt Ideal)) (P : Fin 12 → FVec Ideal S64x1024 .bf16)
    (r : Fin 768) (c : Fin 1024) : v.read (Elt Ideal) (v.writes (Elt Ideal) f (g768 P)) (ix2 r c)
      = P ⟨r.val / 64, by omega⟩ (ix2 ⟨r.val % 64, by omega⟩ c) :=
  View.read_tilePieces v f _ _ _ P 12 (le_refl _) (ix2 r c) ⟨r.val / 64, by omega⟩ (show r.val / 64 < 12 by omega) _ (fun a => by
    match a with
    | ⟨0, _⟩ => show r.val = 64 * (r.val / 64) + r.val % 64; omega
    | ⟨1, _⟩ => show c.val = 0 + c.val; omega) (0 : Fin 2) fun i' hi' => by
      have : i'.val ≠ r.val / 64 := fun h => hi' (Fin.ext h)
      show r.val < 64 * i'.val ∨ 64 * i'.val + 64 ≤ r.val
      omega
theorem g640_at (v : View sig κ sp S640x1024 .bf16) (f : v.ty.Contents (Elt Ideal)) (P : Fin 10 → FVec Ideal S64x1024 .bf16)
    (r : Fin 640) (c : Fin 1024) : v.read (Elt Ideal) (v.writes (Elt Ideal) f (g640 P)) (ix2 r c)
      = P ⟨r.val / 64, by omega⟩ (ix2 ⟨r.val % 64, by omega⟩ c) :=
  View.read_tilePieces v f _ _ _ P 10 (le_refl _) (ix2 r c) ⟨r.val / 64, by omega⟩ (show r.val / 64 < 10 by omega) _ (fun a => by
    match a with
    | ⟨0, _⟩ => show r.val = 64 * (r.val / 64) + r.val % 64; omega
    | ⟨1, _⟩ => show c.val = 0 + c.val; omega) (0 : Fin 2) fun i' hi' => by
      have : i'.val ≠ r.val / 64 := fun h => hi' (Fin.ext h)
      show r.val < 64 * i'.val ∨ 64 * i'.val + 64 ≤ r.val
      omega
end

/-! ## The windows as arrays -/

def xA (w : Ins Ideal) (i : Fin 2048) (e : Fin 1024) : EReal := (w.x : S2048x1024.Idx → EReal) (ix2 i e)
def qA (w : Ins Ideal) (i : Fin 1024) (e : Fin 1024) : EReal := (w.wq : S1024x1024.Idx → EReal) (ix2 i e)
def oA (w : Ins Ideal) (i : Fin 1024) (e : Fin 1024) : EReal := (w.wo : S1024x1024.Idx → EReal) (ix2 i e)
def kA (w : Ins Ideal) (i : Fin 2048) (e : Fin 1024) : EReal := (w.k : S2048x1024.Idx → EReal) (ix2 i e)
def vA (w : Ins Ideal) (i : Fin 2048) (e : Fin 1024) : EReal := (w.v : S2048x1024.Idx → EReal) (ix2 i e)

/-- The scale. -/
def sE : EReal := Named.named (F := Ideal) κ "s" (φ := .bf16) 0x3DB5#16
theorem sE_eq : sE = (((Real.sqrt 128)⁻¹ : ℝ) : EReal) := rfl

/-- A query: a row times a column of the scaled weights. -/
def qS (w : Ins Ideal) (p : Fin 2048) (c : Fin 1024) : EReal := ∑ e : Fin 1024, xA w p e * (qA w e c * sE)
/-- Column d of head h. -/
def hc (h : Fin 8) (d : Fin 128) : Fin 1024 := ⟨128 * h.val + d.val, by omega⟩
/-- The score of position p at key row j in head h. -/
def sC (w : Ins Ideal) (p : Fin 2048) (h : Fin 8) (j : Fin 2048) : EReal := ∑ d : Fin 128, qS w p (hc h d) * kA w j (hc h d)

theorem blkK_at (w : Ins Ideal) (m : Fin 32) (r : Fin 64) (c : Fin 1024) : blkK w m (ix2 r c) = kA w ⟨64 * m.val + r.val, by omega⟩ c := by
  unfold blkK k0_pay1
  rw [shapeCast_self, shapeCast_self]
  exact ra_at cc0_stg3_0 _ w.k (ix2 r c) (ix2 ⟨64 * m.val + r.val, by omega⟩ c) fun a => by
    match a with
    | ⟨0, _⟩ => rfl
    | ⟨1, _⟩ => exact (Nat.zero_add _).symm
theorem blkV_at (w : Ins Ideal) (m : Fin 32) (r : Fin 64) (c : Fin 1024) : blkV w m (ix2 r c) = vA w ⟨64 * m.val + r.val, by omega⟩ c := by
  unfold blkV k0_pay1
  rw [shapeCast_self, shapeCast_self]
  exact ra_at cc0_stg4_0 _ w.v (ix2 r c) (ix2 ⟨64 * m.val + r.val, by omega⟩ c) fun a => by
    match a with
    | ⟨0, _⟩ => rfl
    | ⟨1, _⟩ => exact (Nat.zero_add _).symm

/-! ## Gathered rows -/

def f0 (a : Fin 704) : Fin 2048 := ⟨64 * (3 * (a.val / 64)) + a.val % 64, by omega⟩
def f1 (a : Fin 704) : Fin 2048 := ⟨64 * (3 * (a.val / 64) - 1) + a.val % 64, by omega⟩
def f2 (a : Fin 768) : Fin 2048 := ⟨64 * (3 * (a.val / 64) - 2) + a.val % 64, by omega⟩
def e1 (a : Fin 704) : Fin 2048 := ⟨64 * (3 * (a.val / 64) + 1) + a.val % 64, by omega⟩
def e2 (a : Fin 640) : Fin 2048 := ⟨64 * (3 * (a.val / 64) + 2) + a.val % 64, by omega⟩

theorem ks0_at (w : Ins Ideal) (h : Fin 8) (inb) (j : Fin 704) (d : Fin 128) :
    (Memref.whole cc0_scratch2).view.readCov (Lks0 w) (Rect.unit (s := S704x1024) ![0, 128 * h.val] S704x128.size inb).toLoadRect (ix2 j d)
      = kA w (f0 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g704_at _ _ _ _ _).trans (blkK_at w _ _ _))

theorem vs0_at (w : Ins Ideal) (h : Fin 8) (inb) (j : Fin 704) (d : Fin 128) :
    (Memref.whole cc0_scratch5).view.readCov (Lvs0 w) (Rect.unit (s := S704x1024) ![0, 128 * h.val] S704x128.size inb).toLoadRect (ix2 j d)
      = vA w (f0 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g704_at _ _ _ _ _).trans (blkV_at w _ _ _))

theorem ks1_at (w : Ins Ideal) (h : Fin 8) (inb) (j : Fin 704) (d : Fin 128) :
    (Memref.whole cc0_scratch3).view.readCov (Lks1 w) (Rect.unit (s := S704x1024) ![0, 128 * h.val] S704x128.size inb).toLoadRect (ix2 j d)
      = kA w (f1 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g704_at _ _ _ _ _).trans (blkK_at w _ _ _))

theorem vs1_at (w : Ins Ideal) (h : Fin 8) (inb) (j : Fin 704) (d : Fin 128) :
    (Memref.whole cc0_scratch6).view.readCov (Lvs1 w) (Rect.unit (s := S704x1024) ![0, 128 * h.val] S704x128.size inb).toLoadRect (ix2 j d)
      = vA w (f1 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g704_at _ _ _ _ _).trans (blkV_at w _ _ _))

theorem ks2_at (w : Ins Ideal) (h : Fin 8) (inb) (j : Fin 768) (d : Fin 128) :
    (Memref.whole cc0_scratch4).view.readCov (Lks2 w) (Rect.unit (s := S768x1024) ![0, 128 * h.val] S768x128.size inb).toLoadRect (ix2 j d)
      = kA w (f2 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g768_at _ _ _ _ _).trans (blkK_at w _ _ _))

theorem vs2_at (w : Ins Ideal) (h : Fin 8) (inb) (j : Fin 768) (d : Fin 128) :
    (Memref.whole cc0_scratch7).view.readCov (Lvs2 w) (Rect.unit (s := S768x1024) ![0, 128 * h.val] S768x128.size inb).toLoadRect (ix2 j d)
      = vA w (f2 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g768_at _ _ _ _ _).trans (blkV_at w _ _ _))

theorem kd1b_at (w : Ins Ideal) (h : Fin 8) (inb) (j : Fin 320) (d : Fin 128) :
    (Memref.whole cc0_scratch8).view.readCov (Lkd1 w) (Rect.unit (s := S704x1024) ![0, 128 * h.val] S320x128.size inb).toLoadRect (ix2 j d)
      = kA w (e1 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g704_at _ _ _ _ _).trans (blkK_at w _ _ _))

theorem vd1b_at (w : Ins Ideal) (h : Fin 8) (inb) (j : Fin 320) (d : Fin 128) :
    (Memref.whole cc0_scratch10).view.readCov (Lvd1 w) (Rect.unit (s := S704x1024) ![0, 128 * h.val] S320x128.size inb).toLoadRect (ix2 j d)
      = vA w (e1 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g704_at _ _ _ _ _).trans (blkV_at w _ _ _))

theorem kd2a_at (w : Ins Ideal) (h : Fin 8) (inb) (j : Fin 384) (d : Fin 128) :
    (Memref.whole cc0_scratch8).view.readCov (Lkd1 w) (Rect.unit (s := S704x1024) ![320, 128 * h.val] S384x128.size inb).toLoadRect (ix2 j d)
      = kA w (e1 ⟨320 + j.val, by omega⟩) (hc h d) :=
  (rc_at _ _ _ (ix2 j d) (ix2 ⟨320 + j.val, by omega⟩ (hc h d)) fun a => by
    match a with
    | ⟨0, _⟩ => rfl
    | ⟨1, _⟩ => rfl).trans ((g704_at _ _ _ _ _).trans (blkK_at w _ _ _))

theorem vd2a_at (w : Ins Ideal) (h : Fin 8) (inb) (j : Fin 384) (d : Fin 128) :
    (Memref.whole cc0_scratch10).view.readCov (Lvd1 w) (Rect.unit (s := S704x1024) ![320, 128 * h.val] S384x128.size inb).toLoadRect (ix2 j d)
      = vA w (e1 ⟨320 + j.val, by omega⟩) (hc h d) :=
  (rc_at _ _ _ (ix2 j d) (ix2 ⟨320 + j.val, by omega⟩ (hc h d)) fun a => by
    match a with
    | ⟨0, _⟩ => rfl
    | ⟨1, _⟩ => rfl).trans ((g704_at _ _ _ _ _).trans (blkV_at w _ _ _))

theorem kd2b_at (w : Ins Ideal) (h : Fin 8) (inb) (j : Fin 128) (d : Fin 128) :
    (Memref.whole cc0_scratch9).view.readCov (Lkd2 w) (Rect.unit (s := S640x1024) ![0, 128 * h.val] S128x128.size inb).toLoadRect (ix2 j d)
      = kA w (e2 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g640_at _ _ _ _ _).trans (blkK_at w _ _ _))

theorem vd2b_at (w : Ins Ideal) (h : Fin 8) (inb) (j : Fin 128) (d : Fin 128) :
    (Memref.whole cc0_scratch11).view.readCov (Lvd2 w) (Rect.unit (s := S640x1024) ![0, 128 * h.val] S128x128.size inb).toLoadRect (ix2 j d)
      = vA w (e2 ⟨0 + j.val, by omega⟩) (hc h d) :=
  (rc_at _ _ _ (ix2 j d) (ix2 ⟨0 + j.val, by omega⟩ (hc h d)) fun a => by
    match a with
    | ⟨0, _⟩ => rfl
    | ⟨1, _⟩ => rfl).trans ((g640_at _ _ _ _ _).trans (blkV_at w _ _ _))

theorem kd3_at (w : Ins Ideal) (h : Fin 8) (inb) (j : Fin 512) (d : Fin 128) :
    (Memref.whole cc0_scratch9).view.readCov (Lkd2 w) (Rect.unit (s := S640x1024) ![128, 128 * h.val] S512x128.size inb).toLoadRect (ix2 j d)
      = kA w (e2 ⟨128 + j.val, by omega⟩) (hc h d) :=
  (rc_at _ _ _ (ix2 j d) (ix2 ⟨128 + j.val, by omega⟩ (hc h d)) fun a => by
    match a with
    | ⟨0, _⟩ => rfl
    | ⟨1, _⟩ => rfl).trans ((g640_at _ _ _ _ _).trans (blkK_at w _ _ _))

theorem vd3_at (w : Ins Ideal) (h : Fin 8) (inb) (j : Fin 512) (d : Fin 128) :
    (Memref.whole cc0_scratch11).view.readCov (Lvd2 w) (Rect.unit (s := S640x1024) ![128, 128 * h.val] S512x128.size inb).toLoadRect (ix2 j d)
      = vA w (e2 ⟨128 + j.val, by omega⟩) (hc h d) :=
  (rc_at _ _ _ (ix2 j d) (ix2 ⟨128 + j.val, by omega⟩ (hc h d)) fun a => by
    match a with
    | ⟨0, _⟩ => rfl
    | ⟨1, _⟩ => rfl).trans ((g640_at _ _ _ _ _).trans (blkV_at w _ _ _))

/-! ## Queries -/

theorem q0_at (w : Ins Ideal) (r : Fin 512) (c : Fin 1024) : q0 w (ix2 r c) = qS w ⟨0 + r.val, by omega⟩ c := by
  unfold q0
  refine (pay132_at _ _ r c).trans (Finset.sum_congr rfl fun e _ => ?_)
  rw [ra_at cc0_stg0_0 _ w.x (ix2 r e) (ix2 (⟨0 + r.val, by omega⟩ : Fin 2048) e) fun a => by
      match a with
      | ⟨0, _⟩ => rfl
      | ⟨1, _⟩ => exact (Nat.zero_add _).symm,
    ra_at cc0_stg1_0 _ w.wq (ix2 e c) (ix2 e c) fun a => by
      match a with
      | ⟨0, _⟩ => exact (Nat.zero_add _).symm
      | ⟨1, _⟩ => exact (Nat.zero_add _).symm]
  rfl

theorem q1a_at (w : Ins Ideal) (r : Fin 192) (c : Fin 1024) : q1a w (ix2 r c) = qS w ⟨512 + r.val, by omega⟩ c := by
  unfold q1a
  refine (pay151_at _ _ r c).trans (Finset.sum_congr rfl fun e _ => ?_)
  rw [ra_at cc0_stg0_0 _ w.x (ix2 r e) (ix2 (⟨512 + r.val, by omega⟩ : Fin 2048) e) fun a => by
      match a with
      | ⟨0, _⟩ => rfl
      | ⟨1, _⟩ => exact (Nat.zero_add _).symm,
    ra_at cc0_stg1_0 _ w.wq (ix2 e c) (ix2 e c) fun a => by
      match a with
      | ⟨0, _⟩ => exact (Nat.zero_add _).symm
      | ⟨1, _⟩ => exact (Nat.zero_add _).symm]
  rfl

theorem q1b_at (w : Ins Ideal) (r : Fin 320) (c : Fin 1024) : q1b w (ix2 r c) = qS w ⟨704 + r.val, by omega⟩ c := by
  unfold q1b
  refine (pay172_at _ _ r c).trans (Finset.sum_congr rfl fun e _ => ?_)
  rw [ra_at cc0_stg0_0 _ w.x (ix2 r e) (ix2 (⟨704 + r.val, by omega⟩ : Fin 2048) e) fun a => by
      match a with
      | ⟨0, _⟩ => rfl
      | ⟨1, _⟩ => exact (Nat.zero_add _).symm,
    ra_at cc0_stg1_0 _ w.wq (ix2 e c) (ix2 e c) fun a => by
      match a with
      | ⟨0, _⟩ => exact (Nat.zero_add _).symm
      | ⟨1, _⟩ => exact (Nat.zero_add _).symm]
  rfl

theorem q2a_at (w : Ins Ideal) (r : Fin 384) (c : Fin 1024) : q2a w (ix2 r c) = qS w ⟨1024 + r.val, by omega⟩ c := by
  unfold q2a
  refine (pay203_at _ _ r c).trans (Finset.sum_congr rfl fun e _ => ?_)
  rw [ra_at cc0_stg0_0 _ w.x (ix2 r e) (ix2 (⟨1024 + r.val, by omega⟩ : Fin 2048) e) fun a => by
      match a with
      | ⟨0, _⟩ => rfl
      | ⟨1, _⟩ => exact (Nat.zero_add _).symm,
    ra_at cc0_stg1_0 _ w.wq (ix2 e c) (ix2 e c) fun a => by
      match a with
      | ⟨0, _⟩ => exact (Nat.zero_add _).symm
      | ⟨1, _⟩ => exact (Nat.zero_add _).symm]
  rfl

theorem q2b_at (w : Ins Ideal) (r : Fin 128) (c : Fin 1024) : q2b w (ix2 r c) = qS w ⟨1408 + r.val, by omega⟩ c := by
  unfold q2b
  refine (pay230_at _ _ r c).trans (Finset.sum_congr rfl fun e _ => ?_)
  rw [ra_at cc0_stg0_0 _ w.x (ix2 r e) (ix2 (⟨1408 + r.val, by omega⟩ : Fin 2048) e) fun a => by
      match a with
      | ⟨0, _⟩ => rfl
      | ⟨1, _⟩ => exact (Nat.zero_add _).symm,
    ra_at cc0_stg1_0 _ w.wq (ix2 e c) (ix2 e c) fun a => by
      match a with
      | ⟨0, _⟩ => exact (Nat.zero_add _).symm
      | ⟨1, _⟩ => exact (Nat.zero_add _).symm]
  rfl

theorem q3_at (w : Ins Ideal) (r : Fin 512) (c : Fin 1024) : q3 w (ix2 r c) = qS w ⟨1536 + r.val, by omega⟩ c := by
  unfold q3
  refine (pay259_at _ _ r c).trans (Finset.sum_congr rfl fun e _ => ?_)
  rw [ra_at cc0_stg0_0 _ w.x (ix2 r e) (ix2 (⟨1536 + r.val, by omega⟩ : Fin 2048) e) fun a => by
      match a with
      | ⟨0, _⟩ => rfl
      | ⟨1, _⟩ => exact (Nat.zero_add _).symm,
    ra_at cc0_stg1_0 _ w.wq (ix2 e c) (ix2 e c) fun a => by
      match a with
      | ⟨0, _⟩ => exact (Nat.zero_add _).symm
      | ⟨1, _⟩ => exact (Nat.zero_add _).symm]
  rfl

theorem lqG {κ : Kind} {sp : Space} {N : ℕ} (v : View sig κ sp S512x1024 .bf16) (f : v.ty.Contents (Elt Ideal)) (off : ℕ)
    (inb : ∀ a, (![off, 0] : Fin 2 → ℕ) a + (![N, 1024] : Fin 2 → ℕ) a ≤ S512x1024.size a) (P : FVec Ideal ⟨2, ![N, 1024]⟩ .bf16)
    (L : List (View.Piece (Elt Ideal) S512x1024 .bf16)) (r : Fin N) (c : Fin 1024) (y : Fin 512) (hy : y.val = off + r.val) :
    v.read (Elt Ideal) (v.writes (Elt Ideal) f ((⟨Rect.unit (s := S512x1024) ![off, 0] ![N, 1024] inb, P⟩ : View.Piece (Elt Ideal) S512x1024 .bf16) :: L)) (ix2 y c)
      = P (ix2 r c) :=
  View.read_writes_cons_unit_of_mem v f inb P L (ix2 y c) (ix2 r c) rfl fun a => by
    match a with
    | ⟨0, _⟩ => exact hy
    | ⟨1, _⟩ => exact (Nat.zero_add _).symm

theorem lq0_at (w : Ins Ideal) (h : Fin 8) (inb) (r : Fin 512) (d : Fin 128) :
    (Memref.whole cc0_scratch0).view.readCov (Lq0 w) (Rect.unit (s := S512x1024) ![0, 128 * h.val] S512x128.size inb).toLoadRect (ix2 r d)
      = qS w ⟨0 + r.val, by omega⟩ (hc h d) := by
  unfold Lq0
  exact (rc_at _ _ _ (ix2 r d) (ix2 ⟨0 + r.val, by omega⟩ (hc h d)) fun a => by
    match a with
    | ⟨0, _⟩ => rfl
    | ⟨1, _⟩ => rfl).trans ((lqG _ _ _ _ (q0 w) _ r (hc h d) _ rfl).trans (q0_at w r _))

theorem lq1a_at (w : Ins Ideal) (h : Fin 8) (inb) (r : Fin 192) (d : Fin 128) :
    (Memref.whole cc0_scratch0).view.readCov (Lq1a w) (Rect.unit (s := S512x1024) ![0, 128 * h.val] S192x128.size inb).toLoadRect (ix2 r d)
      = qS w ⟨512 + r.val, by omega⟩ (hc h d) := by
  unfold Lq1a
  exact (rc_at _ _ _ (ix2 r d) (ix2 ⟨0 + r.val, by omega⟩ (hc h d)) fun a => by
    match a with
    | ⟨0, _⟩ => rfl
    | ⟨1, _⟩ => rfl).trans ((lqG _ _ _ _ (q1a w) _ r (hc h d) _ rfl).trans (q1a_at w r _))

theorem lq1b_at (w : Ins Ideal) (h : Fin 8) (inb) (r : Fin 320) (d : Fin 128) :
    (Memref.whole cc0_scratch0).view.readCov (Lq1b w) (Rect.unit (s := S512x1024) ![192, 128 * h.val] S320x128.size inb).toLoadRect (ix2 r d)
      = qS w ⟨704 + r.val, by omega⟩ (hc h d) := by
  unfold Lq1b
  exact (rc_at _ _ _ (ix2 r d) (ix2 ⟨192 + r.val, by omega⟩ (hc h d)) fun a => by
    match a with
    | ⟨0, _⟩ => rfl
    | ⟨1, _⟩ => rfl).trans ((lqG _ _ _ _ (q1b w) _ r (hc h d) _ rfl).trans (q1b_at w r _))

theorem lq2a_at (w : Ins Ideal) (h : Fin 8) (inb) (r : Fin 384) (d : Fin 128) :
    (Memref.whole cc0_scratch0).view.readCov (Lq2a w) (Rect.unit (s := S512x1024) ![0, 128 * h.val] S384x128.size inb).toLoadRect (ix2 r d)
      = qS w ⟨1024 + r.val, by omega⟩ (hc h d) := by
  unfold Lq2a
  exact (rc_at _ _ _ (ix2 r d) (ix2 ⟨0 + r.val, by omega⟩ (hc h d)) fun a => by
    match a with
    | ⟨0, _⟩ => rfl
    | ⟨1, _⟩ => rfl).trans ((lqG _ _ _ _ (q2a w) _ r (hc h d) _ rfl).trans (q2a_at w r _))

theorem lq2b_at (w : Ins Ideal) (h : Fin 8) (inb) (r : Fin 128) (d : Fin 128) :
    (Memref.whole cc0_scratch0).view.readCov (Lq2b w) (Rect.unit (s := S512x1024) ![384, 128 * h.val] S128x128.size inb).toLoadRect (ix2 r d)
      = qS w ⟨1408 + r.val, by omega⟩ (hc h d) := by
  unfold Lq2b
  exact (rc_at _ _ _ (ix2 r d) (ix2 ⟨384 + r.val, by omega⟩ (hc h d)) fun a => by
    match a with
    | ⟨0, _⟩ => rfl
    | ⟨1, _⟩ => rfl).trans ((lqG _ _ _ _ (q2b w) _ r (hc h d) _ rfl).trans (q2b_at w r _))

theorem lq3_at (w : Ins Ideal) (h : Fin 8) (inb) (r : Fin 512) (d : Fin 128) :
    (Memref.whole cc0_scratch0).view.readCov (Lq3 w) (Rect.unit (s := S512x1024) ![0, 128 * h.val] S512x128.size inb).toLoadRect (ix2 r d)
      = qS w ⟨1536 + r.val, by omega⟩ (hc h d) := by
  unfold Lq3
  exact (rc_at _ _ _ (ix2 r d) (ix2 ⟨0 + r.val, by omega⟩ (hc h d)) fun a => by
    match a with
    | ⟨0, _⟩ => rfl
    | ⟨1, _⟩ => rfl).trans ((lqG _ _ _ _ (q3 w) _ r (hc h d) _ rfl).trans (q3_at w r _))

/-! ## The mask -/

/-- Floor division by 64 as the kernel spells it, at one element. -/
def fdiv64 (x : BitVec 32) : BitVec 32 :=
  Scalar.select (IntOp.andi (IntOp.cmpi .ne (IntOp.subi ((IntOp.cmpi .sgt x 0#32).setWidth 32) ((IntOp.cmpi .slt x 0#32).setWidth 32)) 1#32)
    (IntOp.cmpi .ne (IntOp.remsi .vector x 64#32) 0#32)) (IntOp.subi (IntOp.divsi .vector x 64#32) 1#32) (IntOp.divsi .vector x 64#32)

theorem db_at (r j : Fin 512) : k0_pay131 (F := Ideal) (iota .tc S512x512 32 [0] iota_S512x512_d0_w32) 64#32 k0_pay129 k0_pay130 1#32 0#1 (ix2 r j)
    = if r.val / 64 = j.val / 64 then 0 else ⊥ := by
  have h : ∀ r : Fin 512, fdiv64 (BitVec.ofNat 32 (0 * 512 + r.val)) = BitVec.ofNat 32 (r.val / 64) := by decide +kernel
  unfold k0_pay131 k0_pay129 k0_pay130
  dsimp only
  rw [shapeCast_self]
  show Scalar.select (IntOp.cmpi .eq (fdiv64 (BitVec.ofNat 32 (0 * 512 + r.val))) (fdiv64 (BitVec.ofNat 32 (0 * 512 + j.val))))
    (Ideal.ofBits .f32 0x00000000#32) (⊥ : EReal) = _
  rw [h, h, Ideal.ofBits_zero_f32]
  have e : IntOp.cmpi .eq (BitVec.ofNat 32 (r.val / 64)) (BitVec.ofNat 32 (j.val / 64)) = if r.val / 64 = j.val / 64 then 1#1 else 0#1 := by
    show BitVec.ofBool (BitVec.ofNat 32 (r.val / 64) == BitVec.ofNat 32 (j.val / 64)) = _
    by_cases hr : r.val / 64 = j.val / 64
    · rw [if_pos hr, hr]; simp
    · rw [if_neg hr]
      have : BitVec.ofNat 32 (r.val / 64) ≠ BitVec.ofNat 32 (j.val / 64) := fun h => hr (by
        have := congrArg BitVec.toNat h
        rw [BitVec.toNat_ofNat, BitVec.toNat_ofNat, Nat.mod_eq_of_lt (by omega), Nat.mod_eq_of_lt (by omega)] at this
        exact this)
      rw [beq_eq_false_iff_ne.mpr this]; rfl
  rw [e]
  unfold Scalar.select
  by_cases hr : r.val / 64 = j.val / 64
  · rw [if_pos hr, if_pos hr]; exact if_pos (by decide)
  · rw [if_neg hr, if_neg hr, if_neg (by decide)]

theorem ldb_at {M : ℕ} (hM : M ≤ 512) (inb) (r j : Fin M) :
    (Memref.whole cc0_scratch12).view.readCov (Ldb (F := Ideal)) (Rect.unit (s := S512x512) ![0, 0] ![M, M] inb).toLoadRect (ix2 r j)
      = (if r.val / 64 = j.val / 64 then (0 : EReal) else ⊥ : EReal) := by
  unfold Ldb
  refine (rc_at (off := ![0, 0]) (size := ![M, M]) _ _ inb (ix2 r j) (ix2 (⟨r.val, by omega⟩ : Fin 512) (⟨j.val, by omega⟩ : Fin 512)) fun a => by
    match a with
    | ⟨0, _⟩ => exact (Nat.zero_add _).symm
    | ⟨1, _⟩ => exact (Nat.zero_add _).symm).trans ?_
  refine (View.read_writes_cons_unit_of_mem _ _ _ _ _ _ (ix2 (⟨r.val, by omega⟩ : Fin 512) (⟨j.val, by omega⟩ : Fin 512)) rfl fun a => by
    match a with
    | ⟨0, _⟩ => exact (Nat.zero_add _).symm
    | ⟨1, _⟩ => exact (Nat.zero_add _).symm).trans ?_
  exact db_at ⟨r.val, by omega⟩ ⟨j.val, by omega⟩

end Cert.KernelIdeal.Own

end
-- ==== Proof.ValSeg.lean ====
/-
  Each head's rows of a segment as sums over every key row, the context of a chunk, and the partial product of a chunk.
-/
module

public import proofs.«01_k».proof.Proof.ValRead

@[expose] public section

noncomputable section

namespace Cert.KernelIdeal.Own

open Idealize.ShloMosaic Idealize.ShloMosaic.TcCoe Cert.KernelIdeal.Gen Idealize.ShloMosaic.ValueIdx
open scoped BigOperators

/-! ## Sums over gathered rows as sums over every row -/

/-- A sum over gathered rows is the sum over the rows that are gathered. -/
theorem reidx {N : ℕ} (f : Fin N → Fin 2048) (g : Fin 2048 → Fin N) (p : Fin 2048 → Prop) [DecidablePred p] (q : Fin N → Prop) [DecidablePred q]
    (h1 : ∀ a, q a → p (f a)) (h2 : ∀ a, q a → g (f a) = a) (h3 : ∀ j, p j → q (g j)) (h4 : ∀ j, p j → f (g j) = j) (H : Fin 2048 → EReal) :
    (∑ a, if q a then H (f a) else 0) = ∑ j, if p j then H j else 0 := by
  rw [← Finset.sum_filter, ← Finset.sum_filter]
  refine Finset.sum_nbij' f g ?_ ?_ ?_ ?_ ?_
  · intro a ha; exact Finset.mem_filter.mpr ⟨Finset.mem_univ _, h1 a (Finset.mem_filter.mp ha).2⟩
  · intro j hj; exact Finset.mem_filter.mpr ⟨Finset.mem_univ _, h3 j (Finset.mem_filter.mp hj).2⟩
  · intro a ha; exact h2 a (Finset.mem_filter.mp ha).2
  · intro j hj; exact h4 j (Finset.mem_filter.mp hj).2
  · intro a _; rfl
theorem reidx' {N : ℕ} (f : Fin N → Fin 2048) (g : Fin 2048 → Fin N) (p : Fin 2048 → Prop) [DecidablePred p]
    (h1 : ∀ a, p (f a)) (h2 : ∀ a, g (f a) = a) (h4 : ∀ j, p j → f (g j) = j) (H : Fin 2048 → EReal) :
    (∑ a, H (f a)) = ∑ j, if p j then H j else 0 := by
  rw [← reidx f g p (fun _ => True) (fun a _ => h1 a) (fun a _ => h2 a) (fun _ _ => trivial) h4 H]
  exact Finset.sum_congr rfl fun a _ => (if_pos trivial).symm

/-- The source block of a position. -/
def srcb (p : ℕ) : ℕ := if p < 704 then 3 * (p / 64) else if p < 1408 then 3 * ((p - 704) / 64) + 1 else 3 * ((p - 1408) / 64) + 2
/-- A block row b sees key row j. -/
def keep (b j : ℕ) : Prop := b = j / 64 ∨ j / 64 = 0 ∨ (b + j / 64) % 3 = 0
instance (b j : ℕ) : Decidable (keep b j) := by unfold keep; infer_instance

/-- The weight of key row j at position p, before the quotient. -/
def eS (w : Ins Ideal) (p : Fin 2048) (h : Fin 8) (j : Fin 2048) : EReal :=
  if keep (srcb p.val) j.val then Ideal.exp (sC w p h j) else 0
/-- The context of position p, column c of head h. -/
def cS (w : Ins Ideal) (p : Fin 2048) (h : Fin 8) (c : Fin 128) : EReal :=
  (∑ j : Fin 2048, eS w p h j * vA w j (hc h c)) * Ideal.div 1 (∑ j : Fin 2048, eS w p h j)

/-- Two disjoint families of rows, summed. -/
theorem two (p q k : Fin 2048 → Prop) [DecidablePred p] [DecidablePred q] [DecidablePred k] (hk : ∀ j, k j ↔ p j ∨ q j) (hd : ∀ j, p j → ¬q j)
    (H : Fin 2048 → EReal) : (∑ j, if p j then H j else 0) + (∑ j, if q j then H j else 0) = ∑ j, if k j then H j else 0 := by
  rw [← Finset.sum_add_distrib]
  refine Finset.sum_congr rfl fun j _ => ?_
  by_cases hp : p j
  · rw [if_pos hp, if_neg (hd j hp), if_pos ((hk j).mpr (Or.inl hp)), add_zero]
  · by_cases hq : q j
    · rw [if_neg hp, if_pos hq, if_pos ((hk j).mpr (Or.inr hq)), zero_add]
    · rw [if_neg hp, if_neg hq, if_neg fun h => ((hk j).mp h).elim hp hq, add_zero]

/-- A masked score contributes nothing. -/
theorem msk (c : Prop) [Decidable c] (s v : EReal) : Ideal.exp (s + (if c then (0 : EReal) else ⊥)) * v = if c then Ideal.exp s * v else 0 := by
  by_cases h : c
  · rw [if_pos h, if_pos h, add_zero]
  · rw [if_neg h, if_neg h, EReal.add_bot, Ideal.exp_bot, zero_mul]
theorem msk1 (c : Prop) [Decidable c] (s : EReal) : Ideal.exp (s + (if c then (0 : EReal) else ⊥)) = if c then Ideal.exp s else 0 := by
  by_cases h : c
  · rw [if_pos h, if_pos h, add_zero]
  · rw [if_neg h, if_neg h, EReal.add_bot, Ideal.exp_bot]

theorem eS_mul (w : Ins Ideal) (p : Fin 2048) (h : Fin 8) (j : Fin 2048) (v : EReal) :
    eS w p h j * v = if keep (srcb p.val) j.val then Ideal.exp (sC w p h j) * v else 0 := by
  unfold eS; split
  · rfl
  · exact zero_mul _

/-- A segment without rows of its own: every kept row is gathered. -/
theorem cS_A (w : Ins Ideal) (p : Fin 2048) (h : Fin 8) (c : Fin 128) {N : ℕ} (f : Fin N → Fin 2048) (g : Fin 2048 → Fin N)
    (h1 : ∀ a, keep (srcb p.val) (f a).val) (h2 : ∀ a, g (f a) = a) (h4 : ∀ j : Fin 2048, keep (srcb p.val) j.val → f (g j) = j) :
    (∑ a : Fin N, Ideal.exp (sC w p h (f a)) * vA w (f a) (hc h c)) * Ideal.div 1 (∑ a : Fin N, Ideal.exp (sC w p h (f a))) = cS w p h c := by
  unfold cS
  simp only [eS_mul]
  unfold eS
  rw [reidx' f g (fun j => keep (srcb p.val) j.val) h1 h2 h4 (fun j => Ideal.exp (sC w p h j) * vA w j (hc h c)),
    reidx' f g (fun j => keep (srcb p.val) j.val) h1 h2 h4 (fun j => Ideal.exp (sC w p h j))]

/-- A segment with rows of its own: a kept row is gathered, or lies in the row's own block. -/
theorem cS_B (w : Ins Ideal) (p : Fin 2048) (h : Fin 8) (c : Fin 128) {N M : ℕ} (f : Fin N → Fin 2048) (g : Fin 2048 → Fin N)
    (f' : Fin M → Fin 2048) (g' : Fin 2048 → Fin M) (q : Fin M → Prop) [DecidablePred q] (p1 p2 : Fin 2048 → Prop) [DecidablePred p1] [DecidablePred p2]
    (h1 : ∀ a, p1 (f a)) (h2 : ∀ a, g (f a) = a) (h4 : ∀ j : Fin 2048, p1 j → f (g j) = j)
    (k1 : ∀ a, q a → p2 (f' a)) (k2 : ∀ a, q a → g' (f' a) = a) (k3 : ∀ j, p2 j → q (g' j)) (k4 : ∀ j : Fin 2048, p2 j → f' (g' j) = j)
    (hk : ∀ j : Fin 2048, keep (srcb p.val) j.val ↔ p1 j ∨ p2 j) (hd : ∀ j, p1 j → ¬p2 j) :
    (∑ a : Fin N, Ideal.exp (sC w p h (f a)) * vA w (f a) (hc h c)
        + ∑ a : Fin M, Ideal.exp (sC w p h (f' a) + (if q a then (0 : EReal) else ⊥)) * vA w (f' a) (hc h c))
      * Ideal.div 1 (∑ a : Fin N, Ideal.exp (sC w p h (f a)) + ∑ a : Fin M, Ideal.exp (sC w p h (f' a) + (if q a then (0 : EReal) else ⊥)))
      = cS w p h c := by
  unfold cS
  simp only [eS_mul, msk]
  simp only [msk1]
  unfold eS
  rw [reidx' f g p1 h1 h2 h4 (fun j => Ideal.exp (sC w p h j) * vA w j (hc h c)), reidx' f g p1 h1 h2 h4 (fun j => Ideal.exp (sC w p h j)),
    reidx f' g' p2 q k1 k2 k3 k4 (fun j => Ideal.exp (sC w p h j) * vA w j (hc h c)), reidx f' g' p2 q k1 k2 k3 k4 (fun j => Ideal.exp (sC w p h j)),
    two p1 p2 (fun j => keep (srcb p.val) j.val) hk hd, two p1 p2 (fun j => keep (srcb p.val) j.val) hk hd]

/-! ## The heads -/

theorem hd0_at (w : Ins Ideal) (h : Fin 8) (r : Fin 512) (c : Fin 128) : hd0 w h (ix2 r c) = cS w ⟨0 + r.val, by omega⟩ h c := by
  unfold hd0
  refine (pay133_at _ _ _ r c).trans (Eq.trans ?_ (cS_A w ⟨0 + r.val, by omega⟩ h c f0 (fun j => ⟨(64 * (j.val / 64 / 3) + j.val % 64) % 704, by omega⟩) ?_ ?_ ?_))
  · have e : ∀ j : Fin 704, scr ((Memref.whole cc0_scratch0).view.readCov (Lq0 w) (Rect.unit (s := S512x1024) ![0, 128 * h.val] S512x128.size (hq0_inb h)).toLoadRect)
        ((Memref.whole cc0_scratch2).view.readCov (Lks0 w) (Rect.unit (s := S704x1024) ![0, 128 * h.val] S704x128.size (hs0_inb h)).toLoadRect) r j
        = sC w ⟨0 + r.val, by omega⟩ h (f0 j) := fun j => Finset.sum_congr rfl fun d _ => by
      rw [lq0_at, ks0_at]; congr 2; exact congrArg f0 (Fin.ext (Nat.zero_add _))
    have e' : ∀ j : Fin 704, (Memref.whole cc0_scratch5).view.readCov (Lvs0 w) (Rect.unit (s := S704x1024) ![0, 128 * h.val] S704x128.size (hs0_inb h)).toLoadRect (ix2 j c)
        = vA w (f0 j) (hc h c) := fun j => by
      rw [vs0_at]; congr 1; exact congrArg f0 (Fin.ext (Nat.zero_add _))
    exact congrArg₂ (· * ·) (Finset.sum_congr rfl fun j _ => congrArg₂ (· * ·) (congrArg Ideal.exp (e j)) (e' j))
      (congrArg (Ideal.div 1) (Finset.sum_congr rfl fun j _ => congrArg Ideal.exp (e j)))
  · intro a; have := r.isLt; have := a.isLt; show keep (srcb (0 + r.val)) (64 * (3 * (a.val / 64)) + a.val % 64); unfold keep srcb; split_ifs <;> omega
  · intro a; have := a.isLt; apply Fin.ext; show (64 * ((64 * (3 * (a.val / 64)) + a.val % 64) / 64 / 3) + (64 * (3 * (a.val / 64)) + a.val % 64) % 64) % 704 = a.val; omega
  · intro j hj; have := r.isLt; have := j.isLt; change keep (srcb (0 + r.val)) j.val at hj; unfold keep srcb at hj; apply Fin.ext
    show 64 * (3 * ((64 * (j.val / 64 / 3) + j.val % 64) % 704 / 64)) + (64 * (j.val / 64 / 3) + j.val % 64) % 704 % 64 = j.val
    split_ifs at hj <;> omega

theorem hd1a_at (w : Ins Ideal) (h : Fin 8) (r : Fin 192) (c : Fin 128) : hd1a w h (ix2 r c) = cS w ⟨512 + r.val, by omega⟩ h c := by
  unfold hd1a
  refine (pay156_at _ _ _ r c).trans (Eq.trans ?_ (cS_A w ⟨512 + r.val, by omega⟩ h c f0 (fun j => ⟨(64 * (j.val / 64 / 3) + j.val % 64) % 704, by omega⟩) ?_ ?_ ?_))
  · have e : ∀ j : Fin 704, scr ((Memref.whole cc0_scratch0).view.readCov (Lq1a w) (Rect.unit (s := S512x1024) ![0, 128 * h.val] S192x128.size (hq1a_inb h)).toLoadRect)
        ((Memref.whole cc0_scratch2).view.readCov (Lks0 w) (Rect.unit (s := S704x1024) ![0, 128 * h.val] S704x128.size (hs1a_inb h)).toLoadRect) r j
        = sC w ⟨512 + r.val, by omega⟩ h (f0 j) := fun j => Finset.sum_congr rfl fun d _ => by
      rw [lq1a_at, ks0_at]; congr 2; exact congrArg f0 (Fin.ext (Nat.zero_add _))
    have e' : ∀ j : Fin 704, (Memref.whole cc0_scratch5).view.readCov (Lvs0 w) (Rect.unit (s := S704x1024) ![0, 128 * h.val] S704x128.size (hs1a_inb h)).toLoadRect (ix2 j c)
        = vA w (f0 j) (hc h c) := fun j => by
      rw [vs0_at]; congr 1; exact congrArg f0 (Fin.ext (Nat.zero_add _))
    exact congrArg₂ (· * ·) (Finset.sum_congr rfl fun j _ => congrArg₂ (· * ·) (congrArg Ideal.exp (e j)) (e' j))
      (congrArg (Ideal.div 1) (Finset.sum_congr rfl fun j _ => congrArg Ideal.exp (e j)))
  · intro a; have := r.isLt; have := a.isLt; show keep (srcb (512 + r.val)) (64 * (3 * (a.val / 64)) + a.val % 64); unfold keep srcb; split_ifs <;> omega
  · intro a; have := a.isLt; apply Fin.ext; show (64 * ((64 * (3 * (a.val / 64)) + a.val % 64) / 64 / 3) + (64 * (3 * (a.val / 64)) + a.val % 64) % 64) % 704 = a.val; omega
  · intro j hj; have := r.isLt; have := j.isLt; change keep (srcb (512 + r.val)) j.val at hj; unfold keep srcb at hj; apply Fin.ext
    show 64 * (3 * ((64 * (j.val / 64 / 3) + j.val % 64) % 704 / 64)) + (64 * (j.val / 64 / 3) + j.val % 64) % 704 % 64 = j.val
    split_ifs at hj <;> omega

theorem hd1b_at (w : Ins Ideal) (h : Fin 8) (r : Fin 320) (c : Fin 128) : hd1b w h (ix2 r c) = cS w ⟨704 + r.val, by omega⟩ h c := by
  unfold hd1b
  refine (pay173_at _ _ _ _ _ _ r c).trans (Eq.trans ?_ (cS_B w ⟨704 + r.val, by omega⟩ h c f1 (fun j => ⟨(64 * ((j.val / 64 + 1) / 3) + j.val % 64) % 704, by omega⟩)
    (fun a : Fin 320 => e1 ⟨0 + a.val, by omega⟩) (fun j => ⟨((64 * ((j.val / 64) / 3) + j.val % 64) - 0) % 320, by omega⟩) (fun a => r.val / 64 = a.val / 64)
    (fun j => j.val / 64 = 0 ∨ (j.val / 64) % 3 = 2) (fun j => j.val / 64 = 3 * ((0 + r.val) / 64) + 1) ?_ ?_ ?_ ?_ ?_ ?_ ?_ ?_ ?_))
  · have e : ∀ j : Fin 704, scr ((Memref.whole cc0_scratch0).view.readCov (Lq1b w) (Rect.unit (s := S512x1024) ![192, 128 * h.val] S320x128.size (hq1b_inb h)).toLoadRect)
        ((Memref.whole cc0_scratch3).view.readCov (Lks1 w) (Rect.unit (s := S704x1024) ![0, 128 * h.val] S704x128.size (hs1b_inb h)).toLoadRect) r j
        = sC w ⟨704 + r.val, by omega⟩ h (f1 j) := fun j => Finset.sum_congr rfl fun d _ => by
      rw [lq1b_at, ks1_at]; congr 2; exact congrArg f1 (Fin.ext (Nat.zero_add _))
    have e' : ∀ j : Fin 704, (Memref.whole cc0_scratch6).view.readCov (Lvs1 w) (Rect.unit (s := S704x1024) ![0, 128 * h.val] S704x128.size (hs1b_inb h)).toLoadRect (ix2 j c)
        = vA w (f1 j) (hc h c) := fun j => by
      rw [vs1_at]; congr 1; exact congrArg f1 (Fin.ext (Nat.zero_add _))
    have i : ∀ j : Fin 320, scr ((Memref.whole cc0_scratch0).view.readCov (Lq1b w) (Rect.unit (s := S512x1024) ![192, 128 * h.val] S320x128.size (hq1b_inb h)).toLoadRect)
        ((Memref.whole cc0_scratch8).view.readCov (Lkd1 w) (Rect.unit (s := S704x1024) ![0, 128 * h.val] S320x128.size (hd1b_inb h)).toLoadRect) r j
        = sC w ⟨704 + r.val, by omega⟩ h (e1 ⟨0 + j.val, by omega⟩) := fun j => Finset.sum_congr rfl fun d _ => by
      rw [lq1b_at, kd1b_at]
    have i' : ∀ j : Fin 320, (Memref.whole cc0_scratch10).view.readCov (Lvd1 w) (Rect.unit (s := S704x1024) ![0, 128 * h.val] S320x128.size (hd1b_inb h)).toLoadRect (ix2 j c)
        = vA w (e1 ⟨0 + j.val, by omega⟩) (hc h c) := fun j => vd1b_at w h _ j c
    have b : ∀ j : Fin 320, (Memref.whole cc0_scratch12).view.readCov (Ldb (F := Ideal)) (Rect.unit (s := S512x512) ![0, 0] S320x320.size inb_S512x512_S320x320_0_0).toLoadRect (ix2 r j)
        = (if r.val / 64 = j.val / 64 then (0 : EReal) else ⊥ : EReal) := fun j => ldb_at (M := 320) (by decide) _ r j
    have z1 : ∀ j : Fin 320, _ = _ := fun j => congrArg Ideal.exp (congrArg₂ (· + ·) (i j) (b j))
    exact congrArg₂ (· * ·) (congrArg₂ (· + ·) (Finset.sum_congr rfl fun j _ => congrArg₂ (· * ·) (congrArg Ideal.exp (e j)) (e' j))
        (Finset.sum_congr rfl fun j _ => congrArg₂ (· * ·) (z1 j) (i' j)))
      (congrArg (Ideal.div 1) (congrArg₂ (· + ·) (Finset.sum_congr rfl fun j _ => congrArg Ideal.exp (e j)) (Finset.sum_congr rfl fun j _ => z1 j)))
  · intro a; have := a.isLt; show (64 * (3 * (a.val / 64) - 1) + a.val % 64) / 64 = 0 ∨ (64 * (3 * (a.val / 64) - 1) + a.val % 64) / 64 % 3 = 2; omega
  · intro a; have := a.isLt; apply Fin.ext; show (64 * (((64 * (3 * (a.val / 64) - 1) + a.val % 64) / 64 + 1) / 3) + (64 * (3 * (a.val / 64) - 1) + a.val % 64) % 64) % 704 = a.val; omega
  · intro j hj; have := j.isLt; change j.val / 64 = 0 ∨ (j.val / 64) % 3 = 2 at hj; apply Fin.ext
    show 64 * (3 * (((64 * ((j.val / 64 + 1) / 3) + j.val % 64) % 704) / 64) - 1) + ((64 * ((j.val / 64 + 1) / 3) + j.val % 64) % 704) % 64 = j.val; omega
  · intro a ha; have := a.isLt; have := r.isLt; change r.val / 64 = a.val / 64 at ha; show (64 * (3 * ((0 + a.val) / 64) + 1) + (0 + a.val) % 64) / 64 = 3 * ((0 + r.val) / 64) + 1; omega
  · intro a ha; have := a.isLt; apply Fin.ext; show ((64 * (((64 * (3 * ((0 + a.val) / 64) + 1) + (0 + a.val) % 64) / 64) / 3) + (64 * (3 * ((0 + a.val) / 64) + 1) + (0 + a.val) % 64) % 64) - 0) % 320 = a.val; omega
  · intro j hj; have := j.isLt; have := r.isLt; change j.val / 64 = 3 * ((0 + r.val) / 64) + 1 at hj; show r.val / 64 = ((64 * ((j.val / 64) / 3) + j.val % 64) - 0) % 320 / 64; omega
  · intro j hj; have := j.isLt; have := r.isLt; change j.val / 64 = 3 * ((0 + r.val) / 64) + 1 at hj; apply Fin.ext
    show 64 * (3 * ((0 + (((64 * ((j.val / 64) / 3) + j.val % 64) - 0) % 320)) / 64) + 1) + (0 + (((64 * ((j.val / 64) / 3) + j.val % 64) - 0) % 320)) % 64 = j.val; omega
  · intro j; have := j.isLt; have := r.isLt
    show keep (srcb (704 + r.val)) j.val ↔ (j.val / 64 = 0 ∨ (j.val / 64) % 3 = 2) ∨ j.val / 64 = 3 * ((0 + r.val) / 64) + 1
    unfold keep srcb; split_ifs <;> omega
  · intro j hj hk; have := j.isLt; have := r.isLt; change j.val / 64 = 0 ∨ (j.val / 64) % 3 = 2 at hj
    change j.val / 64 = 3 * ((0 + r.val) / 64) + 1 at hk; omega

theorem hd2a_at (w : Ins Ideal) (h : Fin 8) (r : Fin 384) (c : Fin 128) : hd2a w h (ix2 r c) = cS w ⟨1024 + r.val, by omega⟩ h c := by
  unfold hd2a
  refine (pay206_at _ _ _ _ _ _ r c).trans (Eq.trans ?_ (cS_B w ⟨1024 + r.val, by omega⟩ h c f1 (fun j => ⟨(64 * ((j.val / 64 + 1) / 3) + j.val % 64) % 704, by omega⟩)
    (fun a : Fin 384 => e1 ⟨320 + a.val, by omega⟩) (fun j => ⟨((64 * ((j.val / 64) / 3) + j.val % 64) - 320) % 384, by omega⟩) (fun a => r.val / 64 = a.val / 64)
    (fun j => j.val / 64 = 0 ∨ (j.val / 64) % 3 = 2) (fun j => j.val / 64 = 3 * ((320 + r.val) / 64) + 1) ?_ ?_ ?_ ?_ ?_ ?_ ?_ ?_ ?_))
  · have e : ∀ j : Fin 704, scr ((Memref.whole cc0_scratch0).view.readCov (Lq2a w) (Rect.unit (s := S512x1024) ![0, 128 * h.val] S384x128.size (hq2a_inb h)).toLoadRect)
        ((Memref.whole cc0_scratch3).view.readCov (Lks1 w) (Rect.unit (s := S704x1024) ![0, 128 * h.val] S704x128.size (hs2a_inb h)).toLoadRect) r j
        = sC w ⟨1024 + r.val, by omega⟩ h (f1 j) := fun j => Finset.sum_congr rfl fun d _ => by
      rw [lq2a_at, ks1_at]; congr 2; exact congrArg f1 (Fin.ext (Nat.zero_add _))
    have e' : ∀ j : Fin 704, (Memref.whole cc0_scratch6).view.readCov (Lvs1 w) (Rect.unit (s := S704x1024) ![0, 128 * h.val] S704x128.size (hs2a_inb h)).toLoadRect (ix2 j c)
        = vA w (f1 j) (hc h c) := fun j => by
      rw [vs1_at]; congr 1; exact congrArg f1 (Fin.ext (Nat.zero_add _))
    have i : ∀ j : Fin 384, scr ((Memref.whole cc0_scratch0).view.readCov (Lq2a w) (Rect.unit (s := S512x1024) ![0, 128 * h.val] S384x128.size (hq2a_inb h)).toLoadRect)
        ((Memref.whole cc0_scratch8).view.readCov (Lkd1 w) (Rect.unit (s := S704x1024) ![320, 128 * h.val] S384x128.size (hd2a_inb h)).toLoadRect) r j
        = sC w ⟨1024 + r.val, by omega⟩ h (e1 ⟨320 + j.val, by omega⟩) := fun j => Finset.sum_congr rfl fun d _ => by
      rw [lq2a_at, kd2a_at]
    have i' : ∀ j : Fin 384, (Memref.whole cc0_scratch10).view.readCov (Lvd1 w) (Rect.unit (s := S704x1024) ![320, 128 * h.val] S384x128.size (hd2a_inb h)).toLoadRect (ix2 j c)
        = vA w (e1 ⟨320 + j.val, by omega⟩) (hc h c) := fun j => vd2a_at w h _ j c
    have b : ∀ j : Fin 384, (Memref.whole cc0_scratch12).view.readCov (Ldb (F := Ideal)) (Rect.unit (s := S512x512) ![0, 0] S384x384.size inb_S512x512_S384x384_0_0).toLoadRect (ix2 r j)
        = (if r.val / 64 = j.val / 64 then (0 : EReal) else ⊥ : EReal) := fun j => ldb_at (M := 384) (by decide) _ r j
    have z1 : ∀ j : Fin 384, _ = _ := fun j => congrArg Ideal.exp (congrArg₂ (· + ·) (i j) (b j))
    exact congrArg₂ (· * ·) (congrArg₂ (· + ·) (Finset.sum_congr rfl fun j _ => congrArg₂ (· * ·) (congrArg Ideal.exp (e j)) (e' j))
        (Finset.sum_congr rfl fun j _ => congrArg₂ (· * ·) (z1 j) (i' j)))
      (congrArg (Ideal.div 1) (congrArg₂ (· + ·) (Finset.sum_congr rfl fun j _ => congrArg Ideal.exp (e j)) (Finset.sum_congr rfl fun j _ => z1 j)))
  · intro a; have := a.isLt; show (64 * (3 * (a.val / 64) - 1) + a.val % 64) / 64 = 0 ∨ (64 * (3 * (a.val / 64) - 1) + a.val % 64) / 64 % 3 = 2; omega
  · intro a; have := a.isLt; apply Fin.ext; show (64 * (((64 * (3 * (a.val / 64) - 1) + a.val % 64) / 64 + 1) / 3) + (64 * (3 * (a.val / 64) - 1) + a.val % 64) % 64) % 704 = a.val; omega
  · intro j hj; have := j.isLt; change j.val / 64 = 0 ∨ (j.val / 64) % 3 = 2 at hj; apply Fin.ext
    show 64 * (3 * (((64 * ((j.val / 64 + 1) / 3) + j.val % 64) % 704) / 64) - 1) + ((64 * ((j.val / 64 + 1) / 3) + j.val % 64) % 704) % 64 = j.val; omega
  · intro a ha; have := a.isLt; have := r.isLt; change r.val / 64 = a.val / 64 at ha; show (64 * (3 * ((320 + a.val) / 64) + 1) + (320 + a.val) % 64) / 64 = 3 * ((320 + r.val) / 64) + 1; omega
  · intro a ha; have := a.isLt; apply Fin.ext; show ((64 * (((64 * (3 * ((320 + a.val) / 64) + 1) + (320 + a.val) % 64) / 64) / 3) + (64 * (3 * ((320 + a.val) / 64) + 1) + (320 + a.val) % 64) % 64) - 320) % 384 = a.val; omega
  · intro j hj; have := j.isLt; have := r.isLt; change j.val / 64 = 3 * ((320 + r.val) / 64) + 1 at hj; show r.val / 64 = ((64 * ((j.val / 64) / 3) + j.val % 64) - 320) % 384 / 64; omega
  · intro j hj; have := j.isLt; have := r.isLt; change j.val / 64 = 3 * ((320 + r.val) / 64) + 1 at hj; apply Fin.ext
    show 64 * (3 * ((320 + (((64 * ((j.val / 64) / 3) + j.val % 64) - 320) % 384)) / 64) + 1) + (320 + (((64 * ((j.val / 64) / 3) + j.val % 64) - 320) % 384)) % 64 = j.val; omega
  · intro j; have := j.isLt; have := r.isLt
    show keep (srcb (1024 + r.val)) j.val ↔ (j.val / 64 = 0 ∨ (j.val / 64) % 3 = 2) ∨ j.val / 64 = 3 * ((320 + r.val) / 64) + 1
    unfold keep srcb; split_ifs <;> omega
  · intro j hj hk; have := j.isLt; have := r.isLt; change j.val / 64 = 0 ∨ (j.val / 64) % 3 = 2 at hj
    change j.val / 64 = 3 * ((320 + r.val) / 64) + 1 at hk; omega

theorem hd2b_at (w : Ins Ideal) (h : Fin 8) (r : Fin 128) (c : Fin 128) : hd2b w h (ix2 r c) = cS w ⟨1408 + r.val, by omega⟩ h c := by
  unfold hd2b
  refine (pay244_at _ _ _ _ _ _ r c).trans (Eq.trans ?_ (cS_B w ⟨1408 + r.val, by omega⟩ h c f2 (fun j => ⟨(64 * ((j.val / 64 + 2) / 3) + j.val % 64) % 768, by omega⟩)
    (fun a : Fin 128 => e2 ⟨0 + a.val, by omega⟩) (fun j => ⟨((64 * ((j.val / 64) / 3) + j.val % 64) - 0) % 128, by omega⟩) (fun a => r.val / 64 = a.val / 64)
    (fun j => j.val / 64 = 0 ∨ (j.val / 64) % 3 = 1) (fun j => j.val / 64 = 3 * ((0 + r.val) / 64) + 2) ?_ ?_ ?_ ?_ ?_ ?_ ?_ ?_ ?_))
  · have e : ∀ j : Fin 768, scr ((Memref.whole cc0_scratch0).view.readCov (Lq2b w) (Rect.unit (s := S512x1024) ![384, 128 * h.val] S128x128.size (hq2b_inb h)).toLoadRect)
        ((Memref.whole cc0_scratch4).view.readCov (Lks2 w) (Rect.unit (s := S768x1024) ![0, 128 * h.val] S768x128.size (hs2b_inb h)).toLoadRect) r j
        = sC w ⟨1408 + r.val, by omega⟩ h (f2 j) := fun j => Finset.sum_congr rfl fun d _ => by
      rw [lq2b_at, ks2_at]; congr 2; exact congrArg f2 (Fin.ext (Nat.zero_add _))
    have e' : ∀ j : Fin 768, (Memref.whole cc0_scratch7).view.readCov (Lvs2 w) (Rect.unit (s := S768x1024) ![0, 128 * h.val] S768x128.size (hs2b_inb h)).toLoadRect (ix2 j c)
        = vA w (f2 j) (hc h c) := fun j => by
      rw [vs2_at]; congr 1; exact congrArg f2 (Fin.ext (Nat.zero_add _))
    have i : ∀ j : Fin 128, scr ((Memref.whole cc0_scratch0).view.readCov (Lq2b w) (Rect.unit (s := S512x1024) ![384, 128 * h.val] S128x128.size (hq2b_inb h)).toLoadRect)
        ((Memref.whole cc0_scratch9).view.readCov (Lkd2 w) (Rect.unit (s := S640x1024) ![0, 128 * h.val] S128x128.size (hd2b_inb h)).toLoadRect) r j
        = sC w ⟨1408 + r.val, by omega⟩ h (e2 ⟨0 + j.val, by omega⟩) := fun j => Finset.sum_congr rfl fun d _ => by
      rw [lq2b_at, kd2b_at]
    have i' : ∀ j : Fin 128, (Memref.whole cc0_scratch11).view.readCov (Lvd2 w) (Rect.unit (s := S640x1024) ![0, 128 * h.val] S128x128.size (hd2b_inb h)).toLoadRect (ix2 j c)
        = vA w (e2 ⟨0 + j.val, by omega⟩) (hc h c) := fun j => vd2b_at w h _ j c
    have b : ∀ j : Fin 128, (Memref.whole cc0_scratch12).view.readCov (Ldb (F := Ideal)) (Rect.unit (s := S512x512) ![0, 0] S128x128.size inb_S512x512_S128x128_0_0).toLoadRect (ix2 r j)
        = (if r.val / 64 = j.val / 64 then (0 : EReal) else ⊥ : EReal) := fun j => ldb_at (M := 128) (by decide) _ r j
    have z1 : ∀ j : Fin 128, _ = _ := fun j => congrArg Ideal.exp (congrArg₂ (· + ·) (i j) (b j))
    exact congrArg₂ (· * ·) (congrArg₂ (· + ·) (Finset.sum_congr rfl fun j _ => congrArg₂ (· * ·) (congrArg Ideal.exp (e j)) (e' j))
        (Finset.sum_congr rfl fun j _ => congrArg₂ (· * ·) (z1 j) (i' j)))
      (congrArg (Ideal.div 1) (congrArg₂ (· + ·) (Finset.sum_congr rfl fun j _ => congrArg Ideal.exp (e j)) (Finset.sum_congr rfl fun j _ => z1 j)))
  · intro a; have := a.isLt; show (64 * (3 * (a.val / 64) - 2) + a.val % 64) / 64 = 0 ∨ (64 * (3 * (a.val / 64) - 2) + a.val % 64) / 64 % 3 = 1; omega
  · intro a; have := a.isLt; apply Fin.ext; show (64 * (((64 * (3 * (a.val / 64) - 2) + a.val % 64) / 64 + 2) / 3) + (64 * (3 * (a.val / 64) - 2) + a.val % 64) % 64) % 768 = a.val; omega
  · intro j hj; have := j.isLt; change j.val / 64 = 0 ∨ (j.val / 64) % 3 = 1 at hj; apply Fin.ext
    show 64 * (3 * (((64 * ((j.val / 64 + 2) / 3) + j.val % 64) % 768) / 64) - 2) + ((64 * ((j.val / 64 + 2) / 3) + j.val % 64) % 768) % 64 = j.val; omega
  · intro a ha; have := a.isLt; have := r.isLt; change r.val / 64 = a.val / 64 at ha; show (64 * (3 * ((0 + a.val) / 64) + 2) + (0 + a.val) % 64) / 64 = 3 * ((0 + r.val) / 64) + 2; omega
  · intro a ha; have := a.isLt; apply Fin.ext; show ((64 * (((64 * (3 * ((0 + a.val) / 64) + 2) + (0 + a.val) % 64) / 64) / 3) + (64 * (3 * ((0 + a.val) / 64) + 2) + (0 + a.val) % 64) % 64) - 0) % 128 = a.val; omega
  · intro j hj; have := j.isLt; have := r.isLt; change j.val / 64 = 3 * ((0 + r.val) / 64) + 2 at hj; show r.val / 64 = ((64 * ((j.val / 64) / 3) + j.val % 64) - 0) % 128 / 64; omega
  · intro j hj; have := j.isLt; have := r.isLt; change j.val / 64 = 3 * ((0 + r.val) / 64) + 2 at hj; apply Fin.ext
    show 64 * (3 * ((0 + (((64 * ((j.val / 64) / 3) + j.val % 64) - 0) % 128)) / 64) + 2) + (0 + (((64 * ((j.val / 64) / 3) + j.val % 64) - 0) % 128)) % 64 = j.val; omega
  · intro j; have := j.isLt; have := r.isLt
    show keep (srcb (1408 + r.val)) j.val ↔ (j.val / 64 = 0 ∨ (j.val / 64) % 3 = 1) ∨ j.val / 64 = 3 * ((0 + r.val) / 64) + 2
    unfold keep srcb; split_ifs <;> omega
  · intro j hj hk; have := j.isLt; have := r.isLt; change j.val / 64 = 0 ∨ (j.val / 64) % 3 = 1 at hj
    change j.val / 64 = 3 * ((0 + r.val) / 64) + 2 at hk; omega

theorem hd3_at (w : Ins Ideal) (h : Fin 8) (r : Fin 512) (c : Fin 128) : hd3 w h (ix2 r c) = cS w ⟨1536 + r.val, by omega⟩ h c := by
  unfold hd3
  refine (pay279_at _ _ _ _ _ _ r c).trans (Eq.trans ?_ (cS_B w ⟨1536 + r.val, by omega⟩ h c f2 (fun j => ⟨(64 * ((j.val / 64 + 2) / 3) + j.val % 64) % 768, by omega⟩)
    (fun a : Fin 512 => e2 ⟨128 + a.val, by omega⟩) (fun j => ⟨((64 * ((j.val / 64) / 3) + j.val % 64) - 128) % 512, by omega⟩) (fun a => r.val / 64 = a.val / 64)
    (fun j => j.val / 64 = 0 ∨ (j.val / 64) % 3 = 1) (fun j => j.val / 64 = 3 * ((128 + r.val) / 64) + 2) ?_ ?_ ?_ ?_ ?_ ?_ ?_ ?_ ?_))
  · have e : ∀ j : Fin 768, scr ((Memref.whole cc0_scratch0).view.readCov (Lq3 w) (Rect.unit (s := S512x1024) ![0, 128 * h.val] S512x128.size (hq3_inb h)).toLoadRect)
        ((Memref.whole cc0_scratch4).view.readCov (Lks2 w) (Rect.unit (s := S768x1024) ![0, 128 * h.val] S768x128.size (hs3_inb h)).toLoadRect) r j
        = sC w ⟨1536 + r.val, by omega⟩ h (f2 j) := fun j => Finset.sum_congr rfl fun d _ => by
      rw [lq3_at, ks2_at]; congr 2; exact congrArg f2 (Fin.ext (Nat.zero_add _))
    have e' : ∀ j : Fin 768, (Memref.whole cc0_scratch7).view.readCov (Lvs2 w) (Rect.unit (s := S768x1024) ![0, 128 * h.val] S768x128.size (hs3_inb h)).toLoadRect (ix2 j c)
        = vA w (f2 j) (hc h c) := fun j => by
      rw [vs2_at]; congr 1; exact congrArg f2 (Fin.ext (Nat.zero_add _))
    have i : ∀ j : Fin 512, scr ((Memref.whole cc0_scratch0).view.readCov (Lq3 w) (Rect.unit (s := S512x1024) ![0, 128 * h.val] S512x128.size (hq3_inb h)).toLoadRect)
        ((Memref.whole cc0_scratch9).view.readCov (Lkd2 w) (Rect.unit (s := S640x1024) ![128, 128 * h.val] S512x128.size (hd3_inb h)).toLoadRect) r j
        = sC w ⟨1536 + r.val, by omega⟩ h (e2 ⟨128 + j.val, by omega⟩) := fun j => Finset.sum_congr rfl fun d _ => by
      rw [lq3_at, kd3_at]
    have i' : ∀ j : Fin 512, (Memref.whole cc0_scratch11).view.readCov (Lvd2 w) (Rect.unit (s := S640x1024) ![128, 128 * h.val] S512x128.size (hd3_inb h)).toLoadRect (ix2 j c)
        = vA w (e2 ⟨128 + j.val, by omega⟩) (hc h c) := fun j => vd3_at w h _ j c
    have b : ∀ j : Fin 512, (Memref.whole cc0_scratch12).view.readCov (Ldb (F := Ideal)) (Rect.unit (s := S512x512) ![0, 0] S512x512.size inb_S512x512_S512x512_0_0).toLoadRect (ix2 r j)
        = (if r.val / 64 = j.val / 64 then (0 : EReal) else ⊥ : EReal) := fun j => ldb_at (M := 512) (by decide) _ r j
    have z1 : ∀ j : Fin 512, _ = _ := fun j => congrArg Ideal.exp (congrArg₂ (· + ·) (i j) (b j))
    exact congrArg₂ (· * ·) (congrArg₂ (· + ·) (Finset.sum_congr rfl fun j _ => congrArg₂ (· * ·) (congrArg Ideal.exp (e j)) (e' j))
        (Finset.sum_congr rfl fun j _ => congrArg₂ (· * ·) (z1 j) (i' j)))
      (congrArg (Ideal.div 1) (congrArg₂ (· + ·) (Finset.sum_congr rfl fun j _ => congrArg Ideal.exp (e j)) (Finset.sum_congr rfl fun j _ => z1 j)))
  · intro a; have := a.isLt; show (64 * (3 * (a.val / 64) - 2) + a.val % 64) / 64 = 0 ∨ (64 * (3 * (a.val / 64) - 2) + a.val % 64) / 64 % 3 = 1; omega
  · intro a; have := a.isLt; apply Fin.ext; show (64 * (((64 * (3 * (a.val / 64) - 2) + a.val % 64) / 64 + 2) / 3) + (64 * (3 * (a.val / 64) - 2) + a.val % 64) % 64) % 768 = a.val; omega
  · intro j hj; have := j.isLt; change j.val / 64 = 0 ∨ (j.val / 64) % 3 = 1 at hj; apply Fin.ext
    show 64 * (3 * (((64 * ((j.val / 64 + 2) / 3) + j.val % 64) % 768) / 64) - 2) + ((64 * ((j.val / 64 + 2) / 3) + j.val % 64) % 768) % 64 = j.val; omega
  · intro a ha; have := a.isLt; have := r.isLt; change r.val / 64 = a.val / 64 at ha; show (64 * (3 * ((128 + a.val) / 64) + 2) + (128 + a.val) % 64) / 64 = 3 * ((128 + r.val) / 64) + 2; omega
  · intro a ha; have := a.isLt; apply Fin.ext; show ((64 * (((64 * (3 * ((128 + a.val) / 64) + 2) + (128 + a.val) % 64) / 64) / 3) + (64 * (3 * ((128 + a.val) / 64) + 2) + (128 + a.val) % 64) % 64) - 128) % 512 = a.val; omega
  · intro j hj; have := j.isLt; have := r.isLt; change j.val / 64 = 3 * ((128 + r.val) / 64) + 2 at hj; show r.val / 64 = ((64 * ((j.val / 64) / 3) + j.val % 64) - 128) % 512 / 64; omega
  · intro j hj; have := j.isLt; have := r.isLt; change j.val / 64 = 3 * ((128 + r.val) / 64) + 2 at hj; apply Fin.ext
    show 64 * (3 * ((128 + (((64 * ((j.val / 64) / 3) + j.val % 64) - 128) % 512)) / 64) + 2) + (128 + (((64 * ((j.val / 64) / 3) + j.val % 64) - 128) % 512)) % 64 = j.val; omega
  · intro j; have := j.isLt; have := r.isLt
    show keep (srcb (1536 + r.val)) j.val ↔ (j.val / 64 = 0 ∨ (j.val / 64) % 3 = 1) ∨ j.val / 64 = 3 * ((128 + r.val) / 64) + 2
    unfold keep srcb; split_ifs <;> omega
  · intro j hj hk; have := j.isLt; have := r.isLt; change j.val / 64 = 0 ∨ (j.val / 64) % 3 = 1 at hj
    change j.val / 64 = 3 * ((128 + r.val) / 64) + 2 at hk; omega

/-! ## The context of a chunk, and its partial product -/

/-- The context of a position at a column of all heads. -/
def cX (w : Ins Ideal) (p : Fin 2048) (c : Fin 1024) : EReal := cS w p ⟨c.val / 128, by omega⟩ ⟨c.val % 128, by omega⟩
/-- The partial product of a position. -/
def pX (w : Ins Ideal) (p : Fin 2048) (n : Fin 1024) : EReal := ∑ c : Fin 1024, cX w p c * oA w c n

theorem tl_at {κ : Kind} {sp : Space} {M : ℕ} (v : View sig κ sp S512x1024 .bf16) (f : v.ty.Contents (Elt Ideal)) (off : ℕ)
    (inb : ∀ (i : Fin 8) (a : Fin 2), (![off, 128 * i.val] : Fin 2 → ℕ) a + (![M, 128] : Fin 2 → ℕ) a ≤ S512x1024.size a)
    (P : Fin 8 → FVec Ideal ⟨2, ![M, 128]⟩ .bf16) (r : Fin M) (y : Fin 512) (c : Fin 1024) (hy : y.val = off + r.val) :
    v.read (Elt Ideal) (v.writes (Elt Ideal) f (View.tilePieces (s := S512x1024) ![M, 128] (fun h : Fin 8 => ![off, 128 * h.val]) inb P 8 (le_refl _))) (ix2 y c)
      = P ⟨c.val / 128, by omega⟩ (ix2 r ⟨c.val % 128, by omega⟩) :=
  View.read_tilePieces v f _ _ inb P 8 (le_refl _) (ix2 y c) ⟨c.val / 128, by omega⟩ (show c.val / 128 < 8 by omega) _ (fun a => by
    match a with
    | ⟨0, _⟩ => exact hy
    | ⟨1, _⟩ => show c.val = 128 * (c.val / 128) + c.val % 128; omega) (1 : Fin 2) fun i' hi' => by
      have : i'.val ≠ c.val / 128 := fun h => hi' (Fin.ext h)
      show c.val < 128 * i'.val ∨ 128 * i'.val + 128 ≤ c.val
      omega
theorem tl_miss {κ : Kind} {sp : Space} {M : ℕ} (v : View sig κ sp S512x1024 .bf16) (f : v.ty.Contents (Elt Ideal)) (off : ℕ)
    (inb : ∀ (i : Fin 8) (a : Fin 2), (![off, 128 * i.val] : Fin 2 → ℕ) a + (![M, 128] : Fin 2 → ℕ) a ≤ S512x1024.size a)
    (P : Fin 8 → FVec Ideal ⟨2, ![M, 128]⟩ .bf16) (y : Fin 512) (c : Fin 1024) (hy : y.val < off) :
    v.read (Elt Ideal) (v.writes (Elt Ideal) f (View.tilePieces (s := S512x1024) ![M, 128] (fun h : Fin 8 => ![off, 128 * h.val]) inb P 8 (le_refl _))) (ix2 y c)
      = v.read (Elt Ideal) f (ix2 y c) :=
  View.read_tilePieces_miss v f _ _ inb P 8 (le_refl _) (ix2 y c) (0 : Fin 2) fun i' _ => Or.inl hy

theorem full_at (L : List (View.Piece (Elt Ideal) S512x1024 .bf16)) (r : Fin 512) (c : Fin 1024) :
    (Memref.whole cc0_scratch1).view.readCov L (Rect.unit (s := S512x1024) ![0, 0] S512x1024.size inb_S512x1024_S512x1024_0_0).toLoadRect (ix2 r c)
      = (Memref.whole cc0_scratch1).view.read (Elt Ideal) ((Memref.whole cc0_scratch1).view.writes (Elt Ideal) (Memref.whole cc0_scratch1).view.junk L) (ix2 r c) :=
  rc_at _ _ _ (ix2 r c) (ix2 r c) fun a => by
    match a with
    | ⟨0, _⟩ => exact (Nat.zero_add _).symm
    | ⟨1, _⟩ => exact (Nat.zero_add _).symm

theorem hdc {w : Ins Ideal} {p p' : Fin 2048} (h : Fin 8) (c : Fin 128) (hp : p.val = p'.val) : cS w p h c = cS w p' h c := by
  rw [Fin.ext hp]

theorem ctx0_at (w : Ins Ideal) (r : Fin 512) (c : Fin 1024) :
    (Memref.whole cc0_scratch1).view.readCov (Lc0 w) (Rect.unit (s := S512x1024) ![0, 0] S512x1024.size inb_S512x1024_S512x1024_0_0).toLoadRect (ix2 r c)
      = cX w ⟨512 * 0 + r.val, by omega⟩ c := by
  unfold Lc0
  exact (full_at _ r c).trans ((tl_at _ _ 0 _ (hd0 w) r r c (Nat.zero_add _).symm).trans ((hd0_at w _ _ _).trans (hdc _ _ rfl)))
theorem ctx3_at (w : Ins Ideal) (r : Fin 512) (c : Fin 1024) :
    (Memref.whole cc0_scratch1).view.readCov (Lc3 w) (Rect.unit (s := S512x1024) ![0, 0] S512x1024.size inb_S512x1024_S512x1024_0_0).toLoadRect (ix2 r c)
      = cX w ⟨512 * 3 + r.val, by omega⟩ c := by
  unfold Lc3
  exact (full_at _ r c).trans ((tl_at _ _ 0 _ (hd3 w) r r c (Nat.zero_add _).symm).trans ((hd3_at w _ _ _).trans (hdc _ _ rfl)))
theorem ctx1_at (w : Ins Ideal) (r : Fin 512) (c : Fin 1024) :
    (Memref.whole cc0_scratch1).view.readCov (Lc1 w) (Rect.unit (s := S512x1024) ![0, 0] S512x1024.size inb_S512x1024_S512x1024_0_0).toLoadRect (ix2 r c)
      = cX w ⟨512 * 1 + r.val, by omega⟩ c := by
  unfold Lc1
  refine (full_at _ r c).trans ?_
  rw [View.writes_append]
  by_cases h : r.val < 192
  · exact (tl_miss _ _ 192 _ (hd1b w) r c h).trans ((tl_at _ _ 0 _ (hd1a w) (⟨r.val, h⟩ : Fin 192) r c (Nat.zero_add _).symm).trans
      ((hd1a_at w _ _ _).trans (hdc _ _ rfl)))
  · exact (tl_at _ _ 192 _ (hd1b w) (⟨r.val - 192, by omega⟩ : Fin 320) r c (show r.val = 192 + (r.val - 192) by omega)).trans
      ((hd1b_at w _ _ _).trans (hdc _ _ (show 704 + (r.val - 192) = 512 * 1 + r.val by omega)))
theorem ctx2_at (w : Ins Ideal) (r : Fin 512) (c : Fin 1024) :
    (Memref.whole cc0_scratch1).view.readCov (Lc2 w) (Rect.unit (s := S512x1024) ![0, 0] S512x1024.size inb_S512x1024_S512x1024_0_0).toLoadRect (ix2 r c)
      = cX w ⟨512 * 2 + r.val, by omega⟩ c := by
  unfold Lc2
  refine (full_at _ r c).trans ?_
  rw [View.writes_append]
  by_cases h : r.val < 384
  · exact (tl_miss _ _ 384 _ (hd2b w) r c h).trans ((tl_at _ _ 0 _ (hd2a w) (⟨r.val, h⟩ : Fin 384) r c (Nat.zero_add _).symm).trans
      ((hd2a_at w _ _ _).trans (hdc _ _ rfl)))
  · exact (tl_at _ _ 384 _ (hd2b w) (⟨r.val - 384, by omega⟩ : Fin 128) r c (show r.val = 384 + (r.val - 384) by omega)).trans
      ((hd2b_at w _ _ _).trans (hdc _ _ (show 1408 + (r.val - 384) = 512 * 2 + r.val by omega)))

theorem wo_at (w : Ins Ideal) (c n : Fin 1024) :
    (Memref.whole cc0_stg2_0).view.readAt (Elt Ideal) (Rect.unit (s := S1024x1024) ![0, 0] S1024x1024.size inb_S1024x1024_S1024x1024_0_0).toLoadRect w.wo (ix2 c n)
      = oA w c n :=
  ra_at cc0_stg2_0 _ w.wo (ix2 c n) (ix2 c n) fun a => by
    match a with
    | ⟨0, _⟩ => exact (Nat.zero_add _).symm
    | ⟨1, _⟩ => exact (Nat.zero_add _).symm

/-- Chunk k of the partial product at row r. -/
theorem pvOf_eq (w : Ins Ideal) (k : Fin 4) (r : Fin 512) (n : Fin 1024) : pvOf w k (ix2 r n) = pX w ⟨512 * k.val + r.val, by omega⟩ n := by
  rw [pvOf_at]
  unfold part
  match k with
  | 0 => exact (pay149_at _ _ r n 0).trans (Finset.sum_congr rfl fun c _ => congrArg₂ (· * ·) (ctx0_at w r c) (wo_at w c n))
  | 1 => exact (pay200_at _ _ r n 0).trans (Finset.sum_congr rfl fun c _ => congrArg₂ (· * ·) (ctx1_at w r c) (wo_at w c n))
  | 2 => exact (pay257_at _ _ r n 0).trans (Finset.sum_congr rfl fun c _ => congrArg₂ (· * ·) (ctx2_at w r c) (wo_at w c n))
  | 3 => exact (pay285_at _ _ r n 0).trans (Finset.sum_congr rfl fun c _ => congrArg₂ (· * ·) (ctx3_at w r c) (wo_at w c n))

theorem all4 (g : Dev nD → EReal) (c : Dev nD) : g c + g (pe c 0) + g (pe c 1) + g (pe c 2) = g (0 : Fin 4) + g (1 : Fin 4) + g (2 : Fin 4) + g (3 : Fin 4) := by
  match c with
  | 0 => rfl
  | 1 => show g (1 : Fin 4) + g (2 : Fin 4) + g (3 : Fin 4) + g (0 : Fin 4) = _; ac_rfl
  | 2 => show g (2 : Fin 4) + g (3 : Fin 4) + g (0 : Fin 4) + g (1 : Fin 4) = _; ac_rfl
  | 3 => show g (3 : Fin 4) + g (0 : Fin 4) + g (1 : Fin 4) + g (2 : Fin 4) = _; ac_rfl

/-- What device c collects at row r: the four partials of its chunk, summed over the devices. -/
theorem rvOf_eq (w : Dev nD → Ins Ideal) (c : Dev nD) (r : Fin 512) (n : Fin 1024) :
    rvOf w c (ix2 r n) = ∑ d : Fin 4, pX (w d) ⟨512 * (own c).val + r.val, by have := (own c).isLt; omega⟩ n := by
  unfold rvOf
  rw [sum4_at, pvOf_eq, pvOf_eq, pvOf_eq, pvOf_eq, Fin.sum_univ_four]
  exact all4 (fun d => pX (w d) ⟨512 * (own c).val + r.val, by have := (own c).isLt; omega⟩ n) c
-- ==== Proof.ValHost.lean ====
/-
  What the host operations put before the kernel and after it, read at an index: the row blocks in the kernel's order, the
  device's columns of the weights, its heads of the keys and values, and the result's row blocks in the given order again.
-/
module

public import proofs.«01_k».proof.Proof.Launch
public import proofs.«01_k».proof.Proof.ValSeg
public import Idealize.ShloMosaic.Lib.IdealHost
public import Idealize.ShloMosaic.Lib.DynamicIndex
public import Idealize.ShloMosaic.Lib.StableHlo.RunClose

@[expose] public section

noncomputable section

namespace Cert.KernelIdeal.Own

open Idealize.ShloMosaic Idealize.ShloMosaic.TcCoe Cert.KernelIdeal.Gen Idealize.ShloMosaic.ValueIdx
open scoped BigOperators

/-! ## The row blocks taken at a table -/

def fixT (ix : IVec S32 32) : IVec S32 32 :=
  select (cmpi .slt ix (broadcastInDim S32 ![] bcast_S_S32 (constantI S_ 32 0#32))) (addi ix (broadcastInDim S32 ![] bcast_S_S32 (constantI S_ 32 32#32))) ix
def colT (ix : IVec S32 32) : IVec S32x1 32 := broadcastInDim S32x1 ![0] bcast_S32_S32x1_0 (fixT ix)
def okT (ix : IVec S32 32) : IVec S32 1 :=
  Host.reduce IntOp.andi (andi (cmpi .sge (colT ix) (broadcastInDim S32x1 ![] bcast_S_S32x1 (constantI S_ 32 0#32)))
    (cmpi .sle (colT ix) (broadcastInDim S32x1 ![0, 1] bcast_S1x1_S32x1_0_1 (broadcastInDim S1x1 ![1] bcast_S1_S1x1_1 (constantI S1 32 31#32)))))
    (constantI S_ 1 1#1) reducesTo_S32x1_S32_d1 h_S_
def takeT (x : S32x64x1024.Idx → EReal) (ix : IVec S32 32) : S32x64x1024.Idx → EReal :=
  select (broadcastInDim S32x64x1024 ![0] bcast_S32_S32x64x1024_0 (okT ix))
    (Host.gather gather_S32x64x1024_S32x1_S32x64x1024_12_0_n_n_0_1_1641024 x (colT ix))
    (broadcastInDim S32x64x1024 ![] bcast_S_S32x64x1024 (constant (F := Ideal) S_ .bf16 0x7FC0#16))

abbrev tab0 : IVec S32 32 := fun i => lit0 (S32.rowMajor i)
abbrev tab1 : IVec S32 32 := fun i => lit1 (S32.rowMajor i)

def b0 (b : Fin 32) : Fin 32 := if h : b.val < 11 then ⟨3 * b.val, by omega⟩ else if h : b.val < 22 then ⟨3 * (b.val - 11) + 1, by omega⟩ else ⟨3 * (b.val - 22) + 2, by omega⟩
def b1 (b : Fin 32) : Fin 32 := ⟨11 * (b.val % 3) + b.val / 3, by omega⟩

theorem ok0 : ∀ b : Fin 32, okT tab0 (ix1 b) = 1#1 := by decide +kernel
theorem ok1 : ∀ b : Fin 32, okT tab1 (ix1 b) = 1#1 := by decide +kernel
theorem col0 : ∀ b : Fin 32, colT tab0 (ix2 b (0 : Fin 1)) = BitVec.ofNat 32 (b0 b).val := by decide +kernel
theorem col1 : ∀ b : Fin 32, colT tab1 (ix2 b (0 : Fin 1)) = BitVec.ofNat 32 (b1 b).val := by decide +kernel

theorem toInt_blk : ∀ b : Fin 32, min (BitVec.ofNat 32 b.val).toInt.toNat 31 = b.val := by decide +kernel

theorem gather_at (x : S32x64x1024.Idx → EReal) (idx : IVec S32x1 32) (b : Fin 32) (t : Fin 64) (e : Fin 1024) (k : Fin 32)
    (hk : idx (ix2 b (0 : Fin 1)) = BitVec.ofNat 32 k.val) :
    Host.gather gather_S32x64x1024_S32x1_S32x64x1024_12_0_n_n_0_1_1641024 x idx (ix3 b t e) = x (ix3 k t e) := by
  unfold Host.gather
  refine congrArg x (funext fun a => Fin.ext ?_)
  set d := gather_S32x64x1024_S32x1_S32x64x1024_12_0_n_n_0_1_1641024 with hd
  have hsi : ∀ h, d.siIdx (ix3 b t e) ⟨0, h⟩ = ix2 b (0 : Fin 1) := fun h => by
    funext b'; refine Fin.ext ?_
    match b' with
    | ⟨0, _⟩ => rfl
    | ⟨1, _⟩ => rfl
  match a with
  | ⟨0, _⟩ =>
    show d.start (ix3 b t e) idx 0 + d.batchCoord (ix3 b t e) 0 + d.offCoord (ix3 b t e) 0 = k.val
    rw [d.batchCoord_eq_zero _ _ List.not_mem_nil,
      d.offCoord_eq_zero _ _ (fun h => ((GatherDims.mem_sKept _ _).mp h).1 (List.mem_singleton.mpr rfl))]
    simp only [Nat.add_zero]
    unfold GatherDims.start
    rw [dif_pos (show (0 : Fin 3) ∈ d.startIndexMap from List.mem_singleton.mpr rfl)]
    have h0 := hsi Nat.one_pos
    refine Eq.trans (congrArg (fun z => min (idx z).toInt.toNat 31) h0) ?_
    show min (idx (ix2 b (0 : Fin 1))).toInt.toNat 31 = k.val
    rw [hk]; exact toInt_blk k
  | ⟨1, _⟩ =>
    show d.start (ix3 b t e) idx 1 + d.batchCoord (ix3 b t e) 1 + d.offCoord (ix3 b t e) 1 = t.val
    rw [d.batchCoord_eq_zero _ _ List.not_mem_nil]
    unfold GatherDims.start
    rw [dif_neg (by decide)]
    unfold GatherDims.offCoord
    rw [dif_pos (by decide)]
    rw [Nat.zero_add]
    rfl
  | ⟨2, _⟩ =>
    show d.start (ix3 b t e) idx 2 + d.batchCoord (ix3 b t e) 2 + d.offCoord (ix3 b t e) 2 = e.val
    rw [d.batchCoord_eq_zero _ _ List.not_mem_nil]
    unfold GatherDims.start
    rw [dif_neg (by decide)]
    unfold GatherDims.offCoord
    rw [dif_pos (by decide)]
    rw [Nat.zero_add]
    rfl

theorem take_at (x : S32x64x1024.Idx → EReal) (ix : IVec S32 32) (g : Fin 32 → Fin 32) (hok : ∀ b : Fin 32, okT ix (ix1 b) = 1#1)
    (hc : ∀ b : Fin 32, colT ix (ix2 b (0 : Fin 1)) = BitVec.ofNat 32 (g b).val) (b : Fin 32) (t : Fin 64) (e : Fin 1024) :
    takeT x ix (ix3 b t e) = x (ix3 (g b) t e) := by
  unfold takeT
  rw [select_apply]
  have h : broadcastInDim S32x64x1024 ![0] bcast_S32_S32x64x1024_0 (okT ix) (ix3 b t e) = 1#1 := by
    refine Eq.trans (congrArg (okT ix) ?_) (hok b)
    funext a
    obtain rfl : a = 0 := Subsingleton.elim _ _
    rfl
  rw [h]
  exact (if_pos rfl).trans (gather_at x (colT ix) b t e (g b) (hc b))

section Reads
variable (V : Valuation τ sig (Elt Ideal))

theorem read17 : StableHlo.after (hostOps0_1 (F := Ideal)) V (Proc.devRef .tc main_v17) = takeT (V (Proc.devRef .tc main_v16)) (V (Proc.devRef .tc main_c)) := by
  after_results_simp
  rfl
theorem read25 : StableHlo.after (hostOps1_1 (F := Ideal)) V (Proc.devRef .tc main_v25) = takeT (V (Proc.devRef .tc main_v24)) (V (Proc.devRef .tc main_c_0)) := by
  after_results_simp
  rfl
theorem read_c (c : Dev nD) : StableHlo.after (hostOps0 (F := Ideal) c) V (Proc.devRef .tc main_c) = tab0 := by
  after_results_simp
  rfl
theorem read_c0 (c : Dev nD) : StableHlo.after (hostOps0 (F := Ideal) c) V (Proc.devRef .tc main_c_0) = tab1 := by
  after_results_simp
  rfl
theorem read16 (c : Dev nD) : StableHlo.after (hostOps0 (F := Ideal) c) V (Proc.devRef .tc main_v16)
    = shapeCast S32x64x1024 (shapeCast S2048x1024 (V (Proc.devRef .tc main_arg0)) shapeCasts_S1x2048x1024_S2048x1024) shapeCasts_S2048x1024_S32x64x1024 := by
  after_results_simp
  rfl
theorem read18 : StableHlo.after (hostOps0_2 (F := Ideal)) V (Proc.devRef .tc main_v18) = shapeCast S2048x1024 (V (Proc.devRef .tc main_v17)) shapeCasts_S32x64x1024_S2048x1024 := by
  after_results_simp
  rfl
theorem read20 : StableHlo.after (hostOps0_2 (F := Ideal)) V (Proc.devRef .tc main_v20)
    = shapeCast S2048x1024 (shapeCast S2048x8x128 (V (Proc.devRef .tc main_arg2)) shapeCasts_S1x2048x8x128_S2048x8x128) shapeCasts_S2048x8x128_S2048x1024 := by
  after_results_simp
  rfl
theorem read22 : StableHlo.after (hostOps0_2 (F := Ideal)) V (Proc.devRef .tc main_v22)
    = shapeCast S2048x1024 (shapeCast S2048x8x128 (V (Proc.devRef .tc main_arg3)) shapeCasts_S1x2048x8x128_S2048x8x128) shapeCasts_S2048x8x128_S2048x1024 := by
  after_results_simp
  rfl
theorem read24 : StableHlo.after (hostOps1 (F := Ideal)) V (Proc.devRef .tc main_v24) = shapeCast S32x64x1024 (V (Proc.devRef .tc main_v23)) shapeCasts_S2048x1024_S32x64x1024 := by
  after_results_simp
  rfl
theorem read26 : StableHlo.after (hostOps1_2 (F := Ideal)) V (Proc.devRef .tc main_v26) = shapeCast S1x2048x1024 (V (Proc.devRef .tc main_v25)) shapeCasts_S32x64x1024_S1x2048x1024 := by
  after_results_simp
  rfl

def widx (c : Dev nD) : IVec S_ 32 := muli (Host.remui (Host.divui (constantI S_ 32 (Dev.word c)) (constantI S_ 32 1#32)) (constantI S_ 32 4#32)) (constantI S_ 32 1024#32)
def wsel (c : Dev nD) : IVec S_ 32 := select (cmpi .slt (widx c) (constantI S_ 32 0#32)) (addi (widx c) (constantI S_ 32 4096#32)) (widx c)
theorem read9 (c : Dev nD) : StableHlo.after (hostOps0 (F := Ideal) c) V (Proc.devRef .tc main_v9)
    = Host.dynamicSlice S1024x1024 (V (Proc.devRef .tc main_arg1)) (fun k => ((![constantI S_ 32 0#32, wsel c] : Fin 2 → IVec S_ 32) k (Shape.Idx.first h_S_)).toInt) sliceFits_S1024x4096_S1024x1024 := by
  after_results_entrywise []
theorem read14 (c : Dev nD) : StableHlo.after (hostOps0 (F := Ideal) c) V (Proc.devRef .tc main_v14)
    = Host.dynamicSlice S1024x1024 (V (Proc.devRef .tc main_arg4)) (fun k => ((![wsel c, constantI S_ 32 0#32] : Fin 2 → IVec S_ 32) k (Shape.Idx.first h_S_)).toInt) sliceFits_S4096x1024_S1024x1024 := by
  after_results_entrywise []
end Reads

theorem wsel_at : ∀ c : Dev nD, (wsel c (Shape.Idx.first h_S_)).toInt = ((1024 * c.val : ℕ) : Int) := by decide +kernel

/-! ## Reshapes at an index -/

section Casts
variable {α : Type}
theorem cast_rows_blocks (x : S2048x1024.Idx → α) (b : Fin 32) (t : Fin 64) (e : Fin 1024) :
    shapeCast S32x64x1024 x shapeCasts_S2048x1024_S32x64x1024 (ix3 b t e) = x (ix2 ⟨64 * b.val + t.val, by omega⟩ e) :=
  shapeCast_apply x _ _ _ (by
    rw [Shape.rowMajor_val_two, Shape.rowMajor_val_three]
    show (64 * b.val + t.val) * 1024 + e.val = (b.val * 64 + t.val) * 1024 + e.val
    omega)
theorem cast_blocks_rows (x : S32x64x1024.Idx → α) (p : Fin 2048) (e : Fin 1024) :
    shapeCast S2048x1024 x shapeCasts_S32x64x1024_S2048x1024 (ix2 p e) = x (ix3 ⟨p.val / 64, by omega⟩ ⟨p.val % 64, by omega⟩ e) :=
  shapeCast_apply x _ _ _ (by
    rw [Shape.rowMajor_val_two, Shape.rowMajor_val_three]
    show (p.val / 64 * 64 + p.val % 64) * 1024 + e.val = p.val * 1024 + e.val
    omega)
theorem cast_blocks_rows1 (x : S32x64x1024.Idx → α) (p : Fin 2048) (e : Fin 1024) :
    shapeCast S1x2048x1024 x shapeCasts_S32x64x1024_S1x2048x1024 (ix3 (0 : Fin 1) p e) = x (ix3 ⟨p.val / 64, by omega⟩ ⟨p.val % 64, by omega⟩ e) :=
  shapeCast_apply x _ _ _ (by
    rw [Shape.rowMajor_val_three, Shape.rowMajor_val_three]
    show (p.val / 64 * 64 + p.val % 64) * 1024 + e.val = (0 * 2048 + p.val) * 1024 + e.val
    omega)
theorem cast_heads (x : S2048x8x128.Idx → α) (j : Fin 2048) (c : Fin 1024) :
    shapeCast S2048x1024 x shapeCasts_S2048x8x128_S2048x1024 (ix2 j c) = x (ix3 j ⟨c.val / 128, by omega⟩ ⟨c.val % 128, by omega⟩) :=
  shapeCast_apply x _ _ _ (by
    rw [Shape.rowMajor_val_two, Shape.rowMajor_val_three]
    show (j.val * 8 + c.val / 128) * 128 + c.val % 128 = j.val * 1024 + c.val
    omega)
end Casts

/-! ## The windows and the result, read at an index -/

variable (m : (ℓ : Loc nD τ sig) → Buf (Elt Ideal) ℓ) (c : Dev nD)

abbrev A0 : S1x2048x1024.Idx → EReal := m ((c.tc : Thread nD τ).loc main_arg0)
abbrev A1 : S1024x4096.Idx → EReal := m ((c.tc : Thread nD τ).loc main_arg1)
abbrev A2 : S1x2048x8x128.Idx → EReal := m ((c.tc : Thread nD τ).loc main_arg2)
abbrev A3 : S1x2048x8x128.Idx → EReal := m ((c.tc : Thread nD τ).loc main_arg3)
abbrev A4 : S4096x1024.Idx → EReal := m ((c.tc : Thread nD τ).loc main_arg4)

/-- The windows of a device. -/
abbrev wIn : Ins Ideal := insOf (V3 m) c

theorem xA_eq (p : Fin 2048) (e : Fin 1024) :
    xA (wIn m c) p e = A0 m c (ix3 (0 : Fin 1) ⟨64 * (b0 ⟨p.val / 64, by omega⟩).val + p.val % 64, by omega⟩ e) := by
  show (V3 m c main_v18 : S2048x1024.Idx → EReal) (ix2 p e) = _
  have h18 : (V3 m c main_v18 : S2048x1024.Idx → EReal) = shapeCast S2048x1024 (V2 m c main_v17 : S32x64x1024.Idx → EReal) shapeCasts_S32x64x1024_S2048x1024 := read18 (V2 m c)
  have h17 : (V2 m c main_v17 : S32x64x1024.Idx → EReal) = takeT (V1 m c main_v16) (V1 m c main_c) := read17 (V1 m c)
  have hc : (V1 m c main_c : IVec S32 32) = tab0 := read_c (V0 m c) c
  have h16 : (V1 m c main_v16 : S32x64x1024.Idx → EReal) = shapeCast S32x64x1024 (shapeCast S2048x1024 (A0 m c) shapeCasts_S1x2048x1024_S2048x1024) shapeCasts_S2048x1024_S32x64x1024 := read16 (V0 m c) c
  rw [h18, cast_blocks_rows, h17, hc, take_at _ _ b0 ok0 col0, h16, cast_rows_blocks]
  exact shapeCast_1ab_ab_apply _ _ _ _

theorem kA_eq (j : Fin 2048) (k : Fin 1024) : kA (wIn m c) j k = A2 m c (ix4 (0 : Fin 1) j ⟨k.val / 128, by omega⟩ ⟨k.val % 128, by omega⟩) := by
  show (V3 m c main_v20 : S2048x1024.Idx → EReal) (ix2 j k) = _
  have h20 : (V3 m c main_v20 : S2048x1024.Idx → EReal)
      = shapeCast S2048x1024 (shapeCast S2048x8x128 (V2 m c main_arg2 : S1x2048x8x128.Idx → EReal) shapeCasts_S1x2048x8x128_S2048x8x128) shapeCasts_S2048x8x128_S2048x1024 := read20 (V2 m c)
  have h2 : (V2 m c main_arg2 : S1x2048x8x128.Idx → EReal) = A2 m c := (V2_of m c main_arg2 (by decide)).trans (V1_of m c main_arg2 (by decide))
  rw [h20, h2, cast_heads]
  exact shapeCast_1abc_abc_apply _ _ _ _ _
theorem vA_eq (j : Fin 2048) (k : Fin 1024) : vA (wIn m c) j k = A3 m c (ix4 (0 : Fin 1) j ⟨k.val / 128, by omega⟩ ⟨k.val % 128, by omega⟩) := by
  show (V3 m c main_v22 : S2048x1024.Idx → EReal) (ix2 j k) = _
  have h20 : (V3 m c main_v22 : S2048x1024.Idx → EReal)
      = shapeCast S2048x1024 (shapeCast S2048x8x128 (V2 m c main_arg3 : S1x2048x8x128.Idx → EReal) shapeCasts_S1x2048x8x128_S2048x8x128) shapeCasts_S2048x8x128_S2048x1024 := read22 (V2 m c)
  have h2 : (V2 m c main_arg3 : S1x2048x8x128.Idx → EReal) = A3 m c := (V2_of m c main_arg3 (by decide)).trans (V1_of m c main_arg3 (by decide))
  rw [h20, h2, cast_heads]
  exact shapeCast_1abc_abc_apply _ _ _ _ _

theorem qA_eq (e k : Fin 1024) : qA (wIn m c) e k = A1 m c (ix2 e ⟨1024 * c.val + k.val, by have : c.val < 4 := c.isLt; omega⟩) := by
  show (V3 m c main_v9 : S1024x1024.Idx → EReal) (ix2 e k) = _
  have h1 : (V3 m c main_v9 : S1024x1024.Idx → EReal) = V1 m c main_v9 := (V3_of m c main_v9 (by decide)).trans (V2_of m c main_v9 (by decide))
  have h9 : (V1 m c main_v9 : S1024x1024.Idx → EReal) = _ := read9 (V0 m c) c
  have hsl : S1024x4096.Slices ![0, 1024 * c.val] S1024x1024 := ⟨rfl, fun a => match a with
    | ⟨0, _⟩ => by show 0 + 1024 ≤ 1024; omega
    | ⟨1, _⟩ => by show 1024 * c.val + 1024 ≤ 4096; have : c.val < 4 := c.isLt; omega⟩
  rw [h1, h9]
  refine (congrFun (Host.dynamicSlice_eq_extractStridedSlice S1024x1024 (A1 m c) _ ![0, 1024 * c.val] _ hsl (fun a => match a with
    | ⟨0, _⟩ => rfl
    | ⟨1, _⟩ => wsel_at c)) (ix2 e k)).trans ?_
  exact extractStridedSlice_apply _ _ _ _ _ (fun a => match a with
    | ⟨0, _⟩ => (Nat.zero_add _).symm
    | ⟨1, _⟩ => rfl)
theorem oA_eq (k n : Fin 1024) : oA (wIn m c) k n = A4 m c (ix2 ⟨1024 * c.val + k.val, by have : c.val < 4 := c.isLt; omega⟩ n) := by
  show (V3 m c main_v14 : S1024x1024.Idx → EReal) (ix2 k n) = _
  have h1 : (V3 m c main_v14 : S1024x1024.Idx → EReal) = V1 m c main_v14 := (V3_of m c main_v14 (by decide)).trans (V2_of m c main_v14 (by decide))
  have h9 : (V1 m c main_v14 : S1024x1024.Idx → EReal) = _ := read14 (V0 m c) c
  have hsl : S4096x1024.Slices ![1024 * c.val, 0] S1024x1024 := ⟨rfl, fun a => match a with
    | ⟨0, _⟩ => by show 1024 * c.val + 1024 ≤ 4096; have : c.val < 4 := c.isLt; omega
    | ⟨1, _⟩ => by show 0 + 1024 ≤ 1024; omega⟩
  rw [h1, h9]
  refine (congrFun (Host.dynamicSlice_eq_extractStridedSlice S1024x1024 (A4 m c) _ ![1024 * c.val, 0] _ hsl (fun a => match a with
    | ⟨0, _⟩ => wsel_at c
    | ⟨1, _⟩ => rfl)) (ix2 k n)).trans ?_
  exact extractStridedSlice_apply _ _ _ _ _ (fun a => match a with
    | ⟨0, _⟩ => rfl
    | ⟨1, _⟩ => (Nat.zero_add _).symm)

/-- The result's row i is the kernel's row at the position its block is at. -/
def posOf (i : Fin 2048) : Fin 2048 := ⟨64 * (b1 ⟨i.val / 64, by omega⟩).val + i.val % 64, by omega⟩

theorem srcb_pos : ∀ i : Fin 2048, srcb (posOf i).val = i.val / 64 := by decide +kernel
theorem row_pos : ∀ i : Fin 2048, 64 * (b0 ⟨(posOf i).val / 64, by omega⟩).val + (posOf i).val % 64 = i.val := by decide +kernel

theorem out_eq (i : Fin 2048) (n : Fin 1024) :
    (V7 m (outs m) c main_v26 : S1x2048x1024.Idx → EReal) (ix3 (0 : Fin 1) i n) = ∑ d : Fin 4, pX (wIn m d) (posOf i) n := by
  have h26 : (V7 m (outs m) c main_v26 : S1x2048x1024.Idx → EReal) = shapeCast S1x2048x1024 (V6 m (outs m) c main_v25 : S32x64x1024.Idx → EReal) shapeCasts_S32x64x1024_S1x2048x1024 := read26 (V6 m (outs m) c)
  have h25 : (V6 m (outs m) c main_v25 : S32x64x1024.Idx → EReal) = takeT (V5 m (outs m) c main_v24) (V5 m (outs m) c main_c_0) := read25 (V5 m (outs m) c)
  have h24 : (V5 m (outs m) c main_v24 : S32x64x1024.Idx → EReal) = shapeCast S32x64x1024 (V4 m (outs m) c main_v23 : S2048x1024.Idx → EReal) shapeCasts_S2048x1024_S32x64x1024 := read24 (V4 m (outs m) c)
  have hc : (V5 m (outs m) c main_c_0 : IVec S32 32) = tab1 :=
    (V5_of m (outs m) c main_c_0 (by decide)).trans ((V4_of m (outs m) c main_c_0 (by decide)).trans ((V3_of m c main_c_0 (by decide)).trans ((V2_of m c main_c_0 (by decide)).trans (read_c0 (V0 m c) c))))
  have h23 : (V4 m (outs m) c main_v23 : S2048x1024.Idx → EReal) = resV (V3 m) := by rw [V4_eq]; unfold after; exact Function.update_self ..
  rw [h26, cast_blocks_rows1, h25, hc, take_at _ _ b1 ok1 col1, h24, cast_rows_blocks, h23]
  show rvOf (wIn m) (ownerOf (chunkRow (ix2 (posOf i) n))) (inChunk (ix2 (posOf i) n)) = _
  have hi : inChunk (ix2 (posOf i) n) = ix2 (⟨(posOf i).val % 512, by omega⟩ : Fin 512) n := by
    funext a; match a with
    | ⟨0, _⟩ => rfl
    | ⟨1, _⟩ => rfl
  rw [hi, rvOf_eq]
  refine Finset.sum_congr rfl fun d _ => congrArg (fun p => pX (wIn m d) p n) (Fin.ext ?_)
  show 512 * (own (ownerOf (chunkRow (ix2 (posOf i) n)))).val + (posOf i).val % 512 = (posOf i).val
  rw [own_ownerOf]
  show 512 * ((posOf i).val / 512) + (posOf i).val % 512 = (posOf i).val
  omega

end Cert.KernelIdeal.Own

end
-- ==== Proof.ValMath.lean ====
/-
  Facts about extended reals: sums of reals, and a softmax with or without its maximum subtracted.
-/
module

public import Idealize.ShloMosaic.PureOps.Ideal.Laws
public import Mathlib.Tactic.FieldSimp
public import Mathlib.Tactic.Ring

@[expose] public section

noncomputable section

namespace Cert.Soft

open Idealize.ShloMosaic
open scoped BigOperators

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem div_real (a b : ℝ) (hb : b ≠ 0) : Ideal.div (a : EReal) (b : EReal) = ((a / b : ℝ) : EReal) := by
  unfold Ideal.div
  rw [if_neg (fun h => hb (EReal.coe_eq_zero.mp h)), ← EReal.coe_inv, ← EReal.coe_mul, div_eq_mul_inv]

/-- A weighted mean by exponentials, the quotient taken last, is the one whose weights are exponentials of differences to a
    real number, each divided first. -/
theorem soft {n : ℕ} (s : Fin n → ℝ) (P : Fin n → Prop) [DecidablePred P] (j0 : Fin n) (h0 : P j0) (v : Fin n → EReal) (M : ℝ) :
    (∑ j, (if P j then Ideal.exp (s j : EReal) else 0) * v j) * Ideal.div 1 (∑ j, if P j then Ideal.exp (s j : EReal) else 0)
      = ∑ j, v j * Ideal.div (Ideal.exp ((if P j then (s j : EReal) else ⊥) - (M : EReal)))
          (∑ k, Ideal.exp ((if P k then (s k : EReal) else ⊥) - (M : EReal))) := by
  have ha : ∀ j, (if P j then Ideal.exp (s j : EReal) else 0) = ((if P j then Real.exp (s j) else 0 : ℝ) : EReal) := fun j => by
    by_cases h : P j
    · rw [if_pos h, if_pos h]; rfl
    · rw [if_neg h, if_neg h]; rfl
  have hb : ∀ j, Ideal.exp ((if P j then (s j : EReal) else ⊥) - (M : EReal)) = (((if P j then Real.exp (s j) else 0) * Real.exp (-M) : ℝ) : EReal) := fun j => by
    by_cases h : P j
    · rw [if_pos h, if_pos h, ← EReal.coe_sub, Ideal.exp_coe, sub_eq_add_neg, Real.exp_add]
    · rw [if_neg h, if_neg h, zero_mul, sub_eq_add_neg, EReal.bot_add, Ideal.exp_bot]; rfl
  have hnn : ∀ j, (0 : ℝ) ≤ if P j then Real.exp (s j) else 0 := fun j => by
    by_cases h : P j
    · rw [if_pos h]; exact (Real.exp_pos _).le
    · rw [if_neg h]
  have hA : 0 < ∑ j, if P j then Real.exp (s j) else 0 :=
    Finset.sum_pos' (fun j _ => hnn j) ⟨j0, Finset.mem_univ _, by rw [if_pos h0]; exact Real.exp_pos _⟩
  have hM : Real.exp (-M) ≠ 0 := (Real.exp_pos _).ne'
  simp only [ha, hb]
  rw [sum_coe, sum_coe, ← Finset.sum_mul]
  have h1 : Ideal.div 1 ((∑ j, if P j then Real.exp (s j) else 0 : ℝ) : EReal) = ((1 / (∑ j, if P j then Real.exp (s j) else 0) : ℝ) : EReal) :=
    div_real 1 _ hA.ne'
  rw [h1, sum_mul_coe _ _ _ (by positivity)]
  refine Finset.sum_congr rfl fun j _ => ?_
  rw [div_real _ _ (mul_ne_zero hA.ne' hM), mul_comm ((if P j then Real.exp (s j) else 0 : ℝ) : EReal), mul_assoc, ← EReal.coe_mul]
  refine congrArg (fun z : ℝ => v j * (z : EReal)) ?_
  rw [mul_div_mul_right _ _ hM, mul_one_div]

/-- Scores: the scale put on the weights is the quotient taken last. -/
theorem score {a b : ℕ} (x : Fin a → ℝ) (q : Fin a → Fin b → ℝ) (k : Fin b → ℝ) (t : ℝ) :
    (∑ d : Fin b, (∑ e : Fin a, (x e : EReal) * ((q e d : EReal) * ((t⁻¹ : ℝ) : EReal))) * (k d : EReal))
      = (((∑ d : Fin b, (∑ e : Fin a, x e * q e d) * k d) / t : ℝ) : EReal) := by
  have h : ∀ d, (∑ e : Fin a, (x e : EReal) * ((q e d : EReal) * ((t⁻¹ : ℝ) : EReal))) * (k d : EReal) = ((((∑ e : Fin a, x e * q e d) * k d) * t⁻¹ : ℝ) : EReal) := fun d => by
    have h' : ∀ e, (x e : EReal) * ((q e d : EReal) * ((t⁻¹ : ℝ) : EReal)) = ((x e * q e d * t⁻¹ : ℝ) : EReal) := fun e => by
      rw [← EReal.coe_mul, ← EReal.coe_mul, mul_assoc]
    simp only [h']
    rw [sum_coe, ← EReal.coe_mul, ← Finset.sum_mul]
    exact congrArg _ (by ring)
  simp only [h]
  rw [sum_coe, ← Finset.sum_mul, div_eq_mul_inv]
theorem score' {a b : ℕ} (x : Fin a → ℝ) (q : Fin a → Fin b → ℝ) (k : Fin b → ℝ) :
    (∑ d : Fin b, (∑ e : Fin a, (x e : EReal) * (q e d : EReal)) * (k d : EReal))
      = ((∑ d : Fin b, (∑ e : Fin a, x e * q e d) * k d : ℝ) : EReal) := by
  simp only [← EReal.coe_mul, sum_coe]

/-- A fold of maxima is its start or one of the folded values, and at least each of these. -/
theorem fold_max {α : Type} (l : List α) (x : α → EReal) (r : EReal) :
    (l.foldl (fun r n => max r (x n)) r = r ∨ ∃ n ∈ l, l.foldl (fun r n => max r (x n)) r = x n)
      ∧ r ≤ l.foldl (fun r n => max r (x n)) r ∧ ∀ n ∈ l, x n ≤ l.foldl (fun r n => max r (x n)) r := by
  induction l generalizing r with
  | nil => exact ⟨Or.inl rfl, le_refl _, fun n hn => absurd hn List.not_mem_nil⟩
  | cons a l ih =>
    obtain ⟨h1, h2, h3⟩ := ih (max r (x a))
    simp only [List.foldl_cons]
    refine ⟨?_, (le_max_left _ _).trans h2, fun n hn => ?_⟩
    · rcases h1 with h | ⟨n, hn, h⟩
      · rcases le_total r (x a) with hle | hle
        · exact Or.inr ⟨a, List.mem_cons_self, h.trans (max_eq_right hle)⟩
        · exact Or.inl (h.trans (max_eq_left hle))
      · exact Or.inr ⟨n, List.mem_cons_of_mem _ hn, h⟩
    · rcases List.mem_cons.mp hn with rfl | hn
      · exact (le_max_right _ _).trans h2
      · exact h3 n hn

/-- A fold of bitwise ors over bits, one of which is set, is set. -/
theorem fold_or {α : Type} (l : List α) (x : α → BitVec 1) (r : BitVec 1) (h : r = 1#1 ∨ ∃ n ∈ l, x n = 1#1) :
    l.foldl (fun r n => IntOp.ori r (x n)) r = 1#1 := by
  have hor : ∀ a b : BitVec 1, (a = 1#1 ∨ b = 1#1) → IntOp.ori a b = 1#1 := by decide
  induction l generalizing r with
  | nil => rcases h with h | ⟨n, hn, _⟩
           · exact h
           · exact absurd hn List.not_mem_nil
  | cons a l ih =>
    rw [List.foldl_cons]
    apply ih
    rcases h with h | ⟨n, hn, hx⟩
    · exact Or.inl (hor _ _ (Or.inl h))
    · rcases List.mem_cons.mp hn with rfl | hn
      · exact Or.inl (hor _ _ (Or.inr hx))
      · exact Or.inr ⟨n, hn, hx⟩

end Cert.Soft

end
-- ==== Proof.ValRef.lean ====
/-
  The reference's result read at an index: its mask, its scores, its softmax and its two last products.
-/
module

public import proofs.«01_k».proof.Proof.Gen.ReferenceIdeal.Run
public import proofs.«01_k».proof.Proof.ValMath
public import Idealize.ShloMosaic.Lib.IdealHost
public import Idealize.ShloMosaic.Lib.ValueIdx
public import Idealize.ShloMosaic.Lib.MatmulPlain
public import Idealize.ShloMosaic.Lib.Pipeline.Value

@[expose] public section

noncomputable section

namespace Cert.ReferenceIdeal.Own

open Cert.ReferenceIdeal Cert.ReferenceIdeal.Gen Idealize.ShloMosaic Idealize.ShloMosaic.TcCoe Idealize.ShloMosaic.ValueIdx Cert.Soft
open scoped BigOperators

/-! ## The reference in stages -/

abbrev iotaR : IVec S2048 32 := iotaInDim S2048 32 0
abbrev w64 : IVec S2048 32 := broadcastInDim S2048 ![] bcast_S_S2048 (id (constantI S_ 32 64#32))
def fdR : IVec S2048 32 :=
  select (andi (cmpi .ne (signi iotaR) (broadcastInDim S2048 ![] bcast_S_S2048 (signi (id (constantI S_ 32 64#32))))) (cmpi .ne (Host.remsi iotaR w64) (broadcastInDim S2048 ![] bcast_S_S2048 (constantI S_ 32 0#32))))
    (subi (Host.divsi iotaR w64) (broadcastInDim S2048 ![] bcast_S_S2048 (constantI S_ 32 1#32))) (Host.divsi iotaR w64)
def qbR : IVec S2048x2048 32 := broadcastInDim S2048x2048 ![0, 1] bcast_S2048x1_S2048x2048_0_1 (broadcastInDim S2048x1 ![0] bcast_S2048_S2048x1_0 fdR)
def kbR : IVec S2048x2048 32 := broadcastInDim S2048x2048 ![0, 1] bcast_S1x2048_S2048x2048_0_1 (broadcastInDim S1x2048 ![1] bcast_S2048_S1x2048_1 fdR)
abbrev three : IVec S_ 32 := select (cmpi .eq (id (constantI S_ 32 3#32)) (constantI S_ 32 0#32)) (constantI S_ 32 1#32) (id (constantI S_ 32 3#32))
abbrev spr {w : ℕ} (x : IVec S_ w) : IVec S2048x2048 w := broadcastInDim S2048x2048 ![] bcast_S_S2048x2048 x
abbrev remR : IVec S2048x2048 32 := Host.remsi (addi qbR kbR) (spr three)
def modR : IVec S2048x2048 32 :=
  select (andi (cmpi .ne (cmpi .slt remR (spr (constantI S_ 32 0#32))) (spr (cmpi .slt three (constantI S_ 32 0#32)))) (cmpi .ne remR (spr (constantI S_ 32 0#32)))) (addi remR (spr three)) remR
def maskR : IVec S2048x2048 1 :=
  ori (ori (cmpi .eq qbR kbR) (broadcastInDim S2048x2048 ![0, 1] bcast_S1x2048_S2048x2048_0_1 (cmpi .eq (broadcastInDim S1x2048 ![1] bcast_S2048_S1x2048_1 fdR) (broadcastInDim S1x2048 ![] bcast_S_S1x2048 (constantI S_ 32 0#32)))))
    (cmpi .eq modR (spr (constantI S_ 32 0#32)))
def keepR : IVec S2048 1 := Host.reduce IntOp.ori maskR (constantI S_ 1 0#1) reducesTo_S2048x2048_S2048_d1 h_S_

section Stages
variable (X : FVec Ideal S1x2048x1024 .bf16) (WQ : FVec Ideal S1024x4096 .bf16) (K V : FVec Ideal S1x2048x32x128 .bf16) (WO : FVec Ideal S4096x1024 .bf16)

def qR : FVec Ideal S1x2048x32x128 .bf16 :=
  shapeCast _ (truncf .bf16 (Host.dotGeneral dot_S1x2048x1024_S1024x4096_S1x2048x4096_2_0_01_1_n_n none X WQ : FVec Ideal S1x2048x4096 .f32) bitsLt_bf16_f32) shapeCasts_S1x2048x4096_S1x2048x32x128
def scR : FVec Ideal S1x32x2048x2048 .f32 :=
  Host.divf (Host.dotGeneral dot_S1x2048x32x128_S1x2048x32x128_S1x32x2048x2048_3_3_1_1_02_02 none (qR X WQ) K) (broadcastInDim S1x32x2048x2048 ![] bcast_S_S1x32x2048x2048 (Host.sqrt (constant S_ .f32 0x43000000#32)))
def msR : FVec Ideal S1x32x2048x2048 .f32 :=
  select (broadcastInDim S1x32x2048x2048 ![0, 1, 2, 3] bcast_S1x1x2048x2048_S1x32x2048x2048_0_1_2_3 (broadcastInDim S1x1x2048x2048 ![2, 3] bcast_S2048x2048_S1x1x2048x2048_2_3 maskR))
    (scR X WQ K) (broadcastInDim S1x32x2048x2048 ![] bcast_S_S1x32x2048x2048 (id (constant S_ .f32 0xFF800000#32)))
def mxR : FVec Ideal S1x32x2048 .f32 := Host.reduce FloatOps.maximumf (msR X WQ K) (constant S_ .f32 0xFF800000#32) reducesTo_S1x32x2048x2048_S1x32x2048_d3 h_S_
def eR : FVec Ideal S1x32x2048x2048 .f32 :=
  Host.exp (subf (msR X WQ K) (broadcastInDim S1x32x2048x2048 ![0, 1, 2, 3] bcast_S1x32x2048x1_S1x32x2048x2048_0_1_2_3 (broadcastInDim S1x32x2048x1 ![0, 1, 2] bcast_S1x32x2048_S1x32x2048x1_0_1_2 (mxR X WQ K))))
def sumR : FVec Ideal S1x32x2048 .f32 := Host.reduceAdd (eR X WQ K) (constant S_ .f32 0x00000000#32) reducesTo_S1x32x2048x2048_S1x32x2048_d3 h_S_
def keep1 : IVec S1x1x2048x1 1 := broadcastInDim S1x1x2048x1 ![2] bcast_S2048_S1x1x2048x1_2 keepR
def denR : FVec Ideal S1x32x2048x1 .f32 :=
  select (broadcastInDim S1x32x2048x1 ![0, 1, 2, 3] bcast_S1x1x2048x1_S1x32x2048x1_0_1_2_3 keep1)
    (broadcastInDim S1x32x2048x1 ![0, 1, 2] bcast_S1x32x2048_S1x32x2048x1_0_1_2 (sumR X WQ K)) (broadcastInDim S1x32x2048x1 ![] bcast_S_S1x32x2048x1 (id (constant S_ .f32 0x3F800000#32)))
def wR : FVec Ideal S1x32x2048x2048 .f32 :=
  select (broadcastInDim S1x32x2048x2048 ![0, 1, 2, 3] bcast_S1x1x2048x1_S1x32x2048x2048_0_1_2_3 keep1)
    (Host.divf (eR X WQ K) (broadcastInDim S1x32x2048x2048 ![0, 1, 2, 3] bcast_S1x32x2048x1_S1x32x2048x2048_0_1_2_3 (denR X WQ K)))
    (broadcastInDim S1x32x2048x2048 ![] bcast_S_S1x32x2048x2048 (id (constant S_ .f32 0x00000000#32)))
def cR : FVec Ideal S1x32x128x2048 .f32 :=
  Host.dotGeneral dot_S1x2048x32x128_S1x32x2048x2048_S1x32x128x2048_1_3_3_2_02_01 none V (truncf .bf16 (wR X WQ K) bitsLt_bf16_f32)
def tR : FVec Ideal S1x2048x4096 .bf16 :=
  shapeCast _ (truncf .bf16 (transpose S1x2048x32x128 [0, 3, 1, 2] (cR X WQ K V) transposes_S1x32x128x2048_S1x2048x32x128_0_3_1_2) bitsLt_bf16_f32) shapeCasts_S1x2048x32x128_S1x2048x4096
def rR : FVec Ideal S1x2048x1024 .bf16 :=
  truncf .bf16 (Host.dotGeneral dot_S1x2048x4096_S4096x1024_S1x2048x1024_2_0_01_1_n_n none (tR X WQ K V) WO : FVec Ideal S1x2048x1024 .f32) bitsLt_bf16_f32
end Stages

theorem res_stages (m : (ℓ : Loc nD τ sig) → Buf (Elt Ideal) ℓ) (c : Dev nD) :
    Cert.ReferenceIdeal.Value.res_main_v49 m c = rR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v49
  rfl

/-! ## The mask -/

theorem fd_at : ∀ i : Fin 2048, fdR (ix1 i) = BitVec.ofNat 32 (i.val / 64) := by decide +kernel

theorem qb_at (i j : Fin 2048) : qbR (ix2 i j) = BitVec.ofNat 32 (i.val / 64) := by
  unfold qbR
  refine (broadcastInDim_apply _ _ _ _ (ix2 i (0 : Fin 1)) (fun a => match a with | ⟨0, _⟩ => rfl | ⟨1, _⟩ => rfl)).trans ?_
  exact (broadcastInDim_apply _ _ _ _ (ix1 i) (fun a => match a with | ⟨0, _⟩ => rfl)).trans (fd_at i)
theorem kb1_at (j : Fin 2048) : broadcastInDim S1x2048 ![1] bcast_S2048_S1x2048_1 fdR (ix2 (0 : Fin 1) j) = BitVec.ofNat 32 (j.val / 64) :=
  (broadcastInDim_apply _ _ _ _ (ix1 j) (fun a => match a with | ⟨0, _⟩ => rfl)).trans (fd_at j)
theorem kb_at (i j : Fin 2048) : kbR (ix2 i j) = BitVec.ofNat 32 (j.val / 64) := by
  unfold kbR
  exact (broadcastInDim_apply _ _ _ _ (ix2 (0 : Fin 1) j) (fun a => match a with | ⟨0, _⟩ => rfl | ⟨1, _⟩ => rfl)).trans (kb1_at j)
theorem kz_at (i j : Fin 2048) : broadcastInDim S2048x2048 ![0, 1] bcast_S1x2048_S2048x2048_0_1 (cmpi .eq (broadcastInDim S1x2048 ![1] bcast_S2048_S1x2048_1 fdR) (broadcastInDim S1x2048 ![] bcast_S_S1x2048 (constantI S_ 32 0#32))) (ix2 i j)
    = IntOp.cmpi .eq (BitVec.ofNat 32 (j.val / 64)) 0#32 := by
  refine (broadcastInDim_apply _ _ _ _ (ix2 (0 : Fin 1) j) (fun a => match a with | ⟨0, _⟩ => rfl | ⟨1, _⟩ => rfl)).trans ?_
  exact congrArg (fun z => IntOp.cmpi .eq z 0#32) (kb1_at j)

/-- One mask bit from the two blocks' words. -/
def bitOf (a b : BitVec 32) : BitVec 1 :=
  let t : BitVec 32 := if IntOp.cmpi .eq 3#32 0#32 = 1 then 1#32 else 3#32
  let r : BitVec 32 := IntOp.remsi .host (IntOp.addi a b) t
  let s : BitVec 32 := if IntOp.andi (IntOp.cmpi .ne (IntOp.cmpi .slt r 0#32) (IntOp.cmpi .slt t 0#32)) (IntOp.cmpi .ne r 0#32) = 1 then IntOp.addi r t else r
  IntOp.ori (IntOp.ori (IntOp.cmpi .eq a b) (IntOp.cmpi .eq b 0#32)) (IntOp.cmpi .eq s 0#32)

theorem mask_bit (i j : Fin 2048) : maskR (ix2 i j) = bitOf (BitVec.ofNat 32 (i.val / 64)) (BitVec.ofNat 32 (j.val / 64)) := by
  rw [← qb_at i j, ← kb_at i j]
  have hz := kz_at i j
  rw [← kb_at i j] at hz
  unfold maskR
  exact congrArg (fun z => IntOp.ori (IntOp.ori (IntOp.cmpi .eq (qbR (ix2 i j)) (kbR (ix2 i j))) z) (IntOp.cmpi .eq (modR (ix2 i j)) 0#32)) hz

theorem bit_iff : ∀ a b : Fin 32, bitOf (BitVec.ofNat 32 a.val) (BitVec.ofNat 32 b.val) = 1#1 ↔ (a.val = b.val ∨ b.val = 0 ∨ (a.val + b.val) % 3 = 0) := by decide +kernel

theorem mask_iff (i j : Fin 2048) : maskR (ix2 i j) = 1#1 ↔ (i.val / 64 = j.val / 64 ∨ j.val / 64 = 0 ∨ (i.val / 64 + j.val / 64) % 3 = 0) := by
  rw [mask_bit]; exact bit_iff ⟨i.val / 64, by omega⟩ ⟨j.val / 64, by omega⟩

theorem keep_at (i : Fin 2048) : keepR (ix1 i) = 1#1 := by
  unfold keepR Host.reduce
  refine fold_or _ (fun n => maskR (S2048x2048.rowMajor.symm n)) _ (Or.inr ⟨S2048x2048.rowMajor (ix2 i (0 : Fin 2048)), ?_, ?_⟩)
  · refine List.mem_filter.mpr ⟨List.mem_finRange _, decide_eq_true ?_⟩
    rw [Equiv.symm_apply_apply]
    funext a
    obtain rfl : a = 0 := Subsingleton.elim _ _
    rfl
  · show maskR (S2048x2048.rowMajor.symm (S2048x2048.rowMajor (ix2 i (0 : Fin 2048)))) = 1#1
    rw [Equiv.symm_apply_apply]
    exact (mask_iff i 0).mpr (Or.inr (Or.inl rfl))

/-! ## The four products at an index -/

theorem dotA (l : FVec Ideal S1x2048x1024 .bf16) (r : FVec Ideal S1024x4096 .bf16) (i : Fin 2048) (c : Fin 4096) :
    (Host.dotGeneral dot_S1x2048x1024_S1024x4096_S1x2048x4096_2_0_01_1_n_n none l r : FVec Ideal _ .f32) (ix3 (0 : Fin 1) i c) = ∑ k : Fin 1024, l (ix3 (0 : Fin 1) i k) * r (ix2 k c) := by
  simp only [Host.dotGeneral]
  rw [Ideal.dotGeneral_apply, ← Equiv.sum_comp (contrEquiv1 dot_S1x2048x1024_S1024x4096_S1x2048x4096_2_0_01_1_n_n 1024 rfl rfl).symm]
  refine Finset.sum_congr rfl fun k _ => ?_
  have hk := contrEquiv1_symm_val dot_S1x2048x1024_S1024x4096_S1x2048x4096_2_0_01_1_n_n 1024 rfl rfl k
  have el : dot_S1x2048x1024_S1024x4096_S1x2048x4096_2_0_01_1_n_n.lhsIdx (ix3 (0 : Fin 1) i c) ((contrEquiv1 dot_S1x2048x1024_S1024x4096_S1x2048x4096_2_0_01_1_n_n 1024 rfl rfl).symm k) = ix3 (0 : Fin 1) i k := by
    funext a; apply Fin.ext
    match a with
    | ⟨0, _⟩ => rfl
    | ⟨1, _⟩ => rfl
    | ⟨2, _⟩ => exact hk
  have er : dot_S1x2048x1024_S1024x4096_S1x2048x4096_2_0_01_1_n_n.rhsIdx (ix3 (0 : Fin 1) i c) ((contrEquiv1 dot_S1x2048x1024_S1024x4096_S1x2048x4096_2_0_01_1_n_n 1024 rfl rfl).symm k) = ix2 k c := by
    funext a; apply Fin.ext
    match a with
    | ⟨0, _⟩ => exact hk
    | ⟨1, _⟩ => rfl
  rw [el, er]

theorem dotB (l : FVec Ideal S1x2048x32x128 .bf16) (r : FVec Ideal S1x2048x32x128 .bf16) (h : Fin 32) (i j : Fin 2048) :
    (Host.dotGeneral dot_S1x2048x32x128_S1x2048x32x128_S1x32x2048x2048_3_3_1_1_02_02 none l r : FVec Ideal _ .f32) (ix4 (0 : Fin 1) h i j) = ∑ k : Fin 128, l (ix4 (0 : Fin 1) i h k) * r (ix4 (0 : Fin 1) j h k) := by
  simp only [Host.dotGeneral]
  rw [Ideal.dotGeneral_apply, ← Equiv.sum_comp (contrEquiv1 dot_S1x2048x32x128_S1x2048x32x128_S1x32x2048x2048_3_3_1_1_02_02 128 rfl rfl).symm]
  refine Finset.sum_congr rfl fun k _ => ?_
  have hk := contrEquiv1_symm_val dot_S1x2048x32x128_S1x2048x32x128_S1x32x2048x2048_3_3_1_1_02_02 128 rfl rfl k
  have el : dot_S1x2048x32x128_S1x2048x32x128_S1x32x2048x2048_3_3_1_1_02_02.lhsIdx (ix4 (0 : Fin 1) h i j) ((contrEquiv1 dot_S1x2048x32x128_S1x2048x32x128_S1x32x2048x2048_3_3_1_1_02_02 128 rfl rfl).symm k) = ix4 (0 : Fin 1) i h k := by
    funext a; apply Fin.ext
    match a with
    | ⟨0, _⟩ => rfl
    | ⟨1, _⟩ => rfl
    | ⟨2, _⟩ => rfl
    | ⟨3, _⟩ => exact hk
  have er : dot_S1x2048x32x128_S1x2048x32x128_S1x32x2048x2048_3_3_1_1_02_02.rhsIdx (ix4 (0 : Fin 1) h i j) ((contrEquiv1 dot_S1x2048x32x128_S1x2048x32x128_S1x32x2048x2048_3_3_1_1_02_02 128 rfl rfl).symm k) = ix4 (0 : Fin 1) j h k := by
    funext a; apply Fin.ext
    match a with
    | ⟨0, _⟩ => rfl
    | ⟨1, _⟩ => rfl
    | ⟨2, _⟩ => rfl
    | ⟨3, _⟩ => exact hk
  rw [el, er]

theorem dotC (l : FVec Ideal S1x2048x32x128 .bf16) (r : FVec Ideal S1x32x2048x2048 .bf16) (h : Fin 32) (d : Fin 128) (i : Fin 2048) :
    (Host.dotGeneral dot_S1x2048x32x128_S1x32x2048x2048_S1x32x128x2048_1_3_3_2_02_01 none l r : FVec Ideal _ .f32) (ix4 (0 : Fin 1) h d i) = ∑ k : Fin 2048, l (ix4 (0 : Fin 1) k h d) * r (ix4 (0 : Fin 1) h i k) := by
  simp only [Host.dotGeneral]
  rw [Ideal.dotGeneral_apply, ← Equiv.sum_comp (contrEquiv1 dot_S1x2048x32x128_S1x32x2048x2048_S1x32x128x2048_1_3_3_2_02_01 2048 rfl rfl).symm]
  refine Finset.sum_congr rfl fun k _ => ?_
  have hk := contrEquiv1_symm_val dot_S1x2048x32x128_S1x32x2048x2048_S1x32x128x2048_1_3_3_2_02_01 2048 rfl rfl k
  have el : dot_S1x2048x32x128_S1x32x2048x2048_S1x32x128x2048_1_3_3_2_02_01.lhsIdx (ix4 (0 : Fin 1) h d i) ((contrEquiv1 dot_S1x2048x32x128_S1x32x2048x2048_S1x32x128x2048_1_3_3_2_02_01 2048 rfl rfl).symm k) = ix4 (0 : Fin 1) k h d := by
    funext a; apply Fin.ext
    match a with
    | ⟨0, _⟩ => rfl
    | ⟨1, _⟩ => exact hk
    | ⟨2, _⟩ => rfl
    | ⟨3, _⟩ => rfl
  have er : dot_S1x2048x32x128_S1x32x2048x2048_S1x32x128x2048_1_3_3_2_02_01.rhsIdx (ix4 (0 : Fin 1) h d i) ((contrEquiv1 dot_S1x2048x32x128_S1x32x2048x2048_S1x32x128x2048_1_3_3_2_02_01 2048 rfl rfl).symm k) = ix4 (0 : Fin 1) h i k := by
    funext a; apply Fin.ext
    match a with
    | ⟨0, _⟩ => rfl
    | ⟨1, _⟩ => rfl
    | ⟨2, _⟩ => rfl
    | ⟨3, _⟩ => exact hk
  rw [el, er]

theorem dotD (l : FVec Ideal S1x2048x4096 .bf16) (r : FVec Ideal S4096x1024 .bf16) (i : Fin 2048) (n : Fin 1024) :
    (Host.dotGeneral dot_S1x2048x4096_S4096x1024_S1x2048x1024_2_0_01_1_n_n none l r : FVec Ideal _ .f32) (ix3 (0 : Fin 1) i n) = ∑ k : Fin 4096, l (ix3 (0 : Fin 1) i k) * r (ix2 k n) := by
  simp only [Host.dotGeneral]
  rw [Ideal.dotGeneral_apply, ← Equiv.sum_comp (contrEquiv1 dot_S1x2048x4096_S4096x1024_S1x2048x1024_2_0_01_1_n_n 4096 rfl rfl).symm]
  refine Finset.sum_congr rfl fun k _ => ?_
  have hk := contrEquiv1_symm_val dot_S1x2048x4096_S4096x1024_S1x2048x1024_2_0_01_1_n_n 4096 rfl rfl k
  have el : dot_S1x2048x4096_S4096x1024_S1x2048x1024_2_0_01_1_n_n.lhsIdx (ix3 (0 : Fin 1) i n) ((contrEquiv1 dot_S1x2048x4096_S4096x1024_S1x2048x1024_2_0_01_1_n_n 4096 rfl rfl).symm k) = ix3 (0 : Fin 1) i k := by
    funext a; apply Fin.ext
    match a with
    | ⟨0, _⟩ => rfl
    | ⟨1, _⟩ => rfl
    | ⟨2, _⟩ => exact hk
  have er : dot_S1x2048x4096_S4096x1024_S1x2048x1024_2_0_01_1_n_n.rhsIdx (ix3 (0 : Fin 1) i n) ((contrEquiv1 dot_S1x2048x4096_S4096x1024_S1x2048x1024_2_0_01_1_n_n 4096 rfl rfl).symm k) = ix2 k n := by
    funext a; apply Fin.ext
    match a with
    | ⟨0, _⟩ => exact hk
    | ⟨1, _⟩ => rfl
  rw [el, er]

theorem dotC' (l : FVec Ideal S1x2048x32x128 .bf16) (r : FVec Ideal S1x32x2048x2048 .f32) (h : Fin 32) (d : Fin 128) (i : Fin 2048) :
    (Host.dotGeneral dot_S1x2048x32x128_S1x32x2048x2048_S1x32x128x2048_1_3_3_2_02_01 none l (truncf .bf16 r bitsLt_bf16_f32) : FVec Ideal _ .f32) (ix4 (0 : Fin 1) h d i)
      = ∑ k : Fin 2048, l (ix4 (0 : Fin 1) k h d) * r (ix4 (0 : Fin 1) h i k) :=
  dotC l r h d i

/-! ## The stages at an index -/

/-- The column of head `h`, coordinate `d`, of the whole projection. -/
abbrev hw (h : Fin 32) (d : Fin 128) : Fin 4096 := ⟨128 * h.val + d.val, by omega⟩

section At
variable (X : FVec Ideal S1x2048x1024 .bf16) (WQ : FVec Ideal S1024x4096 .bf16) (K V : FVec Ideal S1x2048x32x128 .bf16) (WO : FVec Ideal S4096x1024 .bf16)

theorem qR_at (i : Fin 2048) (h : Fin 32) (d : Fin 128) : qR X WQ (ix4 (0 : Fin 1) i h d) = ∑ e : Fin 1024, X (ix3 (0 : Fin 1) i e) * WQ (ix2 e (hw h d)) := by
  unfold qR
  refine (shapeCast_apply _ _ _ (ix3 (0 : Fin 1) i (hw h d)) ?_).trans (dotA X WQ i (hw h d))
  rw [Shape.rowMajor_val_three, Shape.rowMajor_val_four]
  show (0 * 2048 + i.val) * 4096 + (128 * h.val + d.val) = ((0 * 2048 + i.val) * 32 + h.val) * 128 + d.val
  omega

theorem bits_128 : Ideal.ofBits .f32 0x43000000#32 = ((128 : ℝ) : EReal) := by
  simp [Ideal.ofBits, Ideal.ieee, -EReal.coe_mul]; norm_num
theorem bits_bot : Ideal.ofBits .f32 0xFF800000#32 = (⊥ : EReal) := by
  simp [Ideal.ofBits, Ideal.ieee]

theorem scR_at (h : Fin 32) (i j : Fin 2048) : scR X WQ K (ix4 (0 : Fin 1) h i j)
    = Ideal.div (∑ d : Fin 128, qR X WQ (ix4 (0 : Fin 1) i h d) * K (ix4 (0 : Fin 1) j h d)) ((Real.sqrt 128 : ℝ) : EReal) := by
  have hs : Ideal.sqrt (Ideal.ofBits .f32 0x43000000#32) = ((Real.sqrt 128 : ℝ) : EReal) := by
    rw [bits_128]
    show (if (128 : ℝ) < 0 then (⊥ : EReal) else ((Real.sqrt 128 : ℝ) : EReal)) = _
    rw [if_neg (by norm_num)]
  unfold scR
  exact congrArg₂ Ideal.div (dotB (qR X WQ) K h i j) hs

theorem msR_at (h : Fin 32) (i j : Fin 2048) : msR X WQ K (ix4 (0 : Fin 1) h i j)
    = if maskR (ix2 i j) = 1#1 then scR X WQ K (ix4 (0 : Fin 1) h i j) else ⊥ := by
  unfold msR
  have hm : broadcastInDim S1x32x2048x2048 ![0, 1, 2, 3] bcast_S1x1x2048x2048_S1x32x2048x2048_0_1_2_3 (broadcastInDim S1x1x2048x2048 ![2, 3] bcast_S2048x2048_S1x1x2048x2048_2_3 maskR) (ix4 (0 : Fin 1) h i j) = maskR (ix2 i j) := by
    refine (broadcastInDim_apply _ _ _ _ (ix4 (0 : Fin 1) (0 : Fin 1) i j) (fun a => match a with | ⟨0, _⟩ => rfl | ⟨1, _⟩ => rfl | ⟨2, _⟩ => rfl | ⟨3, _⟩ => rfl)).trans ?_
    exact broadcastInDim_apply _ _ _ _ (ix2 i j) (fun a => match a with | ⟨0, _⟩ => rfl | ⟨1, _⟩ => rfl)
  have hb := bits_bot
  show (if _ = 1 then scR X WQ K (ix4 (0 : Fin 1) h i j) else Ideal.ofBits .f32 0xFF800000#32) = _
  rw [hm, hb]; rfl

/-- The largest score of a row is a real number when the scores are. -/
theorem mxR_real (hs : ∀ h i j, ∃ r : ℝ, scR X WQ K (ix4 (0 : Fin 1) h i j) = (r : EReal)) (h : Fin 32) (i : Fin 2048) :
    ∃ M : ℝ, mxR X WQ K (ix3 (0 : Fin 1) h i) = (M : EReal) := by
  have hv : ∀ k : S1x32x2048x2048.Idx, msR X WQ K k ≠ ⊤ := fun k => by
    have hk : k = ix4 (0 : Fin 1) (k 1) (k 2) (k 3) := by
      funext a
      match a with
      | ⟨0, _⟩ => exact Subsingleton.elim (α := Fin 1) _ _
      | ⟨1, _⟩ => rfl
      | ⟨2, _⟩ => rfl
      | ⟨3, _⟩ => rfl
    rw [hk]
    obtain ⟨r, hr⟩ := hs (k 1) (k 2) (k 3)
    refine fun ht => ?_
    have h1 := (msR_at X WQ K (k 1) (k 2) (k 3)).symm.trans ht
    rw [hr] at h1
    split at h1
    · exact EReal.coe_ne_top r h1
    · exact bot_ne_top h1
  obtain ⟨r, hr⟩ := hs h i 0
  have h0 : msR X WQ K (ix4 (0 : Fin 1) h i 0) = (r : EReal) := by
    rw [msR_at, if_pos ((mask_iff i 0).mpr (Or.inr (Or.inl rfl))), hr]
  have hf : mxR X WQ K (ix3 (0 : Fin 1) h i) = ((List.finRange S1x32x2048x2048.numel).filter fun n => reducesTo_S1x32x2048x2048_S1x32x2048_d3.drop (S1x32x2048x2048.rowMajor.symm n) = ix3 (0 : Fin 1) h i).foldl
      (fun r n => max r (msR X WQ K (S1x32x2048x2048.rowMajor.symm n))) (⊥ : EReal) := by
    have hb := bits_bot
    unfold mxR Host.reduce
    rw [← hb]
    rfl
  obtain ⟨f1, f2, f3⟩ := fold_max ((List.finRange S1x32x2048x2048.numel).filter fun n => reducesTo_S1x32x2048x2048_S1x32x2048_d3.drop (S1x32x2048x2048.rowMajor.symm n) = ix3 (0 : Fin 1) h i)
    (fun n => msR X WQ K (S1x32x2048x2048.rowMajor.symm n)) (⊥ : EReal)
  rw [← hf] at f1 f3
  have hle : (r : EReal) ≤ mxR X WQ K (ix3 (0 : Fin 1) h i) := by
    have hm := f3 (S1x32x2048x2048.rowMajor (ix4 (0 : Fin 1) h i 0)) (List.mem_filter.mpr ⟨List.mem_finRange _, decide_eq_true (by
      rw [Equiv.symm_apply_apply]
      funext a
      match a with
      | ⟨0, _⟩ => rfl
      | ⟨1, _⟩ => rfl
      | ⟨2, _⟩ => rfl)⟩)
    rw [Equiv.symm_apply_apply, h0] at hm
    exact hm
  have hnt : mxR X WQ K (ix3 (0 : Fin 1) h i) ≠ ⊤ := by
    rcases f1 with f1 | ⟨n, _, f1⟩
    · rw [f1]; exact bot_ne_top
    · rw [f1]; exact hv _
  exact ⟨(mxR X WQ K (ix3 (0 : Fin 1) h i)).toReal, (EReal.coe_toReal hnt (fun hb => by rw [hb] at hle; exact absurd (le_bot_iff.mp hle) (EReal.coe_ne_bot r))).symm⟩

theorem eR_at (h : Fin 32) (i j : Fin 2048) : eR X WQ K (ix4 (0 : Fin 1) h i j)
    = Ideal.exp (msR X WQ K (ix4 (0 : Fin 1) h i j) - mxR X WQ K (ix3 (0 : Fin 1) h i)) := by
  have hm : broadcastInDim S1x32x2048x2048 ![0, 1, 2, 3] bcast_S1x32x2048x1_S1x32x2048x2048_0_1_2_3 (broadcastInDim S1x32x2048x1 ![0, 1, 2] bcast_S1x32x2048_S1x32x2048x1_0_1_2 (mxR X WQ K)) (ix4 (0 : Fin 1) h i j) = mxR X WQ K (ix3 (0 : Fin 1) h i) := by
    refine (broadcastInDim_apply _ _ _ _ (ix4 (0 : Fin 1) h i (0 : Fin 1)) (fun a => match a with | ⟨0, _⟩ => rfl | ⟨1, _⟩ => rfl | ⟨2, _⟩ => rfl | ⟨3, _⟩ => rfl)).trans ?_
    exact broadcastInDim_apply _ _ _ _ (ix3 (0 : Fin 1) h i) (fun a => match a with | ⟨0, _⟩ => rfl | ⟨1, _⟩ => rfl | ⟨2, _⟩ => rfl)
  unfold eR
  exact congrArg (fun z => Ideal.exp (msR X WQ K (ix4 (0 : Fin 1) h i j) - z)) hm

theorem red3 : S1x32x2048x2048.Reduces [3] S1x32x2048 := by decide

theorem sumR_at (h : Fin 32) (i : Fin 2048) : sumR X WQ K (ix3 (0 : Fin 1) h i) = ∑ j : Fin 2048, eR X WQ K (ix4 (0 : Fin 1) h i j) := by
  unfold sumR
  rw [hostReduceAdd_apply]
  refine (Ideal.hostReduceAdd_single reducesTo_S1x32x2048x2048_S1x32x2048_d3 red3 (eR X WQ K) _ (ix3 (0 : Fin 1) h i)).trans ?_
  have h0 : (constant S_ .f32 0x00000000#32 : FVec Ideal S_ .f32) (Shape.Idx.first h_S_) = (0 : EReal) := Ideal.ofBits_zero_f32
  rw [h0, zero_add]
  refine Finset.sum_congr rfl fun k _ => congrArg (eR X WQ K) ?_
  funext a; apply Fin.ext
  match a with
  | ⟨0, _⟩ => rfl
  | ⟨1, _⟩ => rfl
  | ⟨2, _⟩ => rfl
  | ⟨3, _⟩ => rfl

theorem keep1_at (i : Fin 2048) : keep1 (ix4 (0 : Fin 1) (0 : Fin 1) i (0 : Fin 1)) = 1#1 := by
  unfold keep1
  exact (broadcastInDim_apply _ _ _ _ (ix1 i) (fun a => match a with | ⟨0, _⟩ => rfl)).trans (keep_at i)

theorem denR_at (h : Fin 32) (i : Fin 2048) : denR X WQ K (ix4 (0 : Fin 1) h i (0 : Fin 1)) = sumR X WQ K (ix3 (0 : Fin 1) h i) := by
  have h1 : broadcastInDim S1x32x2048x1 ![0, 1, 2, 3] bcast_S1x1x2048x1_S1x32x2048x1_0_1_2_3 keep1 (ix4 (0 : Fin 1) h i (0 : Fin 1)) = 1#1 :=
    (broadcastInDim_apply _ _ _ _ (ix4 (0 : Fin 1) (0 : Fin 1) i (0 : Fin 1)) (fun a => match a with | ⟨0, _⟩ => rfl | ⟨1, _⟩ => rfl | ⟨2, _⟩ => rfl | ⟨3, _⟩ => rfl)).trans (keep1_at i)
  have h2 : broadcastInDim S1x32x2048x1 ![0, 1, 2] bcast_S1x32x2048_S1x32x2048x1_0_1_2 (sumR X WQ K) (ix4 (0 : Fin 1) h i (0 : Fin 1)) = sumR X WQ K (ix3 (0 : Fin 1) h i) :=
    broadcastInDim_apply _ _ _ _ (ix3 (0 : Fin 1) h i) (fun a => match a with | ⟨0, _⟩ => rfl | ⟨1, _⟩ => rfl | ⟨2, _⟩ => rfl)
  unfold denR
  rw [select_apply]
  unfold Scalar.select
  rw [h1, h2]
  exact if_pos rfl

theorem wR_at (h : Fin 32) (i j : Fin 2048) : wR X WQ K (ix4 (0 : Fin 1) h i j)
    = Ideal.div (eR X WQ K (ix4 (0 : Fin 1) h i j)) (sumR X WQ K (ix3 (0 : Fin 1) h i)) := by
  have h1 : broadcastInDim S1x32x2048x2048 ![0, 1, 2, 3] bcast_S1x1x2048x1_S1x32x2048x2048_0_1_2_3 keep1 (ix4 (0 : Fin 1) h i j) = 1#1 :=
    (broadcastInDim_apply _ _ _ _ (ix4 (0 : Fin 1) (0 : Fin 1) i (0 : Fin 1)) (fun a => match a with | ⟨0, _⟩ => rfl | ⟨1, _⟩ => rfl | ⟨2, _⟩ => rfl | ⟨3, _⟩ => rfl)).trans (keep1_at i)
  have h2 : broadcastInDim S1x32x2048x2048 ![0, 1, 2, 3] bcast_S1x32x2048x1_S1x32x2048x2048_0_1_2_3 (denR X WQ K) (ix4 (0 : Fin 1) h i j) = sumR X WQ K (ix3 (0 : Fin 1) h i) :=
    (broadcastInDim_apply _ _ _ _ (ix4 (0 : Fin 1) h i (0 : Fin 1)) (fun a => match a with | ⟨0, _⟩ => rfl | ⟨1, _⟩ => rfl | ⟨2, _⟩ => rfl | ⟨3, _⟩ => rfl)).trans (denR_at X WQ K h i)
  unfold wR
  rw [select_apply]
  unfold Scalar.select
  rw [h1]
  refine (if_pos rfl).trans ?_
  rw [hostDivf_apply, h2]

theorem cR_at (h : Fin 32) (d : Fin 128) (i : Fin 2048) : cR X WQ K V (ix4 (0 : Fin 1) h d i)
    = ∑ j : Fin 2048, V (ix4 (0 : Fin 1) j h d) * wR X WQ K (ix4 (0 : Fin 1) h i j) := by
  unfold cR
  exact dotC' V (wR X WQ K) h d i

theorem tR_at (i : Fin 2048) (c : Fin 4096) : tR X WQ K V (ix3 (0 : Fin 1) i c)
    = cR X WQ K V (ix4 (0 : Fin 1) (⟨c.val / 128, by omega⟩ : Fin 32) (⟨c.val % 128, by omega⟩ : Fin 128) i) := by
  unfold tR
  refine (shapeCast_apply _ _ _ (ix4 (0 : Fin 1) i (⟨c.val / 128, by omega⟩ : Fin 32) (⟨c.val % 128, by omega⟩ : Fin 128)) ?_).trans ?_
  · rw [Shape.rowMajor_val_three, Shape.rowMajor_val_four]
    show ((0 * 2048 + i.val) * 32 + c.val / 128) * 128 + c.val % 128 = (0 * 2048 + i.val) * 4096 + c.val
    omega
  · refine congrArg (cR X WQ K V) ?_
    funext a; apply Fin.ext
    match a with
    | ⟨0, _⟩ => rfl
    | ⟨1, _⟩ => rfl
    | ⟨2, _⟩ => rfl
    | ⟨3, _⟩ => rfl

theorem rR_at (i : Fin 2048) (n : Fin 1024) : rR X WQ K V WO (ix3 (0 : Fin 1) i n)
    = ∑ c : Fin 4096, tR X WQ K V (ix3 (0 : Fin 1) i c) * WO (ix2 c n) := by
  unfold rR
  exact dotD (tR X WQ K V) WO i n
end At

end Cert.ReferenceIdeal.Own

end
-- ==== Proof.ValEq.lean ====
/-
  The kernel's result is the reference's: the four devices' columns put together are the reference's columns, and each
  column of the kernel's context is the reference's softmax average.
-/
module

public import proofs.«01_k».proof.Proof.ValHost
public import proofs.«01_k».proof.Proof.ValRef

@[expose] public section

noncomputable section

namespace Cert.KernelIdeal.Own

open Idealize.ShloMosaic Idealize.ShloMosaic.TcCoe Cert.KernelIdeal.Gen Idealize.ShloMosaic.ValueIdx
open Cert.ReferenceIdeal.Own (qR scR msR mxR eR sumR wR cR tR rR hw)
open scoped BigOperators

theorem cols (F : Fin 4096 → EReal) : ∑ c, F c = ∑ d : Fin 4, ∑ k : Fin 1024, F ⟨1024 * d.val + k.val, by omega⟩ := by
  have e : ∑ y : Fin 4 × Fin 1024, F (finProdFinEquiv (m := 4) (n := 1024) y) = ∑ c, F c := Equiv.sum_comp (finProdFinEquiv (m := 4) (n := 1024)) F
  rw [← e, Fintype.sum_prod_type]
  refine Finset.sum_congr rfl fun d _ => Finset.sum_congr rfl fun k _ => congrArg F (Fin.ext ?_)
  show k.val + 1024 * d.val = 1024 * d.val + k.val
  omega

/-- The whole arrays of a run of four devices, finite where the claim needs it. -/
structure Whole (m : (ℓ : Loc nD τ sig) → Buf (Elt Ideal) ℓ) (X : FVec Ideal Cert.ReferenceIdeal.S1x2048x1024 .bf16) (WQ : FVec Ideal Cert.ReferenceIdeal.S1024x4096 .bf16)
    (K V : FVec Ideal Cert.ReferenceIdeal.S1x2048x32x128 .bf16) (WO : FVec Ideal Cert.ReferenceIdeal.S4096x1024 .bf16)
    (xr : Fin 2048 → Fin 1024 → ℝ) (wr : Fin 1024 → Fin 4096 → ℝ) (kr : Fin 2048 → Fin 32 → Fin 128 → ℝ) : Prop where
  hx : ∀ (c : Dev nD) i e, A0 m c (ix3 (0 : Fin 1) i e) = X (ix3 (0 : Fin 1) i e)
  hq : ∀ (c : Dev nD) e k, A1 m c (ix2 e k) = WQ (ix2 e k)
  hk : ∀ (c : Dev nD) (j : Fin 2048) (h : Fin 8) (d : Fin 128), A2 m c (ix4 (0 : Fin 1) j h d) = K (ix4 (0 : Fin 1) j (⟨8 * c.val + h.val, by have : c.val < 4 := c.isLt; omega⟩ : Fin 32) d)
  hv : ∀ (c : Dev nD) (j : Fin 2048) (h : Fin 8) (d : Fin 128), A3 m c (ix4 (0 : Fin 1) j h d) = V (ix4 (0 : Fin 1) j (⟨8 * c.val + h.val, by have : c.val < 4 := c.isLt; omega⟩ : Fin 32) d)
  ho : ∀ (c : Dev nD) k n, A4 m c (ix2 k n) = WO (ix2 k n)
  fx : ∀ i e, X (ix3 (0 : Fin 1) i e) = (xr i e : EReal)
  fq : ∀ e k, WQ (ix2 e k) = (wr e k : EReal)
  fk : ∀ j h d, K (ix4 (0 : Fin 1) j h d) = (kr j h d : EReal)

section
variable {m : (ℓ : Loc nD τ sig) → Buf (Elt Ideal) ℓ} {X : FVec Ideal Cert.ReferenceIdeal.S1x2048x1024 .bf16} {WQ : FVec Ideal Cert.ReferenceIdeal.S1024x4096 .bf16}
    {K V : FVec Ideal Cert.ReferenceIdeal.S1x2048x32x128 .bf16} {WO : FVec Ideal Cert.ReferenceIdeal.S4096x1024 .bf16}
    {xr : Fin 2048 → Fin 1024 → ℝ} {wr : Fin 1024 → Fin 4096 → ℝ} {kr : Fin 2048 → Fin 32 → Fin 128 → ℝ}

/-- The score of a head, a row and a key row, as a real number. -/
def sr (xr : Fin 2048 → Fin 1024 → ℝ) (wr : Fin 1024 → Fin 4096 → ℝ) (kr : Fin 2048 → Fin 32 → Fin 128 → ℝ) (h : Fin 32) (i j : Fin 2048) : ℝ :=
  (∑ d : Fin 128, (∑ e : Fin 1024, xr i e * wr e (hw h d)) * kr j h d) / Real.sqrt 128

theorem sqrt_ne : Real.sqrt 128 ≠ 0 := (Real.sqrt_pos.mpr (by norm_num)).ne'

theorem sc_ref (W : Whole m X WQ K V WO xr wr kr) (h : Fin 32) (i j : Fin 2048) : scR X WQ K (ix4 (0 : Fin 1) h i j) = (sr xr wr kr h i j : EReal) := by
  rw [Cert.ReferenceIdeal.Own.scR_at]
  simp only [Cert.ReferenceIdeal.Own.qR_at, W.fx, W.fq, W.fk]
  rw [Cert.Soft.score' (fun e => xr i e) (fun e d => wr e (hw h d)) (fun d => kr j h d), Cert.Soft.div_real _ _ sqrt_ne]
  rfl

theorem sc_ker (W : Whole m X WQ K V WO xr wr kr) (c : Dev nD) (h : Fin 8) (i j : Fin 2048) :
    sC (wIn m c) (posOf i) h j = (sr xr wr kr ⟨8 * c.val + h.val, by have : c.val < 4 := c.isLt; omega⟩ i j : EReal) := by
  have hx : ∀ e, xA (wIn m c) (posOf i) e = (xr i e : EReal) := fun e => by
    rw [xA_eq, W.hx, ← W.fx]
    exact congrArg (fun r => X (ix3 (0 : Fin 1) r e)) (Fin.ext (row_pos i))
  have hq : ∀ e d, qA (wIn m c) e (hc h d) = (wr e (hw ⟨8 * c.val + h.val, by have : c.val < 4 := c.isLt; omega⟩ d) : EReal) := fun e d => by
    rw [qA_eq, W.hq, ← W.fq]
    refine congrArg (fun r => WQ (ix2 e r)) (Fin.ext ?_)
    show 1024 * c.val + (128 * h.val + d.val) = 128 * (8 * c.val + h.val) + d.val
    omega
  have hk : ∀ d, kA (wIn m c) j (hc h d) = (kr j ⟨8 * c.val + h.val, by have : c.val < 4 := c.isLt; omega⟩ d : EReal) := fun d => by
    rw [kA_eq, W.hk, ← W.fk]
    refine congrArg₂ (fun a b => K (ix4 (0 : Fin 1) j a b)) (Fin.ext ?_) (Fin.ext ?_)
    · show 8 * c.val + (128 * h.val + d.val) / 128 = 8 * c.val + h.val
      omega
    · show (128 * h.val + d.val) % 128 = d.val
      omega
  unfold sC qS
  rw [sE_eq]
  simp only [hx, hq, hk]
  exact Cert.Soft.score (fun e => xr i e) (fun e d => wr e (hw ⟨8 * c.val + h.val, by have : c.val < 4 := c.isLt; omega⟩ d)) (fun d => kr j ⟨8 * c.val + h.val, by have : c.val < 4 := c.isLt; omega⟩ d) (Real.sqrt 128)

theorem ctx_eq (W : Whole m X WQ K V WO xr wr kr) (c : Dev nD) (h : Fin 8) (d : Fin 128) (i : Fin 2048) :
    cS (wIn m c) (posOf i) h d = cR X WQ K V (ix4 (0 : Fin 1) (⟨8 * c.val + h.val, by have : c.val < 4 := c.isLt; omega⟩ : Fin 32) d i) := by
  have hH : 8 * c.val + h.val < 32 := by have : c.val < 4 := c.isLt; omega
  have hv : ∀ j, vA (wIn m c) j (hc h d) = V (ix4 (0 : Fin 1) j (⟨8 * c.val + h.val, hH⟩ : Fin 32) d) := fun j => by
    rw [vA_eq, W.hv]
    refine congrArg₂ (fun a b => V (ix4 (0 : Fin 1) j a b)) (Fin.ext ?_) (Fin.ext ?_)
    · show 8 * c.val + (128 * h.val + d.val) / 128 = 8 * c.val + h.val
      omega
    · show (128 * h.val + d.val) % 128 = d.val
      omega
  obtain ⟨M, hM⟩ := Cert.ReferenceIdeal.Own.mxR_real X WQ K (fun h i j => ⟨_, sc_ref W h i j⟩) ⟨8 * c.val + h.val, hH⟩ i
  have he : ∀ j, eR X WQ K (ix4 (0 : Fin 1) (⟨8 * c.val + h.val, hH⟩ : Fin 32) i j)
      = Ideal.exp ((if keep (i.val / 64) j.val then (sr xr wr kr ⟨8 * c.val + h.val, hH⟩ i j : EReal) else ⊥) - (M : EReal)) := fun j => by
    rw [Cert.ReferenceIdeal.Own.eR_at, hM, Cert.ReferenceIdeal.Own.msR_at, sc_ref W]
    exact congrArg (fun z => Ideal.exp (z - (M : EReal))) (if_congr (Cert.ReferenceIdeal.Own.mask_iff i j) rfl rfl)
  unfold cS eS
  simp only [sc_ker W, hv, srcb_pos]
  rw [Cert.ReferenceIdeal.Own.cR_at]
  simp only [Cert.ReferenceIdeal.Own.wR_at, Cert.ReferenceIdeal.Own.sumR_at, he]
  exact Cert.Soft.soft (fun j => sr xr wr kr ⟨8 * c.val + h.val, hH⟩ i j) (fun j => keep (i.val / 64) j.val) 0 (Or.inr (Or.inl rfl))
    (fun j => V (ix4 (0 : Fin 1) j (⟨8 * c.val + h.val, hH⟩ : Fin 32) d)) M

theorem col_eq (W : Whole m X WQ K V WO xr wr kr) (c : Fin 4) (k : Fin 1024) (i : Fin 2048) :
    cX (wIn m c) (posOf i) k = tR X WQ K V (ix3 (0 : Fin 1) i (⟨1024 * c.val + k.val, by omega⟩ : Fin 4096)) := by
  unfold cX
  rw [ctx_eq W, Cert.ReferenceIdeal.Own.tR_at]
  refine congrArg₂ (fun a b => cR X WQ K V (ix4 (0 : Fin 1) a b i)) (Fin.ext ?_) (Fin.ext ?_)
  · show 8 * c.val + k.val / 128 = (1024 * c.val + k.val) / 128
    omega
  · show k.val % 128 = (1024 * c.val + k.val) % 128
    omega

theorem result_at (W : Whole m X WQ K V WO xr wr kr) (c : Dev nD) (i : Fin 2048) (n : Fin 1024) :
    (V7 m (outs m) c main_v26 : S1x2048x1024.Idx → EReal) (ix3 (0 : Fin 1) i n) = rR X WQ K V WO (ix3 (0 : Fin 1) i n) := by
  suffices h : (∑ d : Fin 4, pX (wIn m d) (posOf i) n : EReal) = rR X WQ K V WO (ix3 (0 : Fin 1) i n) from (out_eq m c i n).trans h
  refine Eq.trans ?_ ((Cert.ReferenceIdeal.Own.rR_at X WQ K V WO i n).trans (cols _)).symm
  refine Finset.sum_congr rfl fun d _ => ?_
  unfold pX
  refine Finset.sum_congr rfl fun k _ => ?_
  rw [col_eq W, oA_eq, W.ho]

/-- The kernel's result is the reference's. -/
theorem result_eq (W : Whole m X WQ K V WO xr wr kr) (c : Dev nD) :
    (V7 m (outs m) c main_v26 : S1x2048x1024.Idx → EReal) = rR X WQ K V WO := by
  funext k
  have hk : k = ix3 (0 : Fin 1) (k 1) (k 2) := by
    funext a
    match a with
    | ⟨0, _⟩ => exact Subsingleton.elim (α := Fin 1) _ _
    | ⟨1, _⟩ => rfl
    | ⟨2, _⟩ => rfl
  rw [hk]
  exact result_at W c (k 1) (k 2)
end

end Cert.KernelIdeal.Own

end
-- ==== Proof.Finite.lean ====
/-
  An array whose absolute values are all below infinity is an array of real numbers.
-/
module

public import Idealize.ShloMosaic.Lib.StableHlo
public import Idealize.ShloMosaic.Lib.ValueIdx
public import Idealize.ShloMosaic.Lib.IdealHost
public import Idealize.ShloMosaic.PureOps.Ideal

@[expose] public section

noncomputable section

namespace Cert.Soft

open Idealize.ShloMosaic

theorem and_one : ∀ a b : BitVec 1, IntOp.andi a b = 1#1 → a = 1#1 ∧ b = 1#1 := by decide

theorem fold_and {α : Type} (l : List α) (x : α → BitVec 1) (r : BitVec 1) (h : l.foldl (fun r n => IntOp.andi r (x n)) r = 1#1) :
    r = 1#1 ∧ ∀ n ∈ l, x n = 1#1 := by
  induction l generalizing r with
  | nil => exact ⟨h, fun n hn => absurd hn List.not_mem_nil⟩
  | cons a l ih =>
    obtain ⟨h1, h2⟩ := ih (IntOp.andi r (x a)) h
    obtain ⟨h3, h4⟩ := and_one _ _ h1
    refine ⟨h3, fun n hn => ?_⟩
    rcases List.mem_cons.mp hn with rfl | hn
    · exact h4
    · exact h2 n hn

theorem bits_top : Ideal.ofBits .bf16 0x7F80#16 = (⊤ : EReal) := by
  simp [Ideal.ofBits, Ideal.ieee]

theorem real_of_abs (a : EReal) (h : max a (-a) < ⊤) : ∃ r : ℝ, a = (r : EReal) := by
  refine ⟨a.toReal, (EReal.coe_toReal (fun e => ?_) (fun e => ?_)).symm⟩
  · rw [e] at h; exact absurd h (by simp)
  · rw [e] at h; exact absurd h (by simp)

/-- One operand's test, all true: every entry is a real number. -/
theorem finite_of_test {s : Shape} {dims : List (Fin s.rank)} (hb : (⟨0, ![]⟩ : Shape).BroadcastsInDim s (![] : Fin 0 → Fin s.rank)) (hr : s.ReducesTo dims ⟨0, ![]⟩)
    (hu : 0 < (⟨0, ![]⟩ : Shape).numel) (a : FVec Ideal s .bf16) (j : (⟨0, ![]⟩ : Shape).Idx)
    (h : Host.reduce IntOp.andi (cmpf .olt (Host.absf a) (broadcastInDim s ![] hb (constant ⟨0, ![]⟩ .bf16 0x7F80#16))) (constantI ⟨0, ![]⟩ 1 1#1) hr hu j = 1#1)
    (k : s.Idx) : ∃ r : ℝ, a k = (r : EReal) := by
  unfold Host.reduce at h
  obtain ⟨_, h2⟩ := fold_and _ (fun n => cmpf .olt (Host.absf a) (broadcastInDim s ![] hb (constant ⟨0, ![]⟩ .bf16 0x7F80#16)) (s.rowMajor.symm n)) _ h
  have h3 := h2 (s.rowMajor k) (List.mem_filter.mpr ⟨List.mem_finRange _, decide_eq_true (funext fun x => x.elim0)⟩)
  rw [Equiv.symm_apply_apply] at h3
  have h4 : Ideal.cmp .olt (max (a k) (-(a k))) (Ideal.ofBits .bf16 0x7F80#16) = 1#1 := h3
  rw [bits_top] at h4
  refine real_of_abs (a k) ?_
  by_contra hn
  simp [Ideal.cmp, hn] at h4

end Cert.Soft

end
-- ==== Proof.Algebraic.lean ====
/-
  The value claim: on finite operands of the scores the four devices' result is the reference's.
-/
module

public import proofs.«01_k».proof.Defs
public import proofs.«01_k».proof.Proof.Launch
public import proofs.«01_k».proof.Proof.ValEq
public import proofs.«01_k».proof.Proof.Finite

@[expose] public section

noncomputable section

namespace Cert.Proof

open Idealize.ShloMosaic Idealize.ShloMosaic.TcCoe Idealize.ShloMosaic.ValueIdx Idealize.SL.Sem
open Cert.KernelIdeal.Own (A0 A1 A2 A3 A4 Whole result_eq)

theorem pre_kernel : Cert.Pre_finite_scores_KernelIdeal.Facts where
  bcast_S_S1x2048x1024 := by decide
  reducesTo_S1x2048x1024_S_d0_1_2 := by decide
  h_S_ := by decide
  bcast_S_S1024x4096 := by decide
  reducesTo_S1024x4096_S_d0_1 := by decide
  bcast_S_S1x2048x8x128 := by decide
  reducesTo_S1x2048x8x128_S_d0_1_2_3 := by decide

theorem pre_reference : Cert.Pre_finite_scores_ReferenceIdeal.Facts where
  bcast_S_S1x2048x1024 := by decide
  reducesTo_S1x2048x1024_S_d0_1_2 := by decide
  h_S_ := by decide
  bcast_S_S1024x4096 := by decide
  reducesTo_S1024x4096_S_d0_1 := by decide
  bcast_S_S1x2048x32x128 := by decide
  reducesTo_S1x2048x32x128_S_d0_1_2_3 := by decide

attribute [local instance] pre_kernel pre_reference

/-- The precondition on one device's arrays: their entries are real numbers. -/
theorem finite_parts (x : FVec Ideal Cert.Pre_finite_scores_KernelIdeal.S1x2048x1024 .bf16) (q : FVec Ideal Cert.Pre_finite_scores_KernelIdeal.S1024x4096 .bf16)
    (k v : FVec Ideal Cert.Pre_finite_scores_KernelIdeal.S1x2048x8x128 .bf16) (o : FVec Ideal Cert.Pre_finite_scores_KernelIdeal.S4096x1024 .bf16)
    (h : Cert.Pre_finite_scores_KernelIdeal.fn (F := Ideal) x q k v o = fun _ => 1#1) :
    (∀ i, ∃ r : ℝ, x i = (r : EReal)) ∧ (∀ i, ∃ r : ℝ, q i = (r : EReal)) ∧ (∀ i, ∃ r : ℝ, k i = (r : EReal)) := by
  have h0 := congrFun h (fun a => a.elim0)
  unfold Cert.Pre_finite_scores_KernelIdeal.fn at h0
  obtain ⟨h1, h2⟩ := Cert.Soft.and_one _ _ h0
  obtain ⟨h3, h4⟩ := Cert.Soft.and_one _ _ h1
  exact ⟨Cert.Soft.finite_of_test _ _ _ x _ h3, Cert.Soft.finite_of_test _ _ _ q _ h4, Cert.Soft.finite_of_test _ _ _ k _ h2⟩

/-- A device's block of an array cut in heads. -/
theorem block_at (v : (⟨4, ![1, 2048, 32, 128]⟩ : Shape).Idx → EReal) (c : Fin 4) (j : Fin 2048) (h : Fin 8) (d : Fin 128) :
    Layout.block ⟨4, ![1, 2048, 8, 128]⟩ ⟨4, ![1, 2048, 32, 128]⟩ 2 4 c v (by decide) (ix4 (0 : Fin 1) j h d)
      = v (ix4 (0 : Fin 1) j (⟨8 * c.val + h.val, by omega⟩ : Fin 32) d) := by
  rw [Layout.block_apply]
  refine congrArg v ?_
  funext a
  apply Fin.ext
  match a with
  | ⟨0, _⟩ => rfl
  | ⟨1, _⟩ => rfl
  | ⟨2, _⟩ =>
    show c.val * 8 + h.val = 8 * c.val + h.val
    omega
  | ⟨3, _⟩ => rfl

/-- The claim of values. -/
theorem algebraic : Cert.algebraic_KernelIdeal_ReferenceIdeal_pre_finite_scores_KernelIdeal := by
  intro m g m' g' hpre heq
  let X : FVec Ideal Cert.ReferenceIdeal.S1x2048x1024 .bf16 := m' (((0 : Dev Cert.ReferenceIdeal.nD).tc : Thread Cert.ReferenceIdeal.nD Cert.ReferenceIdeal.τ).loc Cert.ReferenceIdeal.main_arg0)
  let WQ : FVec Ideal Cert.ReferenceIdeal.S1024x4096 .bf16 := m' (((0 : Dev Cert.ReferenceIdeal.nD).tc : Thread Cert.ReferenceIdeal.nD Cert.ReferenceIdeal.τ).loc Cert.ReferenceIdeal.main_arg1)
  let K : FVec Ideal Cert.ReferenceIdeal.S1x2048x32x128 .bf16 := m' (((0 : Dev Cert.ReferenceIdeal.nD).tc : Thread Cert.ReferenceIdeal.nD Cert.ReferenceIdeal.τ).loc Cert.ReferenceIdeal.main_arg2)
  let V : FVec Ideal Cert.ReferenceIdeal.S1x2048x32x128 .bf16 := m' (((0 : Dev Cert.ReferenceIdeal.nD).tc : Thread Cert.ReferenceIdeal.nD Cert.ReferenceIdeal.τ).loc Cert.ReferenceIdeal.main_arg3)
  let WO : FVec Ideal Cert.ReferenceIdeal.S4096x1024 .bf16 := m' (((0 : Dev Cert.ReferenceIdeal.nD).tc : Thread Cert.ReferenceIdeal.nD Cert.ReferenceIdeal.τ).loc Cert.ReferenceIdeal.main_arg4)
  have hx : ∀ (c : Dev Cert.KernelIdeal.nD) i e, A0 m c (ix3 (0 : Fin 1) i e) = X (ix3 (0 : Fin 1) i e) := fun c i e => congrFun (heq c).1 (ix3 (0 : Fin 1) i e)
  have hq : ∀ (c : Dev Cert.KernelIdeal.nD) e k, A1 m c (ix2 e k) = WQ (ix2 e k) := fun c e k => congrFun (heq c).2.1 (ix2 e k)
  have hk : ∀ (c : Dev Cert.KernelIdeal.nD) (j : Fin 2048) (h : Fin 8) (d : Fin 128), A2 m c (ix4 (0 : Fin 1) j h d) = K (ix4 (0 : Fin 1) j (⟨8 * c.val + h.val, by have : c.val < 4 := c.isLt; omega⟩ : Fin 32) d) :=
    fun c j h d => (congrFun (heq c).2.2.1 (ix4 (0 : Fin 1) j h d)).trans (block_at K c j h d)
  have hv : ∀ (c : Dev Cert.KernelIdeal.nD) (j : Fin 2048) (h : Fin 8) (d : Fin 128), A3 m c (ix4 (0 : Fin 1) j h d) = V (ix4 (0 : Fin 1) j (⟨8 * c.val + h.val, by have : c.val < 4 := c.isLt; omega⟩ : Fin 32) d) :=
    fun c j h d => (congrFun (heq c).2.2.2.1 (ix4 (0 : Fin 1) j h d)).trans (block_at V c j h d)
  have ho : ∀ (c : Dev Cert.KernelIdeal.nD) k n, A4 m c (ix2 k n) = WO (ix2 k n) := fun c k n => congrFun (heq c).2.2.2.2 (ix2 k n)
  have hf := fun c : Dev Cert.KernelIdeal.nD => finite_parts _ _ _ _ _ (hpre c)
  have fx : ∀ i e, ∃ r : ℝ, X (ix3 (0 : Fin 1) i e) = (r : EReal) := fun i e => by rw [← hx 0]; exact (hf 0).1 _
  have fq : ∀ e k, ∃ r : ℝ, WQ (ix2 e k) = (r : EReal) := fun e k => by rw [← hq 0]; exact (hf 0).2.1 _
  have fk : ∀ (j : Fin 2048) (h : Fin 32) (d : Fin 128), ∃ r : ℝ, K (ix4 (0 : Fin 1) j h d) = (r : EReal) := fun j h d => by
    obtain ⟨r, hr⟩ := (hf (⟨h.val / 8, by have := h.isLt; omega⟩ : Fin 4)).2.2 (ix4 (0 : Fin 1) j (⟨h.val % 8, by omega⟩ : Fin 8) d)
    refine ⟨r, Eq.trans ?_ ((hk (⟨h.val / 8, by have := h.isLt; omega⟩ : Fin 4) j (⟨h.val % 8, by omega⟩ : Fin 8) d).symm.trans hr)⟩
    refine congrArg (fun z => K (ix4 (0 : Fin 1) j z d)) (Fin.ext ?_)
    show h.val = 8 * (h.val / 8) + h.val % 8
    omega
  choose xr fx using fx
  choose wr fq using fq
  choose kr fk using fk
  have W : Whole m X WQ K V WO xr wr kr := ⟨hx, hq, hk, hv, ho, fx, fq, fk⟩
  refine ⟨Cert.ReferenceIdeal.Own.rR X WQ K V WO, ?_, ?_⟩
  · exact (θ_run Cert.KernelIdeal.defs _ _).mono (fun _ h c => ⟨(h.1 c).1.trans (result_eq W c), (h.1 c).2⟩) (Cert.KernelIdeal.Own.run_all m g)
  · exact (θ_run Cert.ReferenceIdeal.defs _ _).mono (fun _ h => ⟨(h 0).1.trans (Cert.ReferenceIdeal.Own.res_stages m' 0), (h 0).2⟩) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Bits.Launch
public import proofs.«01_k».proof.Proof.Algebraic
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ =>
  (θ_run Cert.Kernel.defs _ _).mono (fun _ h => ⟨fun c => (h.1 c).2, h.2⟩) (Cert.Kernel.Own.run_all m ρ)

/-- The ideal kernel's frame. -/
theorem frame_ideal : Cert.quiescent_KernelIdeal := fun m ρ _ =>
  (θ_run Cert.KernelIdeal.defs _ _).mono (fun _ h => ⟨fun c => (h.1 c).2, h.2⟩) (Cert.KernelIdeal.Own.run_all m ρ)

/-- The ideal kernel's frame under the value claim's precondition. -/
theorem frame_ideal_pre : Cert.quiescent_KernelIdeal_pre_finite_scores_KernelIdeal (hPre_finite_scores_KernelIdeal := pre_kernel) := fun m ρ _ =>
  (θ_run Cert.KernelIdeal.defs _ _).mono (fun _ h => ⟨fun c => (h.1 c).2, h.2⟩) (Cert.KernelIdeal.Own.run_all m ρ)

/-- The reference's frame. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The reference's frame under the value claim's precondition. -/
theorem frame_reference_pre : Cert.quiescent_ReferenceIdeal_pre_finite_scores_ReferenceIdeal (hPre_finite_scores_ReferenceIdeal := pre_reference) := fun m ρ _ =>
  (θ_run Cert.ReferenceIdeal.defs _ _).mono (fun r h => ⟨fun c => (h c).2, sem_eq_zero_of_no_sems rfl r.2⟩)
    (Cert.ReferenceIdeal.Value.run m ρ)

/-- The two named constants. -/
theorem constants : Cert.preserves_Kernel_KernelIdeal :=
  ⟨IdealRules.named_const.statement Cert.KernelIdeal.κ "mask" .f32 0xCE6E6B28#32 ⊥ rfl,
   IdealRules.named_const.statement Cert.KernelIdeal.κ "s" .bf16 0x3DB5#16 (((Real.sqrt 128)⁻¹ : ℝ) : EReal) rfl⟩

theorem claim : Cert.Claim := ⟨Cert.Kernel.Gen.facts, Cert.KernelIdeal.Gen.facts, Cert.ReferenceIdeal.Gen.facts, pre_kernel, pre_reference,
  frame_kernel, frame_ideal, frame_ideal_pre, frame_reference, frame_reference_pre, constants, algebraic⟩

end Cert.Proof

end
